-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def preserves_Kernel_KernelIdeal : Prop :=
  IdealRules.named_const.Statement Cert.KernelIdeal.κ "dead" .f32 0xC2D20000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_v22) = v4 c
          ∧ r.2.mem ((c.tc : Thread Cert.Reference2Ideal.nD Cert.Reference2Ideal.τ).loc Cert.Reference2Ideal.main_v23) = v5 c
          ∧ r.2.mem ((c.tc : Thread Cert.Reference2Ideal.nD Cert.Reference2Ideal.τ).loc Cert.Reference2Ideal.main_v24) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S2x8320x512 : Shape := ⟨3, ![2, 8320, 512]⟩
abbrev S1x512 : Shape := ⟨2, ![1, 512]⟩
abbrev S2x8192x512 : Shape := ⟨3, ![2, 8192, 512]⟩
abbrev S1x128x512 : Shape := ⟨3, ![1, 128, 512]⟩
abbrev S1x8320x512 : Shape := ⟨3, ![1, 8320, 512]⟩
abbrev S8x128x128 : Shape := ⟨3, ![8, 128, 128]⟩
abbrev S128x512 : Shape := ⟨2, ![128, 512]⟩
abbrev S128x128 : Shape := ⟨2, ![128, 128]⟩
abbrev S128x256 : Shape := ⟨2, ![128, 256]⟩
abbrev S256x128 : Shape := ⟨2, ![256, 128]⟩
abbrev S1024x128 : Shape := ⟨2, ![1024, 128]⟩
abbrev S1x128x128 : Shape := ⟨3, ![1, 128, 128]⟩
abbrev S1024x256 : Shape := ⟨2, ![1024, 256]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S2x8320x512, .bf16⟩
  | .hbm, ⟨1, _⟩ => ⟨S2x8320x512, .bf16⟩
  | .hbm, ⟨2, _⟩ => ⟨S2x8320x512, .bf16⟩
  | .hbm, ⟨3, _⟩ => ⟨S1x512, .f32⟩
  | .hbm, ⟨4, _⟩ => ⟨S2x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x8320x512, .bf16⟩
  | .local _ .vmem, ⟨3, _⟩ => ⟨S1x8320x512, .bf16⟩
  | .local _ .vmem, ⟨4, _⟩ => ⟨S1x512, .f32⟩
  | .local _ .vmem, ⟨5, _⟩ => ⟨S1x128x512, .f32⟩
  | .local _ .vmem, ⟨6, _⟩ => ⟨S1x128x512, .f32⟩
  | .local _ .vmem, ⟨7, _⟩ => ⟨S8x128x128, .f32⟩
  | .local _ .vmem, ⟨8, _⟩ => ⟨S128x512, .f32⟩
  | _, _ => ⟨S2x8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c1_i32 : BitVec 32 := 1#32
  let v0 : BitVec 32 := Scalar.addi arg1 c1_i32
  let c128_i32_14 : BitVec 32 := 128#32
  let v59 : BitVec 32 := Scalar.muli v0 c128_i32_14
  v59
def k0_off1 (i : grid0.Coords) : Fin 3 → Nat :=
  let c0_15 : Index := 0#32
  let arg1 : BitVec 32 := BitVec.ofNat 32 (i 1).val
  let c1_i32 : BitVec 32 := 1#32
  let v0 : BitVec 32 := Scalar.addi arg1 c1_i32
  let c128_i32_14 : BitVec 32 := 128#32
  let v59 : BitVec 32 := Scalar.muli v0 c128_i32_14
  let v60 : BitVec 32 := v59
  let v62 : Index := Scalar.indexCast v60
  let c0_16 : Index := 0#32
  ![0, v62.toNat, 0]
def k0_mult2 (arg9 : BitVec 32) : BitVec 32 :=
  let c128_i32_126 : BitVec 32 := 128#32
  let v332 : BitVec 32 := Scalar.muli arg9 c128_i32_126
  v332

def k0_off2 (arg9 : BitVec 32) : Fin 3 → Nat :=
  let c0_127 : Index := 0#32
  let c128_i32_126 : BitVec 32 := 128#32
  let v332 : BitVec 32 := Scalar.muli arg9 c128_i32_126
  let v333 : BitVec 32 := v332
  let v338 : Index := Scalar.indexCast v333
  let c0_128 : Index := 0#32
  ![0, v338.toNat, 0]

def k0_chk1 (arg9 : BitVec 32) : Prop :=
  (128 ∣ (k0_mult2 arg9).toNat) ∧
  (∀ a, (k0_off2 arg9) a + S1x128x512.size a ≤ S1x8320x512.size a)
theorem k0_mult2_dvd : ∀ (arg9 : BitVec 32) (k0_hw1 : k0_chk1 arg9), 128 ∣ (k0_mult2 arg9).toNat := fun arg9 k0_hw1 => k0_hw1.1
theorem k0_off2_inb : ∀ (arg9 : BitVec 32) (k0_hw1 : k0_chk1 arg9), ∀ a, (k0_off2 arg9) a + S1x128x512.size a ≤ S1x8320x512.size a := fun arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8320x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8320x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S2x8320x512 : Shape := ⟨3, ![2, 8320, 512]⟩
abbrev S1x512 : Shape := ⟨2, ![1, 512]⟩
abbrev S2x8320x8x64 : Shape := ⟨4, ![2, 8320, 8, 64]⟩
abbrev S2x8x8320x64 : Shape := ⟨4, ![2, 8, 8320, 64]⟩
abbrev S_ : Shape := ⟨0, ![]⟩
abbrev S8320 : Shape := ⟨1, ![8320]⟩
abbrev S2x8x8320x8320 : Shape := ⟨4, ![2, 8, 8320, 8320]⟩
abbrev S1x8320 : Shape := ⟨2, ![1, 8320]⟩
abbrev S8320x1 : Shape := ⟨2, ![8320, 1]⟩
abbrev S8320x8320 : Shape := ⟨2, ![8320, 8320]⟩
abbrev S2x8320x8 : Shape := ⟨3, ![2, 8320, 8]⟩
abbrev S2x8320x8x1 : Shape := ⟨4, ![2, 8320, 8, 1]⟩
abbrev S1x1x512 : Shape := ⟨3, ![1, 1, 512]⟩
abbrev S2x8192x512 : Shape := ⟨3, ![2, 8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S2x8320x512, .bf16⟩
  | .hbm, ⟨1, _⟩ => ⟨S2x8320x512, .bf16⟩
  | .hbm, ⟨2, _⟩ => ⟨S2x8320x512, .bf16⟩
  | .hbm, ⟨3, _⟩ => ⟨S1x512, .f32⟩
  | .hbm, ⟨4, _⟩ => ⟨S2x8320x512, .f32⟩
  | .hbm, ⟨5, _⟩ => ⟨S2x8320x8x64, .f32⟩
  | .hbm, ⟨6, _⟩ => ⟨S2x8x8320x64, .f32⟩
  | .hbm, ⟨7, _⟩ => ⟨S_, .f32⟩
  | .hbm, ⟨8, _⟩ => ⟨S2x8x8320x64, .f32⟩
  | .hbm, ⟨9, _⟩ => ⟨S2x8x8320x64, .f32⟩
  | .hbm, ⟨10, _⟩ => ⟨S2x8320x512, .f32⟩
  | .hbm, ⟨11, _⟩ => ⟨S2x8320x8x64, .f32⟩
  | .hbm, ⟨12, _⟩ => ⟨S2x8x8320x64, .f32⟩
  | .hbm, ⟨13, _⟩ => ⟨S2x8320x512, .f32⟩
  | .hbm, ⟨14, _⟩ => ⟨S2x8320x8x64, .f32⟩
  | .hbm, ⟨15, _⟩ => ⟨S2x8x8320x64, .f32⟩
  | .hbm, ⟨16, _⟩ => ⟨S8320, .i32⟩
  | .hbm, ⟨17, _⟩ => ⟨S2x8x8320x8320, .f32⟩
  | .hbm, ⟨18, _⟩ => ⟨S1x8320, .i32⟩
  | .hbm, ⟨19, _⟩ => ⟨S8320x1, .i32⟩
  | .hbm, ⟨20, _⟩ => ⟨S8320x8320, .i32⟩
  | .hbm, ⟨21, _⟩ => ⟨S8320x8320, .i32⟩
  | .hbm, ⟨22, _⟩ => ⟨S8320x8320, .i1⟩
  | .hbm, ⟨23, _⟩ => ⟨S_, .i32⟩
  | .hbm, ⟨24, _⟩ => ⟨S8320, .i32⟩
  | .hbm, ⟨25, _⟩ => ⟨S8320, .i1⟩
  | .hbm, ⟨26, _⟩ => ⟨S1x8320, .i1⟩
  | .hbm, ⟨27, _⟩ => ⟨S8320x8320, .i1⟩
  | .hbm, ⟨28, _⟩ => ⟨S8320x8320, .i1⟩
  | .hbm, ⟨29, _⟩ => ⟨S2x8x8320x8320, .f32⟩
  | .hbm, ⟨30, _⟩ => ⟨S2x8x8320x8320, .f32⟩
  | .hbm, ⟨31, _⟩ => ⟨S_, .f32⟩
  | .hbm, ⟨32, _⟩ => ⟨S2x8x8320x8320, .f32⟩
  | .hbm, ⟨33, _⟩ => ⟨S2x8x8320x8320, .f32⟩
  | .hbm, ⟨34, _⟩ => ⟨S2x8x8320x8320, .f32⟩
  | .hbm, ⟨35, _⟩ => ⟨S2x8x8320x8320, .f32⟩
  | .hbm, ⟨36, _⟩ => ⟨S2x8x8320x8320, .i1⟩
  | .hbm, ⟨37, _⟩ => ⟨S2x8x8320x8320, .f32⟩
  | .hbm, ⟨38, _⟩ => ⟨S2x8x8320x8320, .f32⟩
  | .hbm, ⟨39, _⟩ => ⟨S2x8x8320x8320, .f32⟩
  | .hbm, ⟨40, _⟩ => ⟨S2x8x8320x8320, .f32⟩
  | .hbm, ⟨41, _⟩ => ⟨S2x8x8320x8320, .f32⟩
  | .hbm, ⟨42, _⟩ => ⟨S2x8x8320x8320, .f32⟩
  | .hbm, ⟨43, _⟩ => ⟨S2x8x8320x8320, .f32⟩
  | .hbm, ⟨44, _⟩ => ⟨S2x8x8320x8320, .f32⟩
  | .hbm, ⟨45, _⟩ => ⟨S2x8x8320x8320, .f32⟩
  | .hbm, ⟨46, _⟩ => ⟨S_, .f32⟩
  | .hbm, ⟨47, _⟩ => ⟨S_, .f32⟩
  | .hbm, ⟨48, _⟩ => ⟨S2x8x8320x8320, .i1⟩
  | .hbm, ⟨49, _⟩ => ⟨S2x8x8320x8320, .f32⟩
  | .hbm, ⟨50, _⟩ => ⟨S2x8x8320x8320, .f32⟩
  | .hbm, ⟨51, _⟩ => ⟨S_, .f32⟩
  | .hbm, ⟨52, _⟩ => ⟨S_, .f32⟩
  | .hbm, ⟨53, _⟩ => ⟨S2x8x8320x8320, .f32⟩
  | .hbm, ⟨54, _⟩ => ⟨S2x8x8320x8320, .f32⟩
  | .hbm, ⟨55, _⟩ => ⟨S2x8x8320x8320, .f32⟩
  | .hbm, ⟨56, _⟩ => ⟨S_, .f32⟩
  | .hbm, ⟨57, _⟩ => ⟨S2x8x8320x8320, .f32⟩
  | .hbm, ⟨58, _⟩ => ⟨S2x8x8320x8320, .f32⟩
  | .hbm, ⟨59, _⟩ => ⟨S2x8x8320x8320, .f32⟩
  | .hbm, ⟨60, _⟩ => ⟨S2x8x8320x8320, .f32⟩
  | .hbm, ⟨61, _⟩ => ⟨S2x8x8320x8320, .i1⟩
  | .hbm, ⟨62, _⟩ => ⟨S2x8x8320x8320, .f32⟩
  | .hbm, ⟨63, _⟩ => ⟨S2x8x8320x8320, .f32⟩
  | .hbm, ⟨64, _⟩ => ⟨S2x8x8320x8320, .f32⟩
  | .hbm, ⟨65, _⟩ => ⟨S2x8x8320x8320, .f32⟩
  | .hbm, ⟨66, _⟩ => ⟨S2x8x8320x8320, .f32⟩
  | .hbm, ⟨67, _⟩ => ⟨S2x8x8320x8320, .f32⟩
  | .hbm, ⟨68, _⟩ => ⟨S2x8x8320x8320, .f32⟩
  | .hbm, ⟨69, _⟩ => ⟨S2x8x8320x8320, .f32⟩
  | .hbm, ⟨70, _⟩ => ⟨S2x8x8320x8320, .f32⟩
  | .hbm, ⟨71, _⟩ => ⟨S2x8x8320x8320, .f32⟩
  | .hbm, ⟨72, _⟩ => ⟨S2x8x8320x8320, .f32⟩
  | .hbm, ⟨73, _⟩ => ⟨S_, .f32⟩
  | .hbm, ⟨74, _⟩ => ⟨S_, .f32⟩
  | .hbm, ⟨75, _⟩ => ⟨S2x8x8320x8320, .i1⟩
  | .hbm, ⟨76, _⟩ => ⟨S2x8x8320x8320, .f32⟩
  | .hbm, ⟨77, _⟩ => ⟨S2x8x8320x8320, .f32⟩
  | .hbm, ⟨78, _⟩ => ⟨S2x8x8320x64, .f32⟩
  | .hbm, ⟨79, _⟩ => ⟨S2x8320x8x64, .f32⟩
  | .hbm, ⟨80, _⟩ => ⟨S2x8320x8x64, .f32⟩
  | .hbm, ⟨81, _⟩ => ⟨S_, .f32⟩
  | .hbm, ⟨82, _⟩ => ⟨S2x8320x8, .f32⟩
  | .hbm, ⟨83, _⟩ => ⟨S2x8320x8x1, .f32⟩
  | .hbm, ⟨84, _⟩ => ⟨S_, .f32⟩
  | .hbm, ⟨85, _⟩ => ⟨S2x8320x8x1, .f32⟩
  | .hbm, ⟨86, _⟩ => ⟨S2x8320x8x1, .f32⟩
  | .hbm, ⟨87, _⟩ => ⟨S_, .f32⟩
  | .hbm, ⟨88, _⟩ => ⟨S2x8320x8x1, .f32⟩
  | .hbm, ⟨89, _⟩ => ⟨S2x8320x8x1, .f32⟩
  | .hbm, ⟨90, _⟩ => ⟨S2x8320x8x1, .f32⟩
  | .hbm, ⟨91, _⟩ => ⟨S2x8320x8x64, .f32⟩
  | .hbm, ⟨92, _⟩ => ⟨S2x8320x8x64, .f32⟩
  | .hbm, ⟨93, _⟩ => ⟨S2x8320x512, .f32⟩
  | .hbm, ⟨94, _⟩ => ⟨S1x1x512, .f32⟩
  | .hbm, ⟨95, _⟩ => ⟨S2x8320x512, .f32⟩
  | .hbm, ⟨96, _⟩ => ⟨S2x8320x512, .f32⟩
  | .hbm, ⟨97, _⟩ => ⟨S2x8192x512, .f32⟩
  | _, _ => ⟨S2x8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v24 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_call2_cst : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_2 : Ref sig .tc := ⟨.hbm, 81, rfl⟩
abbrev main_v35 : Ref sig .tc := ⟨.hbm, 82, rfl⟩
abbrev main_v36 : Ref sig .tc := ⟨.hbm, 83, rfl⟩
abbrev main_cst_3 : Ref sig .tc := ⟨.hbm, 84, rfl⟩
abbrev main_v37 : Ref sig .tc := ⟨.hbm, 85, rfl⟩
abbrev main_v38 : Ref sig .tc := ⟨.hbm, 86, rfl⟩
abbrev main_cst_4 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩

abbrev nD : Nat := 1
abbrev τ : Topo := Topo.v7x

variable {F : FTy → Type} [FloatOps F]
-- ==== Kernel2.lean ====
abbrev S16640x1024 : Shape := ⟨2, ![16640, 1024]⟩
abbrev S1x1024 : Shape := ⟨2, ![1, 1024]⟩
abbrev S1024x3072 : Shape := ⟨2, ![1024, 3072]⟩
abbrev S1024x128 : Shape := ⟨2, ![1024, 128]⟩
abbrev S16640x512 : Shape := ⟨2, ![16640, 512]⟩
abbrev S16640x128 : Shape := ⟨2, ![16640, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩

abbrev nBuf : Space → Nat
  | .hbm => 11
  | .vmem => 19
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S16640x512, .f32⟩
  | .hbm, ⟨5, _⟩ => ⟨S16640x512, .f32⟩
  | .hbm, ⟨6, _⟩ => ⟨S16640x512, .f32⟩
  | .hbm, ⟨7, _⟩ => ⟨S16640x128, .f32⟩
  | .hbm, ⟨8, _⟩ => ⟨S16640x512, .bf16⟩
  | .hbm, ⟨9, _⟩ => ⟨S16640x512, .bf16⟩
  | .hbm, ⟨10, _⟩ => ⟨S16640x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S256x128, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16640x1024 : Shape := ⟨2, ![16640, 1024]⟩
abbrev S1x1024 : Shape := ⟨2, ![1, 1024]⟩
abbrev S1024x3072 : Shape := ⟨2, ![1024, 3072]⟩
abbrev S1024x128 : Shape := ⟨2, ![1024, 128]⟩
abbrev S_ : Shape := ⟨0, ![]⟩
abbrev S16640 : Shape := ⟨1, ![16640]⟩
abbrev S16640x1 : Shape := ⟨2, ![16640, 1]⟩
abbrev S16640x3072 : Shape := ⟨2, ![16640, 3072]⟩
abbrev S16640x512 : Shape := ⟨2, ![16640, 512]⟩
abbrev S16640x128 : Shape := ⟨2, ![16640, 128]⟩

abbrev nBuf : Space → Nat
  | .hbm => 32
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S16640x1024, .f32⟩
  | .hbm, ⟨5, _⟩ => ⟨S_, .f32⟩
  | .hbm, ⟨6, _⟩ => ⟨S16640, .f32⟩
  | .hbm, ⟨7, _⟩ => ⟨S16640x1, .f32⟩
  | .hbm, ⟨8, _⟩ => ⟨S_, .f32⟩
  | .hbm, ⟨9, _⟩ => ⟨S16640x1, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S16640x1024, .f32⟩
  | .hbm, ⟨19, _⟩ => ⟨S1024x3072, .f32⟩
  | .hbm, ⟨20, _⟩ => ⟨S16640x3072, .f32⟩
  | .hbm, ⟨21, _⟩ => ⟨S16640x512, .f32⟩
  | .hbm, ⟨22, _⟩ => ⟨S16640x512, .f32⟩
  | .hbm, ⟨23, _⟩ => ⟨S16640x512, .f32⟩
  | .hbm, ⟨24, _⟩ => ⟨S16640x512, .f32⟩
  | .hbm, ⟨25, _⟩ => ⟨S16640x512, .f32⟩
  | .hbm, ⟨26, _⟩ => ⟨S16640x512, .f32⟩
  | .hbm, ⟨27, _⟩ => ⟨S1024x128, .f32⟩
  | .hbm, ⟨28, _⟩ => ⟨S16640x128, .f32⟩
  | .hbm, ⟨29, _⟩ => ⟨S16640x512, .bf16⟩
  | .hbm, ⟨30, _⟩ => ⟨S16640x512, .bf16⟩
  | .hbm, ⟨31, _⟩ => ⟨S16640x512, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S512x1024 : Shape := ⟨2, ![512, 1024]⟩
abbrev S1x1024 : Shape := ⟨2, ![1, 1024]⟩
abbrev S1024x16384 : Shape := ⟨2, ![1024, 16384]⟩
abbrev S1x512x1024 : Shape := ⟨3, ![1, 512, 1024]⟩
abbrev S1x512x512 : Shape := ⟨3, ![1, 512, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512x1024, .bf16⟩
  | .hbm, ⟨4, _⟩ => ⟨S512x1024, .bf16⟩
  | .hbm, ⟨5, _⟩ => ⟨S1x1024, .f32⟩
  | .hbm, ⟨6, _⟩ => ⟨S2x8192x1024, .f32⟩
  | .hbm, ⟨7, _⟩ => ⟨S1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1024x512, .bf16⟩
  | .local _ .vmem, ⟨12, _⟩ => ⟨S1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S1024x16384 : Shape := ⟨2, ![1024, 16384]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512x1024, .bf16⟩
  | .hbm, ⟨4, _⟩ => ⟨S512x1024, .bf16⟩
  | .hbm, ⟨5, _⟩ => ⟨S1x1024, .f32⟩
  | .hbm, ⟨6, _⟩ => ⟨S2x8192x1024, .f32⟩
  | .hbm, ⟨7, _⟩ => ⟨S1024x1024, .bf16⟩
  | .hbm, ⟨8, _⟩ => ⟨S1024x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S16384x1024, .f32⟩
  | .hbm, ⟨28, _⟩ => ⟨S1024x16384, .f32⟩
  | .hbm, ⟨29, _⟩ => ⟨S1024x16384, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S1024x16384 : Shape := ⟨2, ![1024, 16384]⟩
abbrev S16384x1024 : Shape := ⟨2, ![16384, 1024]⟩
abbrev S8x128x16384 : Shape := ⟨3, ![8, 128, 16384]⟩
abbrev S8x1x16384 : Shape := ⟨3, ![8, 1, 16384]⟩
abbrev S1x1024 : Shape := ⟨2, ![1, 1024]⟩
abbrev S1024x512 : Shape := ⟨2, ![1024, 512]⟩
abbrev S2048x1024 : Shape := ⟨2, ![2048, 1024]⟩
abbrev S8x16x512 : Shape := ⟨3, ![8, 16, 512]⟩
abbrev S8x128x512 : Shape := ⟨3, ![8, 128, 512]⟩
abbrev S8x1x512 : Shape := ⟨3, ![8, 1, 512]⟩
abbrev S512x1024 : Shape := ⟨2, ![512, 1024]⟩
abbrev S2048x512 : Shape := ⟨2, ![2048, 512]⟩
abbrev S256x1024 : Shape := ⟨2, ![256, 1024]⟩
abbrev S1024x256 : Shape := ⟨2, ![1024, 256]⟩
abbrev S256x256 : Shape := ⟨2, ![256, 256]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S512x512 : Shape := ⟨2, ![512, 512]⟩
abbrev S256x512 : Shape := ⟨2, ![256, 512]⟩
abbrev S512 : Shape := ⟨1, ![512]⟩
abbrev S512x1 : Shape := ⟨2, ![512, 1]⟩

abbrev nBuf : Space → Nat
  | .hbm => 9
  | .vmem => 20
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S16384x1024, .bf16⟩
  | .hbm, ⟨3, _⟩ => ⟨S8x128x16384, .f32⟩
  | .hbm, ⟨4, _⟩ => ⟨S8x128x16384, .f32⟩
  | .hbm, ⟨5, _⟩ => ⟨S8x1x16384, .f32⟩
  | .hbm, ⟨6, _⟩ => ⟨S16384x1024, .f32⟩
  | .hbm, ⟨7, _⟩ => ⟨S1x1024, .f32⟩
  | .hbm, ⟨8, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x16x512, .f32⟩
  | .local _ .vmem, ⟨7, _⟩ => ⟨S8x16x512, .f32⟩
  | .local _ .vmem, ⟨8, _⟩ => ⟨S8x128x512, .f32⟩
  | .local _ .vmem, ⟨9, _⟩ => ⟨S8x128x512, .f32⟩
  | .local _ .vmem, ⟨10, _⟩ => ⟨S8x1x512, .f32⟩
  | .local _ .vmem, ⟨11, _⟩ => ⟨S8x1x512, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S2048x512, .f32⟩
  | .local _ .vmem, ⟨19, _⟩ => ⟨S2048x512, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v7843 : BitVec 1 := Scalar.cmpi .eq arg1 c7_i32
  let v7844 : BitVec 32 := Scalar.extui v7843
  let c0_i32_5649 : BitVec 32 := 0#32
  let v7845 : BitVec 1 := Scalar.cmpi .ne v7844 c0_i32_5649
  v7845

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S1024x16384 : Shape := ⟨2, ![1024, 16384]⟩
abbrev S16384x1024 : Shape := ⟨2, ![16384, 1024]⟩
abbrev S8x128x16384 : Shape := ⟨3, ![8, 128, 16384]⟩
abbrev S8x1x16384 : Shape := ⟨3, ![8, 1, 16384]⟩
abbrev S1x1024 : Shape := ⟨2, ![1, 1024]⟩
abbrev S16384x16384 : Shape := ⟨2, ![16384, 16384]⟩
abbrev S_ : Shape := ⟨0, ![]⟩
abbrev S8x128x1x16384 : Shape := ⟨4, ![8, 128, 1, 16384]⟩
abbrev S8x1x128x16384 : Shape := ⟨4, ![8, 1, 128, 16384]⟩
abbrev S8x128x128x16384 : Shape := ⟨4, ![8, 128, 128, 16384]⟩
abbrev S8x1x1x16384 : Shape := ⟨4, ![8, 1, 1, 16384]⟩
abbrev S128x128x16384 : Shape := ⟨3, ![128, 128, 16384]⟩
abbrev S16384 : Shape := ⟨1, ![16384]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S16384x1024, .bf16⟩
  | .hbm, ⟨3, _⟩ => ⟨S8x128x16384, .f32⟩
  | .hbm, ⟨4, _⟩ => ⟨S8x128x16384, .f32⟩
  | .hbm, ⟨5, _⟩ => ⟨S8x1x16384, .f32⟩
  | .hbm, ⟨6, _⟩ => ⟨S16384x1024, .f32⟩
  | .hbm, ⟨7, _⟩ => ⟨S1x1024, .f32⟩
  | .hbm, ⟨8, _⟩ => ⟨S1024x16384, .f32⟩
  | .hbm, ⟨9, _⟩ => ⟨S16384x1024, .f32⟩
  | .hbm, ⟨10, _⟩ => ⟨S16384x1024, .f32⟩
  | .hbm, ⟨11, _⟩ => ⟨S1024x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S8x128x1x16384, .f32⟩
  | .hbm, ⟨25, _⟩ => ⟨S8x1x128x16384, .f32⟩
  | .hbm, ⟨26, _⟩ => ⟨S8x128x128x16384, .f32⟩
  | .hbm, ⟨27, _⟩ => ⟨S8x128x128x16384, .f32⟩
  | .hbm, ⟨28, _⟩ => ⟨S8x128x128x16384, .f32⟩
  | .hbm, ⟨29, _⟩ => ⟨S8x1x1x16384, .f32⟩
  | .hbm, ⟨30, _⟩ => ⟨S8x128x128x16384, .f32⟩
  | .hbm, ⟨31, _⟩ => ⟨S8x128x128x16384, .i1⟩
  | .hbm, ⟨32, _⟩ => ⟨S_, .f32⟩
  | .hbm, ⟨33, _⟩ => ⟨S8x128x128x16384, .f32⟩
  | .hbm, ⟨34, _⟩ => ⟨S8x128x128x16384, .f32⟩
  | .hbm, ⟨35, _⟩ => ⟨S_, .f32⟩
  | .hbm, ⟨36, _⟩ => ⟨S_, .f32⟩
  | .hbm, ⟨37, _⟩ => ⟨S8x128x128x16384, .f32⟩
  | .hbm, ⟨38, _⟩ => ⟨S8x128x128x16384, .f32⟩
  | .hbm, ⟨39, _⟩ => ⟨S_, .f32⟩
  | .hbm, ⟨40, _⟩ => ⟨S128x128x16384, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel5.lean ====
abbrev S2x8320x512 : Shape := ⟨3, ![2, 8320, 512]⟩
abbrev S2x8320x128 : Shape := ⟨3, ![2, 8320, 128]⟩
abbrev S2x128x8320 : Shape := ⟨3, ![2, 128, 8320]⟩
abbrev S4x512 : Shape := ⟨2, ![4, 512]⟩
abbrev S1x512 : Shape := ⟨2, ![1, 512]⟩
abbrev S512x512 : Shape := ⟨2, ![512, 512]⟩
abbrev S1x128 : Shape := ⟨2, ![1, 128]⟩
abbrev S128x1 : Shape := ⟨2, ![128, 1]⟩
abbrev S2x8192x512 : Shape := ⟨3, ![2, 8192, 512]⟩
abbrev S1x128x512 : Shape := ⟨3, ![1, 128, 512]⟩
abbrev S1x128x128 : Shape := ⟨3, ![1, 128, 128]⟩
abbrev S4x128x128 : Shape := ⟨3, ![4, 128, 128]⟩
abbrev S4x1x128 : Shape := ⟨3, ![4, 1, 128]⟩
abbrev S4x1x1 : Shape := ⟨3, ![4, 1, 1]⟩
abbrev S8x512 : Shape := ⟨2, ![8, 512]⟩
abbrev S128x512 : Shape := ⟨2, ![128, 512]⟩
abbrev S136x512 : Shape := ⟨2, ![136, 512]⟩
abbrev S128x128 : Shape := ⟨2, ![128, 128]⟩
abbrev S512x128 : Shape := ⟨2, ![512, 128]⟩
abbrev S8x128 : Shape := ⟨2, ![8, 128]⟩
abbrev S1x1x1 : Shape := ⟨3, ![1, 1, 1]⟩
abbrev S1x1 : Shape := ⟨2, ![1, 1]⟩
abbrev S1x1x128 : Shape := ⟨3, ![1, 1, 128]⟩
abbrev S128 : Shape := ⟨1, ![128]⟩
abbrev S1 : Shape := ⟨1, ![1]⟩

abbrev nBuf : Space → Nat
  | .hbm => 14
  | .vmem => 24
  | .smem => 0
  | _ => 0

abbrev bufTy : (tb : Table) → Fin (tcTables nBuf tb) → BufTy
  | .hbm, ⟨0, _⟩ => ⟨S2x8320x512, .f32⟩
  | .hbm, ⟨1, _⟩ => ⟨S2x8320x512, .f32⟩
  | .hbm, ⟨2, _⟩ => ⟨S2x8320x512, .f32⟩
  | .hbm, ⟨3, _⟩ => ⟨S2x8320x128, .f32⟩
  | .hbm, ⟨4, _⟩ => ⟨S2x128x8320, .f32⟩
  | .hbm, ⟨5, _⟩ => ⟨S4x512, .f32⟩
  | .hbm, ⟨6, _⟩ => ⟨S1x512, .f32⟩
  | .hbm, ⟨7, _⟩ => ⟨S512x512, .bf16⟩
  | .hbm, ⟨8, _⟩ => ⟨S512x512, .bf16⟩
  | .hbm, ⟨9, _⟩ => ⟨S1x128, .f32⟩
  | .hbm, ⟨10, _⟩ => ⟨S1x512, .f32⟩
  | .hbm, ⟨11, _⟩ => ⟨S1x512, .f32⟩
  | .hbm, ⟨12, _⟩ => ⟨S128x1, .f32⟩
  | .hbm, ⟨13, _⟩ => ⟨S2x8192x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S4x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1x128, .f32⟩
  | .local _ .vmem, ⟨15, _⟩ => ⟨S128x1, .f32⟩
  | .local _ .vmem, ⟨16, _⟩ => ⟨S1x512, .f32⟩
  | .local _ .vmem, ⟨17, _⟩ => ⟨S1x512, .f32⟩
  | .local _ .vmem, ⟨18, _⟩ => ⟨S1x128x512, .f32⟩
  | .local _ .vmem, ⟨19, _⟩ => ⟨S1x128x512, .f32⟩
  | .local _ .vmem, ⟨20, _⟩ => ⟨S4x128x128, .f32⟩
  | .local _ .vmem, ⟨21, _⟩ => ⟨S4x1x128, .f32⟩
  | .local _ .vmem, ⟨22, _⟩ => ⟨S4x1x1, .f32⟩
  | .local _ .vmem, ⟨23, _⟩ => ⟨S8x512, .f32⟩
  | _, _ => ⟨S2x8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.Own.lean ====
/-
  Memory read as vectors: a load and a store through a rectangle of a memref that is owned at a vector, stated on
  that vector alone. `ld r X` is what a load of `r` reads, `put r w X` is the vector after `w` is stored over `r`.
-/
module

public import Idealize.ShloMosaic.Lib.Memref
public import Idealize.ShloMosaic.Rules.Step

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- What a load of the rectangle `r` reads of the vector `X`. -/
def ld {α : Type} {s : Shape} (r : LoadRect s) (X : s.Idx → α) : r.shape.Idx → α := fun x => X (r.idx x)

/-- The vector `X` with `w` stored over the rectangle `r`. -/
def put {α : Type} {s : Shape} (r : Rect s) (w : r.shape.Idx → α) (X : s.Idx → α) : s.Idx → α := fun i =>
  match preimage? r.emb i with
  | some x => w x
  | none => X i

/-- Inside the rectangle the stored value is found, -/
theorem put_emb {α : Type} {s : Shape} (r : Rect s) (w : r.shape.Idx → α) (X : s.Idx → α) (x : r.shape.Idx) :
    put r w X (r.emb x) = w x := by
  unfold put; rw [preimage?_emb]

/-- outside it the old one. -/
theorem put_of_ne {α : Type} {s : Shape} (r : Rect s) (w : r.shape.Idx → α) (X : s.Idx → α) (i : s.Idx)
    (h : ∀ x, r.emb x ≠ i) : put r w X i = X i := by
  unfold put; rw [preimage?_eq_none h]

/-- A unit-stride rectangle's stored value, found at an index by its position in the rectangle; -/
theorem put_unit_in {α : Type} {s : Shape} {off size : Fin s.rank → ℕ} (inb : ∀ a, off a + size a ≤ s.size a)
    (w : (Rect.unit off size inb).shape.Idx → α) (X : s.Idx → α) (i : s.Idx) (x : (Rect.unit off size inb).shape.Idx)
    (hx : ∀ a, (i a).val = off a + (x a).val) : put (Rect.unit off size inb) w X i = w x := by
  have hi : (Rect.unit off size inb).emb x = i := funext fun a => Fin.ext (by
    show off a + 1 * (x a).val = (i a).val
    rw [hx a, Nat.one_mul])
  rw [← hi, put_emb]

/-- and the old value at an index that lies outside on some axis. -/
theorem put_unit_out {α : Type} {s : Shape} {off size : Fin s.rank → ℕ} (inb : ∀ a, off a + size a ≤ s.size a)
    (w : (Rect.unit off size inb).shape.Idx → α) (X : s.Idx → α) (i : s.Idx) (a : Fin s.rank)
    (ha : (i a).val < off a ∨ off a + size a ≤ (i a).val) : put (Rect.unit off size inb) w X i = X i := by
  refine put_of_ne _ w X i fun x hx => ?_
  have h1 : (i a).val = off a + 1 * (x a).val := by rw [← hx]; rfl
  have h2 : (x a).val < size a := (x a).isLt
  omega

/-- Inside a stored rectangle the old vector does not matter. -/
theorem put_unit_same {α : Type} {s : Shape} {off size : Fin s.rank → ℕ} (inb : ∀ a, off a + size a ≤ s.size a)
    (w : (Rect.unit off size inb).shape.Idx → α) (X X' : s.Idx → α) (i : s.Idx)
    (h : ∀ a, off a ≤ (i a).val ∧ (i a).val < off a + size a) :
    put (Rect.unit off size inb) w X i = put (Rect.unit off size inb) w X' i := by
  have hx : ∀ a, (i a).val = off a + ((fun a => ⟨(i a).val - off a, by have := h a; show _ < size a; omega⟩ :
      (Rect.unit off size inb).shape.Idx) a).val := fun a => by
    have := h a
    show (i a).val = off a + ((i a).val - off a)
    omega
  exact (put_unit_in inb w X i _ hx).trans (put_unit_in inb w X' i _ hx).symm

/-- What a load of a unit-stride rectangle reads at a position, found by the index it stands for. -/
theorem ld_unit {α : Type} {s : Shape} {off size : Fin s.rank → ℕ} (inb : ∀ a, off a + size a ≤ s.size a)
    (X : s.Idx → α) (x : (Rect.unit off size inb).shape.Idx) (i : s.Idx) (hx : ∀ a, (i a).val = off a + (x a).val) :
    ld (Rect.unit off size inb).toLoadRect X x = X i :=
  congrArg X (funext fun a => Fin.ext (by
    show off a + 1 * (x a).val = (i a).val
    rw [hx a, Nat.one_mul]))

/-- Stores over two old vectors agree where the vectors agree. -/
theorem put_congr {α : Type} {s : Shape} (r : Rect s) (w : r.shape.Idx → α) {X X' : s.Idx → α} {i : s.Idx} (h : X i = X' i) :
    put r w X i = put r w X' i := by
  unfold put; split
  · rfl
  · exact h

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
variable {s : Shape} {e : EltTy}
variable {α : Type} {Q : α → sProp (MT nD τ sig Ix Val Name U Lvl)}

/-- Reading a memref through its view after a store through one of its rectangles is `put`. -/
theorem read_write_put {κ : Kind} {sp : Space} (m : Memref sig κ sp s e) (r : Rect s) (f : m.view.ty.Contents Val)
    (w : r.shape.Idx → Val e) :
    m.view.read Val ((m.access r).write Val f w Finset.univ) = put r w (m.view.read Val f) := by
  funext i
  by_cases h : ∃ x, r.emb x = i
  · obtain ⟨x, rfl⟩ := h
    rw [put_emb]
    exact View.read_slice_write_emb (v := m.view) r f w (Finset.mem_univ x)
  · rw [put_of_ne r w _ i fun x hx => h ⟨x, hx⟩]
    refine View.read_slice_write_of_not_mem (v := m.view) r f w Finset.univ fun hm => ?_
    obtain ⟨x, -, hx⟩ := Finset.mem_map.mp hm
    exact h ⟨x, hx⟩

/-- A load from a memref owned at `X` reads `ld r X`. -/
theorem own_load (bd : Option 𝒱.V) (E : Set Name) {cs : CoreSpace} {m : Memref sig c.2.kind cs s e} {r : LoadRect s} {hl : m.view.LoadsAt r}
    {k : (r.shape.Idx → Val e) → Prog (TpuEff nD τ sig Val Λ c.2) α} {X : s.Idx → Val e} :
    (owns c m fullShare X : sProp (MT nD τ sig Ix Val Name U Lvl))
      ⊢ iprop((owns c m fullShare X -∗ wp frame (wpE defs 𝒱 c bd) E (k (ld r X)) Q)
        -∗ wp frame (wpE defs 𝒱 c bd) E (.op (.load m r hl) k) Q) := by
  unfold owns
  iintro ⟨%f, %hf, H⟩ Hk
  iapply (wp_load 𝒱 c bd E (m := m) (r := r) (hl := hl) (k := k) (f := f) (S := m.view.set) (View.setOn_subset_set _ _)) $$ H
  iintro H
  have hx : m.view.readAt Val r f = ld r X := by rw [← hf]; rfl
  rw [hx]
  iapply Hk
  iexists f
  isplitr
  · ipureintro; exact hf
  iexact H

/-- A store over a rectangle of a memref owned at `X` leaves it owned at `put r w X`. -/
theorem own_store (bd : Option 𝒱.V) (E : Set Name) {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (hx := hx) (hm := hm) (k := k) (f := f) (S := m.view.set)
    (by rw [View.setOn_univ]; exact View.set_slice_subset _ _)) $$ H
  iintro H
  iapply Hk
  iexists ((m.access r).write Val f w Finset.univ)
  isplitr
  · ipureintro; rw [read_write_put, hf]
  iexact H

end Rules

end Cert.Proof

end
-- ==== Proof.KI.Model.lean ====
/-
  What one grid point of the attention call computes, as functions of vectors: the diagonal block's step, one more
  block's step, the loop over the blocks, the normalised output.
-/
module

public import proofs.«01_k».proof.KernelIdeal
public import proofs.«01_k».proof.Proof.Gen.KernelIdeal
public import proofs.«01_k».proof.Proof.Gen.KernelIdeal.Skeleton
public import proofs.«01_k».proof.Proof.Own

@[expose] public section

set_option maxRecDepth 16384

noncomputable section

namespace Cert.Proof.KI

open Cert.KernelIdeal Cert.KernelIdeal.Gen
open Idealize.ShloMosaic

variable {F : FTy → Type} [FloatOps F] [Named F]

/-! ### The rectangles -/

abbrev rQ : Rect S1x128x512 := Rect.unit (s := S1x128x512) ![0, 0, 0] S1x128x512.size inb_S1x128x512_S1x128x512_0_0_0
abbrev rK1 (i : grid0.Coords) : Rect S1x8320x512 := Rect.unit (s := S1x8320x512) (k0_off1 i) S1x128x512.size (k0_off1_inb i)
abbrev rK2 (w : BitVec 32) (hw : k0_chk1 w) : Rect S1x8320x512 :=
  Rect.unit (s := S1x8320x512) (k0_off2 w) S1x128x512.size (k0_off2_inb w hw)
abbrev rR : Rect S8x128x128 := Rect.unit (s := S8x128x128) ![0, 0, 0] S8x128x128.size inb_S8x128x128_S8x128x128_0_0_0
abbrev rR0 : Rect S8x128x128 := Rect.unit (s := S8x128x128) ![0, 0, 0] S1x128x128.size inb_S8x128x128_S1x128x128_0_0_0
abbrev rR1 : Rect S8x128x128 := Rect.unit (s := S8x128x128) ![1, 0, 0] S1x128x128.size inb_S8x128x128_S1x128x128_1_0_0
abbrev rR2 : Rect S8x128x128 := Rect.unit (s := S8x128x128) ![2, 0, 0] S1x128x128.size inb_S8x128x128_S1x128x128_2_0_0
abbrev rR3 : Rect S8x128x128 := Rect.unit (s := S8x128x128) ![3, 0, 0] S1x128x128.size inb_S8x128x128_S1x128x128_3_0_0
abbrev rR4 : Rect S8x128x128 := Rect.unit (s := S8x128x128) ![4, 0, 0] S1x128x128.size inb_S8x128x128_S1x128x128_4_0_0
abbrev rR5 : Rect S8x128x128 := Rect.unit (s := S8x128x128) ![5, 0, 0] S1x128x128.size inb_S8x128x128_S1x128x128_5_0_0
abbrev rR6 : Rect S8x128x128 := Rect.unit (s := S8x128x128) ![6, 0, 0] S1x128x128.size inb_S8x128x128_S1x128x128_6_0_0
abbrev rR7 : Rect S8x128x128 := Rect.unit (s := S8x128x128) ![7, 0, 0] S1x128x128.size inb_S8x128x128_S1x128x128_7_0_0
abbrev rA0 : Rect S128x512 := Rect.unit (s := S128x512) ![0, 0] S128x128.size inb_S128x512_S128x128_0_0
abbrev rA1 : Rect S128x512 := Rect.unit (s := S128x512) ![0, 128] S128x128.size inb_S128x512_S128x128_0_128
abbrev rA2 : Rect S128x512 := Rect.unit (s := S128x512) ![0, 256] S128x128.size inb_S128x512_S128x128_0_256
abbrev rA3 : Rect S128x512 := Rect.unit (s := S128x512) ![0, 384] S128x128.size inb_S128x512_S128x128_0_384
abbrev rG0 : Rect S1x512 := Rect.unit (s := S1x512) ![0, 0] S1x128.size inb_S1x512_S1x128_0_0
abbrev rG1 : Rect S1x512 := Rect.unit (s := S1x512) ![0, 128] S1x128.size inb_S1x512_S1x128_0_128
abbrev rG2 : Rect S1x512 := Rect.unit (s := S1x512) ![0, 256] S1x128.size inb_S1x512_S1x128_0_256
abbrev rG3 : Rect S1x512 := Rect.unit (s := S1x512) ![0, 384] S1x128.size inb_S1x512_S1x128_0_384
abbrev rO0 : Rect S1x128x512 := Rect.unit (s := S1x128x512) ![0, 0, 0] S1x128x128.size inb_S1x128x512_S1x128x128_0_0_0
abbrev rO1 : Rect S1x128x512 := Rect.unit (s := S1x128x512) ![0, 0, 128] S1x128x128.size inb_S1x128x512_S1x128x128_0_0_128
abbrev rO2 : Rect S1x128x512 := Rect.unit (s := S1x128x512) ![0, 0, 256] S1x128x128.size inb_S1x128x512_S1x128x128_0_0_256
abbrev rO3 : Rect S1x128x512 := Rect.unit (s := S1x128x512) ![0, 0, 384] S1x128x128.size inb_S1x128x512_S1x128x128_0_0_384

/-! ### The block counter -/

/-- The word the block counter holds when `n` blocks are still to come: block `n - 1`, or minus one. -/
abbrev kbw (n : ℕ) : BitVec 32 := Scalar.subi (BitVec.ofNat 32 n) 1#32

/-- With a block to come its rows lie inside the keys, -/
theorem chk_kbw : ∀ n < 64, k0_chk1 (kbw (n + 1)) := by decide +kernel

/-- and the counter's test passes; -/
theorem sge_kbw : ∀ n < 64, Scalar.cmpi .sge (kbw (n + 1)) 0#32 = 1#1 := by decide +kernel

/-- with none to come it fails. -/
theorem sge_kbw_zero : Scalar.cmpi .sge (kbw 0) 0#32 = 0#1 := by decide

/-- The step takes the counter one block down. -/
theorem subi_kbw : ∀ n < 64, Scalar.subi (kbw (n + 1)) 1#32 = kbw n := by decide +kernel

/-- The counter's start: the point's query block, less one. -/
theorem start_kbw : ∀ n < 64, Scalar.addi (BitVec.ofNat 32 n) 1#32 = BitVec.ofNat 32 (n + 1) := by decide +kernel

/-! ### The queries as the matrix products take them -/

/-- The vectors that a point makes once: the lanes' parity, the two triangles, the column numbers, the four query pairs. -/
structure Once (F : FTy → Type) [FloatOps F] where
  odd : IVec S128x128 1
  tri : FVec F S128x256 .bf16
  col : IVec S128x128 32
  q0 : FVec F S256x128 .bf16
  q1 : FVec F S256x128 .bf16
  q2 : FVec F S256x128 .bf16
  q3 : FVec F S256x128 .bf16

/-- The row numbers and the column numbers of a block. -/
abbrev rowNo : IVec S128x128 32 := iota .tc S128x128 32 [0] iota_S128x128_d0_w32
abbrev colNo : IVec S128x128 32 := iota .tc S128x128 32 [1] iota_S128x128_d1_w32

/-- They, of the query block `qx`. -/
def once (qx : Vec F S1x128x512 .bf16) : Once F where
  odd := k0_pay2
  tri := k0_pay3
  col := colNo
  q0 := k0_pay11 (k0_pay5 qx) (k0_pay6 qx)
  q1 := k0_pay12 (k0_pay7 qx) (k0_pay8 qx)
  q2 := k0_pay13 k0_pay2 (k0_pay9 qx) (k0_pay10 qx)
  q3 := k0_pay14 k0_pay2 (k0_pay4 qx)

/-! ### The diagonal block -/

/-- The scores of the diagonal block, and the logarithms of one minus their weights before masking. -/
def dZ (qx kb : Vec F S1x128x512 .bf16) : FVec F S8x128x128 .f32 :=
  k0_pay17 k0_pay2 (k0_pay4 qx) (k0_pay5 qx) (k0_pay6 qx) (k0_pay7 qx) (k0_pay8 qx) (k0_pay9 qx) (k0_pay10 qx) kb
def dL (qx kb : Vec F S1x128x512 .bf16) : FVec F S8x128x128 .f32 :=
  k0_pay19 k0_pay2 (k0_pay4 qx) (k0_pay5 qx) (k0_pay6 qx) (k0_pay7 qx) (k0_pay8 qx) (k0_pay9 qx) (k0_pay10 qx) kb

/-- Its weights. -/
def dW (qx kb : Vec F S1x128x512 .bf16) : FVec F S8x128x128 .bf16 :=
  k0_pay22 k0_pay3 (k0_pay15 rowNo colNo) (dZ qx kb) (k0_pay18 rowNo colNo) (dL qx kb) (Scalar.ofBits .f32 0x00000000#32)

/-- The running sums after the diagonal block. -/
def dRun (qx kb : Vec F S1x128x512 .bf16) (R : Vec F S8x128x128 .f32) : Vec F S8x128x128 .f32 :=
  put rR (k0_pay23 k0_pay3 (k0_pay18 rowNo colNo) (dL qx kb) (Scalar.ofBits .f32 0x00000000#32)) R

/-- The accumulated values after the diagonal block. -/
def dAcc0 (qx kb vb : Vec F S1x128x512 .bf16) (A : Vec F S128x512 .f32) : Vec F S128x512 .f32 :=
  put rA0 (k0_pay24 k0_pay2 k0_pay3 (k0_pay15 rowNo colNo) (k0_pay16 vb) (dZ qx kb) (k0_pay18 rowNo colNo) (dL qx kb)
    (Scalar.ofBits .f32 0x00000000#32)) A
def dAcc (qx kb vb : Vec F S1x128x512 .bf16) (A : Vec F S128x512 .f32) : Vec F S128x512 .f32 :=
  put rA3 (k0_pay29 k0_pay2 (k0_pay16 vb) (dW qx kb))
    (put rA2 (k0_pay28 k0_pay2 (k0_pay16 vb) (dW qx kb))
      (put rA1 (k0_pay27 k0_pay2 (dW qx kb) (k0_pay25 (k0_pay16 vb)) k0_pay26) (dAcc0 qx kb vb A)))

/-! ### One more block -/

section Step

variable (o : Once F) (w : BitVec 32) (kb vb : Vec F S1x128x512 .bf16) (R : Vec F S8x128x128 .f32) (A : Vec F S128x512 .f32)

/-- The scores, the masked logarithms, the logarithms' low parts, their high parts' sums. -/
def sZ : FVec F S8x128x128 .f32 := k0_pay45 o.q0 o.q1 o.q2 o.q3 kb
def sL : FVec F S8x128x128 .f32 := k0_pay46 o.col o.q0 o.q1 o.q2 o.q3 w kb
def sLo : FVec F S1024x128 .bf16 := k0_pay49 o.col o.q0 o.q1 o.q2 o.q3 w kb
def sHi : FVec F S1024x256 .f32 := k0_pay50 o.col o.q0 o.q1 o.q2 o.q3 o.tri w kb

/-- The weights of the block. -/
def sW : FVec F S8x128x128 .bf16 :=
  k0_pay52 o.tri (k0_pay43 o.col w) (sZ o kb) (sL o w kb) (sLo o w kb) (sHi o w kb) (constant S1024x256 .f32 0x00000000#32) (ld rR.toLoadRect R)

/-- The running sums after the block. -/
def sRun : Vec F S8x128x128 .f32 :=
  put rR (k0_pay53 o.tri (sLo o w kb) (sHi o w kb) (constant S1024x256 .f32 0x00000000#32) (ld rR.toLoadRect R)) R

/-- The accumulated values after the block, columns 0 to 127 first. -/
def sAcc0 : Vec F S128x512 .f32 :=
  put rA0 (k0_pay54 o.tri o.odd (k0_pay43 o.col w) (k0_pay44 vb) (sZ o kb) (sL o w kb) (sLo o w kb) (sHi o w kb)
    (constant S1024x256 .f32 0x00000000#32) (ld rR.toLoadRect R) (ld rA0.toLoadRect A)) A
def sAcc1 : Vec F S128x512 .f32 :=
  put rA1 (k0_pay58 o.odd (sW o w kb R) (k0_pay55 (k0_pay44 vb)) k0_pay56 (k0_pay57 o.odd (k0_pay44 vb))
    (ld rA1.toLoadRect (sAcc0 o w kb vb R A))) (sAcc0 o w kb vb R A)
def sAcc2 : Vec F S128x512 .f32 :=
  put rA2 (k0_pay59 o.odd (k0_pay44 vb) (sW o w kb R) (ld rA2.toLoadRect (sAcc1 o w kb vb R A))) (sAcc1 o w kb vb R A)
def sAcc : Vec F S128x512 .f32 :=
  put rA3 (k0_pay61 (k0_pay60 o.odd (k0_pay44 vb) (sW o w kb R) (ld rA3.toLoadRect (sAcc2 o w kb vb R A)))) (sAcc2 o w kb vb R A)

end Step

/-- The threshold of the running sums. -/
def dead : F .f32 := Named.named κ "dead" 0xC2D20000#32

/-- Whether some running sum is still above the threshold. -/
def alive1 (R : Vec F S8x128x128 .f32) : BitVec 32 :=
  Scalar.extui (Scalar.cmpf .ogt (k0_pay30 (ld rR0.toLoadRect R) (ld rR1.toLoadRect R) (ld rR2.toLoadRect R) (ld rR3.toLoadRect R)
    (ld rR4.toLoadRect R) (ld rR5.toLoadRect R) (ld rR6.toLoadRect R) (ld rR7.toLoadRect R)) dead : BitVec 1)
def alive2 (R : Vec F S8x128x128 .f32) : BitVec 32 :=
  Scalar.extui (Scalar.cmpf .ogt (k0_pay62 (ld rR0.toLoadRect R) (ld rR1.toLoadRect R) (ld rR2.toLoadRect R) (ld rR3.toLoadRect R)
    (ld rR4.toLoadRect R) (ld rR5.toLoadRect R) (ld rR6.toLoadRect R) (ld rR7.toLoadRect R)) dead : BitVec 1)

/-! ### The loop over the blocks, last to first -/

/-- The running sums and the accumulated values after the loop with `n` blocks to come: it stops at block 0 and when
    the flag `go` is off. -/
def loop (o : Once F) (kx vx : Vec F S1x8320x512 .bf16) :
    ℕ → BitVec 32 → Vec F S8x128x128 .f32 → Vec F S128x512 .f32 → Vec F S8x128x128 .f32 × Vec F S128x512 .f32
  | 0, _, R, A => (R, A)
  | n + 1, go, R, A =>
    if Scalar.cmpi .sgt go 0#32 = 1#1 then
      if hw : k0_chk1 (kbw (n + 1)) then
        loop o kx vx n (alive2 (sRun o (kbw (n + 1)) (ld (rK2 (kbw (n + 1)) hw).toLoadRect kx) R))
          (sRun o (kbw (n + 1)) (ld (rK2 (kbw (n + 1)) hw).toLoadRect kx) R)
          (sAcc o (kbw (n + 1)) (ld (rK2 (kbw (n + 1)) hw).toLoadRect kx) (ld (rK2 (kbw (n + 1)) hw).toLoadRect vx) R A)
      else (R, A)
    else (R, A)

/-! ### The normalised output -/

/-- The output block of accumulated values `A` and gains `gx`. -/
def outs0 (A : Vec F S128x512 .f32) (gx : Vec F S1x512 .f32) (O : Vec F S1x128x512 .f32) : Vec F S1x128x512 .f32 :=
  put rO0 (k0_pay33 k0_pay2 (ld rA0.toLoadRect A) (k0_pay31 (ld rA0.toLoadRect A)) (k0_pay32 k0_pay2 (ld rA0.toLoadRect A))
    (ld rG0.toLoadRect gx)) O
def outs1 (A : Vec F S128x512 .f32) (gx : Vec F S1x512 .f32) (O : Vec F S1x128x512 .f32) : Vec F S1x128x512 .f32 :=
  put rO1 (k0_pay37 k0_pay2 (ld rA1.toLoadRect A) (k0_pay35 k0_pay2 (ld rA1.toLoadRect A)) (k0_pay36 k0_pay2 (ld rA1.toLoadRect A))
    (Scalar.ofBits .f32 0x3C800000#32) (ld rG1.toLoadRect gx)) (outs0 A gx O)
def outs2 (A : Vec F S128x512 .f32) (gx : Vec F S1x512 .f32) (O : Vec F S1x128x512 .f32) : Vec F S1x128x512 .f32 :=
  put rO2 (k0_pay41 k0_pay2 (ld rA2.toLoadRect A) (k0_pay39 k0_pay2 (ld rA2.toLoadRect A)) (k0_pay40 k0_pay2 (ld rA2.toLoadRect A))
    (ld rG2.toLoadRect gx)) (outs1 A gx O)
def outsA (A : Vec F S128x512 .f32) (gx : Vec F S1x512 .f32) (O : Vec F S1x128x512 .f32) : Vec F S1x128x512 .f32 :=
  put rO3 (k0_pay1 (k0_pay42 k0_pay2 (ld rA3.toLoadRect A) (ld rG3.toLoadRect gx))) (outs2 A gx O)

/-- What a point leaves: the running sums and accumulated values after the diagonal block and the loop. -/
def after (i : grid0.Coords) (qx : Vec F S1x128x512 .bf16) (kx vx : Vec F S1x8320x512 .bf16)
    (R : Vec F S8x128x128 .f32) (A : Vec F S128x512 .f32) : Vec F S8x128x128 .f32 × Vec F S128x512 .f32 :=
  loop (once qx) kx vx ((i 1).val + 1) (alive1 (dRun qx (ld (rK1 i).toLoadRect kx) R))
    (dRun qx (ld (rK1 i).toLoadRect kx) R) (dAcc qx (ld (rK1 i).toLoadRect kx) (ld (rK1 i).toLoadRect vx) A)

/-- The output block a point leaves. -/
def outs (i : grid0.Coords) (qx : Vec F S1x128x512 .bf16) (kx vx : Vec F S1x8320x512 .bf16) (gx : Vec F S1x512 .f32)
    (R : Vec F S8x128x128 .f32) (A : Vec F S128x512 .f32) (O : Vec F S1x128x512 .f32) : Vec F S1x128x512 .f32 :=
  outsA (after i qx kx vx R A).2 gx O

/-! ### Nothing depends on what the buffers held before -/

theorem dRun_irrel (qx kb : Vec F S1x128x512 .bf16) (R R' : Vec F S8x128x128 .f32) : dRun qx kb R = dRun qx kb R' := by
  funext i
  have h0 : (i 0).val < 8 := (i 0).isLt
  have h1 : (i 1).val < 128 := (i 1).isLt
  have h2 : (i 2).val < 128 := (i 2).isLt
  unfold dRun
  exact put_unit_same _ _ _ _ i fun a => by fin_cases a <;> exact ⟨Nat.zero_le _, by simpa using (by assumption)⟩

/-- Four stores over the strips leave nothing of the vector below. -/
theorem put_strips {α : Type} (w0 w1 w2 w3 : S128x128.Idx → α) (A A' : S128x512.Idx → α) :
    put rA3 w3 (put rA2 w2 (put rA1 w1 (put rA0 w0 A))) = put rA3 w3 (put rA2 w2 (put rA1 w1 (put rA0 w0 A'))) := by
  funext i
  have h0 : (i 0).val < 128 := (i 0).isLt
  have h1 : (i 1).val < 512 := (i 1).isLt
  by_cases h : (i 1).val < 128
  · refine put_congr _ _ (put_congr _ _ (put_congr _ _ ?_))
    exact put_unit_same _ _ _ _ i fun a => by fin_cases a <;> constructor <;> simp <;> omega
  by_cases h' : (i 1).val < 256
  · refine put_congr _ _ (put_congr _ _ ?_)
    exact put_unit_same _ _ _ _ i fun a => by fin_cases a <;> constructor <;> simp <;> omega
  by_cases h'' : (i 1).val < 384
  · refine put_congr _ _ ?_
    exact put_unit_same _ _ _ _ i fun a => by fin_cases a <;> constructor <;> simp <;> omega
  · exact put_unit_same _ _ _ _ i fun a => by fin_cases a <;> constructor <;> simp <;> omega

theorem dAcc_irrel (qx kb vb : Vec F S1x128x512 .bf16) (A A' : Vec F S128x512 .f32) : dAcc qx kb vb A = dAcc qx kb vb A' :=
  put_strips _ _ _ _ A A'

/-- The same for the output block's strips. -/
theorem put_ostrips {α : Type} (w0 w1 w2 w3 : S1x128x128.Idx → α) (A A' : S1x128x512.Idx → α) :
    put rO3 w3 (put rO2 w2 (put rO1 w1 (put rO0 w0 A))) = put rO3 w3 (put rO2 w2 (put rO1 w1 (put rO0 w0 A'))) := by
  funext i
  have hb : (i 0).val < 1 := (i 0).isLt
  have h0 : (i 1).val < 128 := (i 1).isLt
  have h1 : (i 2).val < 512 := (i 2).isLt
  by_cases h : (i 2).val < 128
  · refine put_congr _ _ (put_congr _ _ (put_congr _ _ ?_))
    exact put_unit_same _ _ _ _ i fun a => by fin_cases a <;> constructor <;> simp <;> omega
  by_cases h' : (i 2).val < 256
  · refine put_congr _ _ (put_congr _ _ ?_)
    exact put_unit_same _ _ _ _ i fun a => by fin_cases a <;> constructor <;> simp <;> omega
  by_cases h'' : (i 2).val < 384
  · refine put_congr _ _ ?_
    exact put_unit_same _ _ _ _ i fun a => by fin_cases a <;> constructor <;> simp <;> omega
  · exact put_unit_same _ _ _ _ i fun a => by fin_cases a <;> constructor <;> simp <;> omega

/-- The output block a point leaves is the same whatever the scratch buffers and the output's buffer held. -/
theorem outs_irrel (i : grid0.Coords) (qx : Vec F S1x128x512 .bf16) (kx vx : Vec F S1x8320x512 .bf16) (gx : Vec F S1x512 .f32)
    (R R' : Vec F S8x128x128 .f32) (A A' : Vec F S128x512 .f32) (O O' : Vec F S1x128x512 .f32) :
    outs i qx kx vx gx R A O = outs i qx kx vx gx R' A' O' := by
  unfold outs after
  rw [dRun_irrel qx _ R R', dAcc_irrel qx _ _ A A']
  exact put_ostrips _ _ _ _ O O'

end Cert.Proof.KI

end
-- ==== Proof.KI.Common.lean ====
/-
  The resource algebra of the attention call's run, its launch memory, and the pipeline's proof data: each input's
  buffer holds its block, the output's buffer holds what the point computes of them.
-/
module

public import proofs.«01_k».proof.Proof.KI.Model
public import proofs.«01_k».proof.Proof.Gen.KernelIdeal.Launch
public import proofs.«01_k».proof.Proof.Gen.KernelIdeal.Points
public import Idealize.ShloMosaic.Lib.Pipeline.Sound
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

/-- The ghost algebra: the rounds library's over the machine's cells. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-- The blocks of the queries, the keys, the values and the gains at point `t`. -/
def qAt (c : Dev nD) (t : Fin (cfg0 (F := F)).N) : Vec F S1x128x512 .bf16 :=
  (win0_0.blk t).view.read (Elt F) (m ((c : Thread nD τ).loc main_arg0))
def kAt (c : Dev nD) (t : Fin (cfg0 (F := F)).N) : Vec F S1x8320x512 .bf16 :=
  (win0_1.blk t).view.read (Elt F) (m ((c : Thread nD τ).loc main_arg1))
def vAt (c : Dev nD) (t : Fin (cfg0 (F := F)).N) : Vec F S1x8320x512 .bf16 :=
  (win0_2.blk t).view.read (Elt F) (m ((c : Thread nD τ).loc main_arg2))
def gAt (c : Dev nD) (t : Fin (cfg0 (F := F)).N) : Vec F S1x512 .f32 :=
  (win0_3.blk t).view.read (Elt F) (m ((c : Thread nD τ).loc main_arg3))

/-- The block of the output that point `t` leaves. -/
def oAt (c : Dev nD) (t : Fin (cfg0 (F := F)).N) : Vec F S1x128x512 .f32 :=
  outs (grid0.coords t) (qAt m c t) (kAt m c t) (vAt m c t) (gAt m c t)
    (fun _ => Scalar.ofBits .f32 0x00000000#32) (fun _ => Scalar.ofBits .f32 0x00000000#32) (fun _ => Scalar.ofBits .f32 0x00000000#32)

/-- The proof data of the one pipeline on core `c`. -/
def dats (_ : Fin 1) (c : Dev nD) : Dat τ (Elt F) Unit ℕ (UR nD τ) ℕ (cfg0 (F := F)) c where
  A w := (s₀ m ρ).mem (((cfg0 (F := F)).win w).arr.view.loc (c : Thread nD τ))
  after w t := match w with
    | ⟨0, _⟩ => qAt m c t
    | ⟨1, _⟩ => kAt m c t
    | ⟨2, _⟩ => vAt m c t
    | ⟨3, _⟩ => gAt m c t
    | ⟨4, _⟩ => oAt m c t
  Φ _ := Pipeline.scopedRest spec0 c
  q _ := fullShare
  owed _ := 0

/-- The kernel's variants: the naturals, the loop's blocks still to come. -/
abbrev 𝒱₀ : Variants := Variants.nat

/-- Input window 0's buffer holds its block at every point, fetched there or not. -/
theorem before_0 (c : Dev nD) (t : Fin (cfg0 (F := F)).N) (d) : (dats m ρ 0 c).before (0 : Fin 5) t d = qAt m c t :=
  (Dat.before_in_eq_fetched (dats m ρ 0 c) (0 : Fin 5) rfl (fun _ => rfl) (fun _ _ _ => rfl) (fun _ => rfl) t d).trans rfl

/-- Input window 1's buffer holds its block at every point, fetched there or not. -/
theorem before_1 (c : Dev nD) (t : Fin (cfg0 (F := F)).N) (d) : (dats m ρ 0 c).before (1 : Fin 5) t d = kAt m c t :=
  (Dat.before_in_eq_fetched (dats m ρ 0 c) (1 : Fin 5) rfl (fun _ => rfl) (fun _ _ _ => rfl) (fun _ => rfl) t d).trans rfl

/-- Input window 2's buffer holds its block at every point, fetched there or not. -/
theorem before_2 (c : Dev nD) (t : Fin (cfg0 (F := F)).N) (d) : (dats m ρ 0 c).before (2 : Fin 5) t d = vAt m c t :=
  (Dat.before_in_eq_fetched (dats m ρ 0 c) (2 : Fin 5) rfl (fun _ => rfl) (fun _ _ _ => rfl) (fun _ => rfl) t d).trans rfl

/-- Input window 3's buffer holds its block at every point, fetched there or not. -/
theorem before_3 (c : Dev nD) (t : Fin (cfg0 (F := F)).N) (d) : (dats m ρ 0 c).before (3 : Fin 5) t d = gAt m c t :=
  (Dat.before_in_eq_fetched (dats m ρ 0 c) (3 : Fin 5) rfl (fun _ => rfl) (fun _ _ _ => rfl) (fun _ => rfl) t d).trans rfl

end Cert.Proof.KI

end
-- ==== Proof.KI.Parts.lean ====
/-
  The parts of the attention kernel's body and of its loop body: what each loads and stores, over owned buffers, and the
  values it hands on.
-/
module

public import proofs.«01_k».proof.Proof.KI.Common
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

variable (c : Dev nD) (bd : Option (𝒱₀).V) (E : Set ℕ)

/-! ### The parts of the body -/

section Outer

variable (i : grid0.Coords) (arg2 : Memref sig .tc .vmem S1x128x512 .bf16) (harg2 : arg2.IsWhole)
  (arg3 : Memref sig .tc .vmem S1x8320x512 .bf16) (harg3 : arg3.IsWhole) (arg4 : Memref sig .tc .vmem S1x8320x512 .bf16) (harg4 : arg4.IsWhole)
  (arg5 : Memref sig .tc .vmem S1x512 .f32) (harg5 : arg5.IsWhole) (arg6 : Memref sig .tc .vmem S1x128x512 .f32) (harg6 : arg6.IsWhole)
  (arg7 : Memref sig .tc .vmem S8x128x128 .f32) (harg7 : arg7.IsWhole) (arg8 : Memref sig .tc .vmem S128x512 .f32) (harg8 : arg8.IsWhole)

/-- Part 1 of the body: its loads and stores, and the values it hands on. -/
theorem part1_wp  (qx : Vec F S1x128x512 .bf16) {K : (Σ' (v0 : BitVec 32) (v1 : IVec S128x128 32) (v2 : IVec S128x128 32) (v4 : IVec S128x128 1) (v13 : FVec F S128x256 .bf16) (v18 : FVec F S128x512 .f32) (v23 : FVec F S128x128 .bf16) (v27 : FVec F S128x128 .bf16) (v32 : FVec F S128x128 .bf16) (v36 : FVec F S128x128 .bf16) (v41 : FVec F S128x128 .bf16), FVec F S128x128 .f32) → sProp 𝕄} :
    iprop((owns (c : Thread nD τ) arg2 fullShare qx)
      ∗ ((owns (c : Thread nD τ) arg2 fullShare qx)
        -∗ K ⟨(Scalar.addi (BitVec.ofNat 32 (i 1).val) 1#32), (iota .tc S128x128 32 [0] iota_S128x128_d0_w32), (iota .tc S128x128 32 [1] iota_S128x128_d1_w32), k0_pay2, k0_pay3 (F := F), k0_pay4 (ld rQ.toLoadRect qx), k0_pay5 (ld rQ.toLoadRect qx), k0_pay6 (ld rQ.toLoadRect qx), k0_pay7 (ld rQ.toLoadRect qx), k0_pay8 (ld rQ.toLoadRect qx), k0_pay9 (ld rQ.toLoadRect qx), k0_pay10 (ld rQ.toLoadRect qx)⟩))
      ⊢ wp frame (wpE (defs₀ (F := F)) 𝒱₀ (c : Thread nD τ) bd) E
          (k0_part1 i arg2 harg2 arg3 harg3 arg4 harg4 arg5 harg5 arg6 harg6 arg7 harg7 arg8 harg8) K := by
  simp only [k0_part1_eq_skeleton]; unfold k0_part1_skel
  simp only [Prog.lift, Prog.bind_op, Prog.bind_ret, Prog.pure_eq_ret]
  iintro ⟨Harg2, Hk⟩
  iapply (own_load 𝒱₀ (c : Thread nD τ) bd E) $$ Harg2; iintro Harg2
  rw [wp_ret]; imodintro; iapply Hk
  iexact Harg2

/-- Part 2 of the body: its loads and stores, and the values it hands on. -/
theorem part2_wp (v0 : BitVec 32) (v1 : IVec S128x128 32) (v2 : IVec S128x128 32) (v4 : IVec S128x128 1) (v18 : FVec F S128x512 .f32) (v23 : FVec F S128x128 .bf16) (v27 : FVec F S128x128 .bf16) (v32 : FVec F S128x128 .bf16) (v36 : FVec F S128x128 .bf16) (v41 : FVec F S128x128 .bf16) (v42 : FVec F S128x128 .f32) (kx : Vec F S1x8320x512 .bf16) (vx : Vec F S1x8320x512 .bf16) {K : (Σ' (v55 : FVec F S256x128 .bf16) (v56 : FVec F S256x128 .bf16) (v57 : FVec F S256x128 .bf16) (v58 : FVec F S256x128 .bf16) (v61 : IVec S128x128 1) (v67 : FVec F S128x512 .bf16) (v77 : FVec F S8x128x128 .f32) (v78 : IVec S1x128x128 1) (v86 : FVec F S8x128x128 .f32), F .f32) → sProp 𝕄} :
    iprop((owns (c : Thread nD τ) arg3 fullShare kx ∗ owns (c : Thread nD τ) arg4 fullShare vx)
      ∗ ((owns (c : Thread nD τ) arg3 fullShare kx ∗ owns (c : Thread nD τ) arg4 fullShare vx)
        -∗ K ⟨k0_pay11 v23 v27, k0_pay12 v32 v36, k0_pay13 v4 v41 v42, k0_pay14 v4 v18, k0_pay15 v1 v2, k0_pay16 (ld (rK1 i).toLoadRect vx), k0_pay17 v4 v18 v23 v27 v32 v36 v41 v42 (ld (rK1 i).toLoadRect kx), k0_pay18 v1 v2, k0_pay19 v4 v18 v23 v27 v32 v36 v41 v42 (ld (rK1 i).toLoadRect kx), (Scalar.ofBits .f32 0x00000000#32)⟩))
      ⊢ wp frame (wpE (defs₀ (F := F)) 𝒱₀ (c : Thread nD τ) bd) E
          (k0_part2 i arg2 harg2 arg3 harg3 arg4 harg4 arg5 harg5 arg6 harg6 arg7 harg7 arg8 harg8 v0 v1 v2 v4 v18 v23 v27 v32 v36 v41 v42) K := by
  simp only [k0_part2_eq_skeleton]; unfold k0_part2_skel
  simp only [Prog.lift, Prog.bind_op, Prog.bind_ret, Prog.pure_eq_ret]
  iintro ⟨⟨Harg3, Harg4⟩, Hk⟩
  iapply (own_load 𝒱₀ (c : Thread nD τ) bd E) $$ Harg3; iintro Harg3
  iapply (own_load 𝒱₀ (c : Thread nD τ) bd E) $$ Harg4; iintro Harg4
  rw [wp_ret]; imodintro; iapply Hk
  isplitl [Harg3]; · iexact Harg3
  iexact Harg4

/-- Part 3 of the body: its loads and stores, and the values it hands on. -/
theorem part3_wp (v4 : IVec S128x128 1) (v13 : FVec F S128x256 .bf16) (v61 : IVec S128x128 1) (v67 : FVec F S128x512 .bf16) (v77 : FVec F S8x128x128 .f32) (v78 : IVec S1x128x128 1) (v86 : FVec F S8x128x128 .f32) (cst_25 : F .f32) (R : Vec F S8x128x128 .f32) (A : Vec F S128x512 .f32) {K : (Σ' (v113 : FVec F S8x128x128 .bf16) (v131 : FVec F S128x128 .bf16), FVec F S128x128 .bf16) → sProp 𝕄} :
    iprop((owns (c : Thread nD τ) arg7 fullShare R ∗ owns (c : Thread nD τ) arg8 fullShare A)
      ∗ ((owns (c : Thread nD τ) arg7 fullShare (put rR (k0_pay23 v13 v78 v86 cst_25) R) ∗ owns (c : Thread nD τ) arg8 fullShare (put rA0 (k0_pay24 v4 v13 v61 v67 v77 v78 v86 cst_25) A))
        -∗ K ⟨k0_pay22 v13 v61 v77 v78 v86 cst_25, k0_pay25 v67, k0_pay26 (F := F)⟩))
      ⊢ wp frame (wpE (defs₀ (F := F)) 𝒱₀ (c : Thread nD τ) bd) E
          (k0_part3 i arg2 harg2 arg3 harg3 arg4 harg4 arg5 harg5 arg6 harg6 arg7 harg7 arg8 harg8 v4 v13 v61 v67 v77 v78 v86 cst_25) K := by
  simp only [k0_part3_eq_skeleton]; unfold k0_part3_skel
  simp only [Prog.lift, Prog.bind_op, Prog.bind_ret, Prog.pure_eq_ret]
  iintro ⟨⟨Harg7, Harg8⟩, Hk⟩
  iapply (own_load 𝒱₀ (c : Thread nD τ) bd E) $$ Harg7; iintro Harg7
  iapply (own_store 𝒱₀ (c : Thread nD τ) bd E) $$ Harg7; iintro Harg7
  iapply (own_load 𝒱₀ (c : Thread nD τ) bd E) $$ Harg8; iintro Harg8
  iapply (own_store 𝒱₀ (c : Thread nD τ) bd E) $$ Harg8; iintro Harg8
  rw [wp_ret]; imodintro; iapply Hk
  isplitl [Harg7]; · iexact Harg7
  iexact Harg8

/-- Part 4 of the body: its loads and stores, and the values it hands on. -/
theorem part4_wp (v0 : BitVec 32) (v4 : IVec S128x128 1) (v67 : FVec F S128x512 .bf16) (v113 : FVec F S8x128x128 .bf16) (v131 : FVec F S128x128 .bf16) (v132 : FVec F S128x128 .bf16) (A : Vec F S128x512 .f32) (R : Vec F S8x128x128 .f32) {K : (Σ' (v173 : BitVec 32), Vec F S1x128x128 .f32) → sProp 𝕄} :
    iprop((owns (c : Thread nD τ) arg8 fullShare A ∗ owns (c : Thread nD τ) arg7 fullShare R)
      ∗ ((owns (c : Thread nD τ) arg8 fullShare (put rA3 (k0_pay29 v4 v67 v113) (put rA2 (k0_pay28 v4 v67 v113) (put rA1 (k0_pay27 v4 v113 v131 v132) A))) ∗ owns (c : Thread nD τ) arg7 fullShare R)
        -∗ K ⟨(Scalar.subi v0 1#32), (ld rR0.toLoadRect R)⟩))
      ⊢ wp frame (wpE (defs₀ (F := F)) 𝒱₀ (c : Thread nD τ) bd) E
          (k0_part4 i arg2 harg2 arg3 harg3 arg4 harg4 arg5 harg5 arg6 harg6 arg7 harg7 arg8 harg8 v0 v4 v67 v113 v131 v132) K := by
  simp only [k0_part4_eq_skeleton]; unfold k0_part4_skel
  simp only [Prog.lift, Prog.bind_op, Prog.bind_ret, Prog.pure_eq_ret]
  iintro ⟨⟨Harg8, Harg7⟩, Hk⟩
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg7; iintro Harg7
  rw [wp_ret]; imodintro; iapply Hk
  isplitl [Harg8]; · iexact Harg8
  iexact Harg7

/-- Part 6 of the body: its loads and stores, and the values it hands on. -/
theorem part6_wp (v4 : IVec S128x128 1) (v204 : Vec F S128x128 .f32) (v205 : FVec F S128x128 .f32) (v207 : FVec F S128x128 .f32) (gx : Vec F S1x512 .f32) (O : Vec F S1x128x512 .f32) (A : Vec F S128x512 .f32) {K : (Σ' (v236 : Vec F S128x128 .f32) (v243 : FVec F S128x1 .f32) (v247 : FVec F S128x1 .f32), F .f32) → sProp 𝕄} :
    iprop((owns (c : Thread nD τ) arg5 fullShare gx ∗ owns (c : Thread nD τ) arg6 fullShare O ∗ owns (c : Thread nD τ) arg8 fullShare A)
      ∗ ((owns (c : Thread nD τ) arg5 fullShare gx ∗ owns (c : Thread nD τ) arg6 fullShare (put rO0 (k0_pay33 v4 v204 v205 v207 (ld rG0.toLoadRect gx)) O) ∗ owns (c : Thread nD τ) arg8 fullShare A)
        -∗ K ⟨(ld rA1.toLoadRect A), k0_pay35 v4 (ld rA1.toLoadRect A), k0_pay36 v4 (ld rA1.toLoadRect A), (Scalar.ofBits .f32 0x3C800000#32)⟩))
      ⊢ wp frame (wpE (defs₀ (F := F)) 𝒱₀ (c : Thread nD τ) bd) E
          (k0_part6 i arg2 harg2 arg3 harg3 arg4 harg4 arg5 harg5 arg6 harg6 arg7 harg7 arg8 harg8 v4 v204 v205 v207) K := by
  simp only [k0_part6_eq_skeleton]; unfold k0_part6_skel
  simp only [Prog.lift, Prog.bind_op, Prog.bind_ret, Prog.pure_eq_ret]
  iintro ⟨⟨Harg5, Harg6, Harg8⟩, Hk⟩
  iapply (own_load 𝒱₀ (c : Thread nD τ) bd E) $$ Harg5; iintro Harg5
  iapply (own_load 𝒱₀ (c : Thread nD τ) bd E) $$ Harg6; iintro Harg6
  iapply (own_store 𝒱₀ (c : Thread nD τ) bd E) $$ Harg6; iintro Harg6
  iapply (own_load 𝒱₀ (c : Thread nD τ) bd E) $$ Harg8; iintro Harg8
  rw [wp_ret]; imodintro; iapply Hk
  isplitl [Harg5]; · iexact Harg5
  isplitl [Harg6]; · iexact Harg6
  iexact Harg8

/-- Part 7 of the body: its loads and stores, and the values it hands on. -/
theorem part7_wp (v4 : IVec S128x128 1) (v236 : Vec F S128x128 .f32) (v243 : FVec F S128x1 .f32) (v247 : FVec F S128x1 .f32) (cst_88 : F .f32) (gx : Vec F S1x512 .f32) (O : Vec F S1x128x512 .f32) (A : Vec F S128x512 .f32) {K : (Σ' (v268 : Vec F S128x128 .f32) (v287 : FVec F S128x1 .f32), FVec F S128x128 .f32) → sProp 𝕄} :
    iprop((owns (c : Thread nD τ) arg5 fullShare gx ∗ owns (c : Thread nD τ) arg6 fullShare O ∗ owns (c : Thread nD τ) arg8 fullShare A)
      ∗ ((owns (c : Thread nD τ) arg5 fullShare gx ∗ owns (c : Thread nD τ) arg6 fullShare (put rO1 (k0_pay37 v4 v236 v243 v247 cst_88 (ld rG1.toLoadRect gx)) O) ∗ owns (c : Thread nD τ) arg8 fullShare A)
        -∗ K ⟨(ld rA2.toLoadRect A), k0_pay39 v4 (ld rA2.toLoadRect A), k0_pay40 v4 (ld rA2.toLoadRect A)⟩))
      ⊢ wp frame (wpE (defs₀ (F := F)) 𝒱₀ (c : Thread nD τ) bd) E
          (k0_part7 i arg2 harg2 arg3 harg3 arg4 harg4 arg5 harg5 arg6 harg6 arg7 harg7 arg8 harg8 v4 v236 v243 v247 cst_88) K := by
  simp only [k0_part7_eq_skeleton]; unfold k0_part7_skel
  simp only [Prog.lift, Prog.bind_op, Prog.bind_ret, Prog.pure_eq_ret]
  iintro ⟨⟨Harg5, Harg6, Harg8⟩, Hk⟩
  iapply (own_load 𝒱₀ (c : Thread nD τ) bd E) $$ Harg5; iintro Harg5
  iapply (own_load 𝒱₀ (c : Thread nD τ) bd E) $$ Harg6; iintro Harg6
  iapply (own_store 𝒱₀ (c : Thread nD τ) bd E) $$ Harg6; iintro Harg6
  iapply (own_load 𝒱₀ (c : Thread nD τ) bd E) $$ Harg8; iintro Harg8
  rw [wp_ret]; imodintro; iapply Hk
  isplitl [Harg5]; · iexact Harg5
  isplitl [Harg6]; · iexact Harg6
  iexact Harg8

/-- Part 8 of the body: its loads and stores, and the values it hands on. -/
theorem part8_wp (v4 : IVec S128x128 1) (v268 : Vec F S128x128 .f32) (v287 : FVec F S128x1 .f32) (v289 : FVec F S128x128 .f32) (gx : Vec F S1x512 .f32) (O : Vec F S1x128x512 .f32) (A : Vec F S128x512 .f32) {K : (FVec F S128x128 .f32) → sProp 𝕄} :
    iprop((owns (c : Thread nD τ) arg5 fullShare gx ∗ owns (c : Thread nD τ) arg6 fullShare O ∗ owns (c : Thread nD τ) arg8 fullShare A)
      ∗ ((owns (c : Thread nD τ) arg5 fullShare gx ∗ owns (c : Thread nD τ) arg6 fullShare (put rO2 (k0_pay41 v4 v268 v287 v289 (ld rG2.toLoadRect gx)) O) ∗ owns (c : Thread nD τ) arg8 fullShare A)
        -∗ K ((k0_pay42 v4 (ld rA3.toLoadRect A) (ld rG3.toLoadRect gx)))))
      ⊢ wp frame (wpE (defs₀ (F := F)) 𝒱₀ (c : Thread nD τ) bd) E
          (k0_part8 i arg2 harg2 arg3 harg3 arg4 harg4 arg5 harg5 arg6 harg6 arg7 harg7 arg8 harg8 v4 v268 v287 v289) K := by
  simp only [k0_part8_eq_skeleton]; unfold k0_part8_skel
  simp only [Prog.lift, Prog.bind_op, Prog.bind_ret, Prog.pure_eq_ret]
  iintro ⟨⟨Harg5, Harg6, Harg8⟩, Hk⟩
  iapply (own_load 𝒱₀ (c : Thread nD τ) bd E) $$ Harg5; iintro Harg5
  iapply (own_load 𝒱₀ (c : Thread nD τ) bd E) $$ Harg6; iintro Harg6
  iapply (own_store 𝒱₀ (c : Thread nD τ) bd E) $$ Harg6; iintro Harg6
  iapply (own_load 𝒱₀ (c : Thread nD τ) bd E) $$ Harg8; iintro Harg8
  iapply (own_load 𝒱₀ (c : Thread nD τ) bd E) $$ Harg5; iintro Harg5
  rw [wp_ret]; imodintro; iapply Hk
  isplitl [Harg5]; · iexact Harg5
  isplitl [Harg6]; · iexact Harg6
  iexact Harg8

end Outer

/-! ### The parts of the loop body -/

section Inner

variable (i : grid0.Coords) (v2 : IVec S128x128 32) (arg3 : Memref sig .tc .vmem S1x8320x512 .bf16) (harg3 : arg3.IsWhole)
  (arg4 : Memref sig .tc .vmem S1x8320x512 .bf16) (harg4 : arg4.IsWhole) (v55 v56 v57 v58 : FVec F S256x128 .bf16) (v13 : FVec F S128x256 .bf16)
  (arg7 : Memref sig .tc .vmem S8x128x128 .f32) (harg7 : arg7.IsWhole) (v4 : IVec S128x128 1) (arg8 : Memref sig .tc .vmem S128x512 .f32)
  (harg8 : arg8.IsWhole) (arg9 arg10 : BitVec 32)

/-- Part 9 of the loop body: its loads and stores, and the values it hands on. -/
theorem part9_wp  (kx : Vec F S1x8320x512 .bf16) (vx : Vec F S1x8320x512 .bf16) (hw : k0_chk1 arg9) {K : (Σ' (v337 : IVec S128x128 1) (v343 : FVec F S128x512 .bf16) (v353 : FVec F S8x128x128 .f32) (v368 : FVec F S8x128x128 .f32) (v373 : FVec F S1024x128 .bf16) (v374 : FVec F S1024x256 .f32), FVec F S1024x256 .f32) → sProp 𝕄} :
    iprop((owns (c : Thread nD τ) arg3 fullShare kx ∗ owns (c : Thread nD τ) arg4 fullShare vx)
      ∗ ((owns (c : Thread nD τ) arg3 fullShare kx ∗ owns (c : Thread nD τ) arg4 fullShare vx)
        -∗ K ⟨k0_pay43 v2 arg9, k0_pay44 (ld (rK2 arg9 hw).toLoadRect vx), k0_pay45 v55 v56 v57 v58 (ld (rK2 arg9 hw).toLoadRect kx), k0_pay46 v2 v55 v56 v57 v58 arg9 (ld (rK2 arg9 hw).toLoadRect kx), k0_pay49 v2 v55 v56 v57 v58 arg9 (ld (rK2 arg9 hw).toLoadRect kx), k0_pay50 v2 v55 v56 v57 v58 v13 arg9 (ld (rK2 arg9 hw).toLoadRect kx), (constant S1024x256 .f32 0x00000000#32)⟩))
      ⊢ wp frame (wpE (defs₀ (F := F)) 𝒱₀ (c : Thread nD τ) bd) E
          (k0_part9 i v2 arg3 harg3 arg4 harg4 v55 v56 v57 v58 v13 arg7 harg7 v4 arg8 harg8 arg9 arg10) K := by
  simp only [k0_part9_eq_skeleton]; unfold k0_part9_skel
  simp only [Prog.lift, Prog.bind_op, Prog.bind_ret, Prog.pure_eq_ret]
  iintro ⟨⟨Harg3, Harg4⟩, Hk⟩
  iapply (wp_assume 𝒱₀ (c : Thread nD τ) bd E hw)
  iapply (own_load 𝒱₀ (c : Thread nD τ) bd E) $$ Harg3; iintro Harg3
  iapply (own_load 𝒱₀ (c : Thread nD τ) bd E) $$ Harg4; iintro Harg4
  rw [wp_ret]; imodintro; iapply Hk
  isplitl [Harg3]; · iexact Harg3
  iexact Harg4

/-- Part 10 of the loop body: its loads and stores, and the values it hands on. -/
theorem part10_wp (v337 : IVec S128x128 1) (v343 : FVec F S128x512 .bf16) (v353 : FVec F S8x128x128 .f32) (v368 : FVec F S8x128x128 .f32) (v373 : FVec F S1024x128 .bf16) (v374 : FVec F S1024x256 .f32) (cst_140 : FVec F S1024x256 .f32) (R : Vec F S8x128x128 .f32) (A : Vec F S128x512 .f32) {K : (Σ' (v391 : FVec F S8x128x128 .bf16) (v413 : FVec F S128x128 .bf16) (v414 : FVec F S128x128 .bf16), FVec F S128x128 .bf16) → sProp 𝕄} :
    iprop((owns (c : Thread nD τ) arg7 fullShare R ∗ owns (c : Thread nD τ) arg8 fullShare A)
      ∗ ((owns (c : Thread nD τ) arg7 fullShare (put rR (k0_pay53 v13 v373 v374 cst_140 (ld rR.toLoadRect R)) R) ∗ owns (c : Thread nD τ) arg8 fullShare (put rA0 (k0_pay54 v13 v4 v337 v343 v353 v368 v373 v374 cst_140 (ld rR.toLoadRect R) (ld rA0.toLoadRect A)) A))
        -∗ K ⟨k0_pay52 v13 v337 v353 v368 v373 v374 cst_140 (ld rR.toLoadRect R), k0_pay55 v343, k0_pay56 (F := F), k0_pay57 v4 v343⟩))
      ⊢ wp frame (wpE (defs₀ (F := F)) 𝒱₀ (c : Thread nD τ) bd) E
          (k0_part10 i v2 arg3 harg3 arg4 harg4 v55 v56 v57 v58 v13 arg7 harg7 v4 arg8 harg8 arg9 arg10 v337 v343 v353 v368 v373 v374 cst_140) K := by
  simp only [k0_part10_eq_skeleton]; unfold k0_part10_skel
  simp only [Prog.lift, Prog.bind_op, Prog.bind_ret, Prog.pure_eq_ret]
  iintro ⟨⟨Harg7, Harg8⟩, Hk⟩
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_store 𝒱₀ (c : Thread nD τ) bd E) $$ Harg7; iintro Harg7
  iapply (own_load 𝒱₀ (c : Thread nD τ) bd E) $$ Harg8; iintro Harg8
  iapply (own_load 𝒱₀ (c : Thread nD τ) bd E) $$ Harg8; iintro Harg8
  iapply (own_store 𝒱₀ (c : Thread nD τ) bd E) $$ Harg8; iintro Harg8
  rw [wp_ret]; imodintro; iapply Hk
  isplitl [Harg7]; · iexact Harg7
  iexact Harg8

/-- Part 11 of the loop body: its loads and stores, and the values it hands on. -/
theorem part11_wp (v343 : FVec F S128x512 .bf16) (v391 : FVec F S8x128x128 .bf16) (v413 : FVec F S128x128 .bf16) (v414 : FVec F S128x128 .bf16) (v415 : FVec F S128x128 .bf16) (A : Vec F S128x512 .f32) {K : (FVec F S128x128 .f32) → sProp 𝕄} :
    iprop((owns (c : Thread nD τ) arg8 fullShare A)
      ∗ ((owns (c : Thread nD τ) arg8 fullShare (put rA2 (k0_pay59 v4 v343 v391 (ld rA2.toLoadRect (put rA1 (k0_pay58 v4 v391 v413 v414 v415 (ld rA1.toLoadRect A)) A))) (put rA1 (k0_pay58 v4 v391 v413 v414 v415 (ld rA1.toLoadRect A)) A)))
        -∗ K ((k0_pay60 v4 v343 v391 (ld rA3.toLoadRect (put rA2 (k0_pay59 v4 v343 v391 (ld rA2.toLoadRect (put rA1 (k0_pay58 v4 v391 v413 v414 v415 (ld rA1.toLoadRect A)) A))) (put rA1 (k0_pay58 v4 v391 v413 v414 v415 (ld rA1.toLoadRect A)) A)))))))
      ⊢ wp frame (wpE (defs₀ (F := F)) 𝒱₀ (c : Thread nD τ) bd) E
          (k0_part11 i v2 arg3 harg3 arg4 harg4 v55 v56 v57 v58 v13 arg7 harg7 v4 arg8 harg8 arg9 arg10 v343 v391 v413 v414 v415) K := by
  simp only [k0_part11_eq_skeleton]; unfold k0_part11_skel
  simp only [Prog.lift, Prog.bind_op, Prog.bind_ret, Prog.pure_eq_ret]
  iintro ⟨Harg8, Hk⟩
  iapply (own_load 𝒱₀ (c : Thread nD τ) bd E) $$ Harg8; iintro Harg8
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg8; iintro Harg8
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg8; iintro Harg8
  rw [wp_ret]; imodintro; iapply Hk
  iexact Harg8

/-- Part 12 of the loop body: its loads and stores, and the values it hands on. -/
theorem part12_wp (v457 : FVec F S128x128 .f32) (A : Vec F S128x512 .f32) (R : Vec F S8x128x128 .f32) {K : (Σ' (v461 : BitVec 32) (v488 : F .f32), F .f32) → sProp 𝕄} :
    iprop((owns (c : Thread nD τ) arg8 fullShare A ∗ owns (c : Thread nD τ) arg7 fullShare R)
      ∗ ((owns (c : Thread nD τ) arg8 fullShare (put rA3 (k0_pay61 v457) A) ∗ owns (c : Thread nD τ) arg7 fullShare R)
        -∗ K ⟨(Scalar.subi arg9 1#32), k0_pay62 (ld rR0.toLoadRect R) (ld rR1.toLoadRect R) (ld rR2.toLoadRect R) (ld rR3.toLoadRect R) (ld rR4.toLoadRect R) (ld rR5.toLoadRect R) (ld rR6.toLoadRect R) (ld rR7.toLoadRect R), (Named.named κ "dead" 0xC2D20000#32)⟩))
      ⊢ wp frame (wpE (defs₀ (F := F)) 𝒱₀ (c : Thread nD τ) bd) E
          (k0_part12 i v2 arg3 harg3 arg4 harg4 v55 v56 v57 v58 v13 arg7 harg7 v4 arg8 harg8 arg9 arg10 v457) K := by
  simp only [k0_part12_eq_skeleton]; unfold k0_part12_skel
  simp only [Prog.lift, Prog.bind_op, Prog.bind_ret, Prog.pure_eq_ret]
  iintro ⟨⟨Harg8, Harg7⟩, Hk⟩
  iapply (own_load 𝒱₀ (c : Thread nD τ) bd E) $$ Harg8; iintro Harg8
  iapply (own_store 𝒱₀ (c : Thread nD τ) bd E) $$ Harg8; iintro Harg8
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  iapply (own_load 𝒱₀ (c : Thread nD τ) bd E) $$ Harg7; iintro Harg7
  rw [wp_ret]; imodintro; iapply Hk
  isplitl [Harg8]; · iexact Harg8
  iexact Harg7

end Inner

end Cert.Proof.KI

end
-- ==== Proof.KI.Body.lean ====
/-
  The loop's label meets its specification, and the body of the attention kernel leaves the output block `outs`.
-/
module

public import proofs.«01_k».proof.Proof.KI.Parts
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

variable (c : Dev nD) (E : Set ℕ)

/-! ### The label -/

section Label

variable (i : grid0.Coords) (arg3 : Memref sig .tc .vmem S1x8320x512 .bf16) (harg3 : arg3.IsWhole)
  (arg4 : Memref sig .tc .vmem S1x8320x512 .bf16) (harg4 : arg4.IsWhole)
  (arg7 : Memref sig .tc .vmem S8x128x128 .f32) (harg7 : arg7.IsWhole) (arg8 : Memref sig .tc .vmem S128x512 .f32) (harg8 : arg8.IsWhole)
  (o : Once F) (kx vx : Vec F S1x8320x512 .bf16)

/-- The loop's four buffers: the keys, the values, the running sums, the accumulated values. -/
def held (R : Vec F S8x128x128 .f32) (A : Vec F S128x512 .f32) : sProp 𝕄 :=
  iprop(owns (c : Thread nD τ) arg3 fullShare kx ∗ owns (c : Thread nD τ) arg4 fullShare vx
    ∗ owns (c : Thread nD τ) arg7 fullShare R ∗ owns (c : Thread nD τ) arg8 fullShare A)

/-- What the label does with `n` blocks to come: it takes the four buffers and returns them as `loop` leaves them. -/
def spec (n : ℕ) (go : BitVec 32) (R : Vec F S8x128x128 .f32) (A : Vec F S128x512 .f32) : sWPT 𝕄 (BitVec 32 × BitVec 32) := do
  sWPT.consume (held c arg3 arg4 arg7 arg8 kx vx R A)
  let r ← sWPT.arbitrary
  sWPT.produce (held c arg3 arg4 arg7 arg8 kx vx (loop o kx vx n go R A).1 (loop o kx vx n go R A).2)
  pure r

theorem spec_apply (n : ℕ) (go : BitVec 32) (R : Vec F S8x128x128 .f32) (A : Vec F S128x512 .f32) (K : BitVec 32 × BitVec 32 → sProp 𝕄) :
    spec c arg3 arg4 arg7 arg8 o kx vx n go R A K
      = iprop(held c arg3 arg4 arg7 arg8 kx vx R A
        ∗ ∀ r : BitVec 32 × BitVec 32, (held c arg3 arg4 arg7 arg8 kx vx (loop o kx vx n go R A).1 (loop o kx vx n go R A).2 -∗ K r)) := rfl

theorem andi_zero_left (x : BitVec 1) : ¬Scalar.andi 0#1 x = 1#1 := by revert x; decide
theorem andi_one_left (x : BitVec 1) : Scalar.andi 1#1 x = x := by revert x; decide

/-- The label meets its specification with `n` blocks to come, by induction on `n`: the body steps one block down and calls
    the label with one block fewer. -/
theorem spec_le : ∀ n, n ≤ 64 → ∀ (go : BitVec 32) (R : Vec F S8x128x128 .f32) (A : Vec F S128x512 .f32) (K : BitVec 32 × BitVec 32 → sProp 𝕄),
    spec c arg3 arg4 arg7 arg8 o kx vx n go R A K
      ⊢ wp frame (wpE (defs₀ (F := F)) 𝒱₀ (c : Thread nD τ) (some n)) E
          (defs₀ (F := F) .tc 1 ⟨i, o.col, arg3, harg3, arg4, harg4, o.q0, o.q1, o.q2, o.q3, o.tri, arg7, harg7, o.odd, arg8, harg8, kbw n, go⟩) K := by
  intro n
  induction n with
  | zero =>
    intro _ go R A K
    rw [spec_apply]
    show _ ⊢ wp frame (wpE (defs₀ (F := F)) 𝒱₀ (c : Thread nD τ) (some 0)) E (cc0_while1 i o.col arg3 harg3 arg4 harg4 o.q0 o.q1 o.q2 o.q3 o.tri arg7 harg7 o.odd arg8 harg8 (kbw 0) go) K
    simp only [cc0_while1_eq_skeleton]; unfold cc0_while1_skel
    dsimp only
    rw [sge_kbw_zero, if_neg (andi_zero_left _), Prog.pure_eq_ret]
    simp only [loop]
    iintro ⟨H, Hk⟩
    rw [wp_ret]; imodintro
    iapply Hk
    iexact H
  | succ n ih =>
    intro hn go R A K
    rw [spec_apply]
    show _ ⊢ wp frame (wpE (defs₀ (F := F)) 𝒱₀ (c : Thread nD τ) (some (n + 1))) E (cc0_while1 i o.col arg3 harg3 arg4 harg4 o.q0 o.q1 o.q2 o.q3 o.tri arg7 harg7 o.odd arg8 harg8 (kbw (n + 1)) go) K
    simp only [cc0_while1_eq_skeleton]; unfold cc0_while1_skel
    dsimp only
    rw [sge_kbw n (by omega), andi_one_left]
    by_cases hgo : Scalar.cmpi .sgt go 0#32 = 1#1
    swap
    · rw [if_neg hgo, Prog.pure_eq_ret]
      simp only [loop, if_neg hgo]
      iintro ⟨H, Hk⟩
      rw [wp_ret]; imodintro
      iapply Hk
      iexact H
    have hw := chk_kbw n (by omega)
    rw [if_pos hgo]
    simp only [loop, if_pos hgo, dif_pos hw]
    unfold held
    iintro ⟨⟨H3, H4, H7, H8⟩, Hk⟩
    rw [wp_bind]
    iapply (part9_wp c (some (n + 1)) E (hw := hw))
    isplitl [H3 H4]
    · isplitl [H3]; · iexact H3
      iexact H4
    iintro ⟨H3, H4⟩
    dsimp only
    rw [wp_bind]
    iapply (part10_wp c (some (n + 1)) E)
    isplitl [H7 H8]
    · isplitl [H7]; · iexact H7
      iexact H8
    iintro ⟨H7, H8⟩
    dsimp only
    rw [wp_bind]
    iapply (part11_wp c (some (n + 1)) E)
    isplitl [H8]; · iexact H8
    iintro H8
    rw [wp_bind]
    iapply (part12_wp c (some (n + 1)) E)
    isplitl [H7 H8]
    · isplitl [H8]; · iexact H8
      iexact H7
    iintro ⟨H8, H7⟩
    dsimp only
    rw [subi_kbw n (by omega)]
    simp only [Prog.lift]
    iapply (wp_call_spec 𝒱₀ (c : Thread nD τ) (some (n + 1)) E
      (spec c arg3 arg4 arg7 arg8 o kx vx n (alive2 (sRun o (kbw (n + 1)) (ld (rK2 (kbw (n + 1)) hw).toLoadRect kx) R))
          (sRun o (kbw (n + 1)) (ld (rK2 (kbw (n + 1)) hw).toLoadRect kx) R)
          (sAcc o (kbw (n + 1)) (ld (rK2 (kbw (n + 1)) hw).toLoadRect kx) (ld (rK2 (kbw (n + 1)) hw).toLoadRect vx) R A)) n
      (fun u hu => by cases hu; exact Nat.lt_succ_self n)
      (ih (by omega) _ _ _))
    rw [spec_apply]; unfold held
    isplitl [H3 H4 H7 H8]
    · isplitl [H3]; · iexact H3
      isplitl [H4]; · iexact H4
      isplitl [H7]; · iexact H7
      iexact H8
    iintro %r ⟨H3, H4, H7, H8⟩
    rw [wp_ret]; imodintro
    iapply Hk
    isplitl [H3]; · iexact H3
    isplitl [H4]; · iexact H4
    isplitl [H7]; · iexact H7
    iexact H8

end Label

/-! ### The body -/

section Outer

variable (i : grid0.Coords) (arg2 : Memref sig .tc .vmem S1x128x512 .bf16) (harg2 : arg2.IsWhole)
  (arg3 : Memref sig .tc .vmem S1x8320x512 .bf16) (harg3 : arg3.IsWhole) (arg4 : Memref sig .tc .vmem S1x8320x512 .bf16) (harg4 : arg4.IsWhole)
  (arg5 : Memref sig .tc .vmem S1x512 .f32) (harg5 : arg5.IsWhole) (arg6 : Memref sig .tc .vmem S1x128x512 .f32) (harg6 : arg6.IsWhole)
  (arg7 : Memref sig .tc .vmem S8x128x128 .f32) (harg7 : arg7.IsWhole) (arg8 : Memref sig .tc .vmem S128x512 .f32) (harg8 : arg8.IsWhole)

/-- Part 5 of the body: the test of the running sums, the loop, and the first strip of what it accumulated. -/
theorem part5_wp (o : Once F) (kx vx : Vec F S1x8320x512 .bf16) (n : ℕ) (hn : n ≤ 64) (R : Vec F S8x128x128 .f32) (A : Vec F S128x512 .f32)
    {K : (Σ' (v204 : Vec F S128x128 .f32) (v205 : FVec F S128x128 .f32), FVec F S128x128 .f32) → sProp 𝕄} :
    iprop(held c arg3 arg4 arg7 arg8 kx vx R A
      ∗ (held c arg3 arg4 arg7 arg8 kx vx (loop o kx vx n (alive1 R) R A).1 (loop o kx vx n (alive1 R) R A).2
        -∗ K ⟨ld rA0.toLoadRect (loop o kx vx n (alive1 R) R A).2, k0_pay31 (ld rA0.toLoadRect (loop o kx vx n (alive1 R) R A).2), k0_pay32 o.odd (ld rA0.toLoadRect (loop o kx vx n (alive1 R) R A).2)⟩))
      ⊢ wp frame (wpE (defs₀ (F := F)) 𝒱₀ (c : Thread nD τ) none) Set.univ
          (k0_part5 i arg2 harg2 arg3 harg3 arg4 harg4 arg5 harg5 arg6 harg6 arg7 harg7 arg8 harg8 o.col o.odd o.tri o.q0 o.q1 o.q2 o.q3 (kbw n) (ld rR0.toLoadRect R)) K := by
  simp only [k0_part5_eq_skeleton]; unfold k0_part5_skel
  simp only [Prog.lift, Prog.bind_op, Prog.bind_ret, Prog.pure_eq_ret]
  unfold held
  iintro ⟨⟨H3, H4, H7, H8⟩, Hk⟩
  iapply (own_load 𝒱₀ (c : Thread nD τ) none Set.univ) $$ H7; iintro H7
  iapply (own_load 𝒱₀ (c : Thread nD τ) none Set.univ) $$ H7; iintro H7
  iapply (own_load 𝒱₀ (c : Thread nD τ) none Set.univ) $$ H7; iintro H7
  iapply (own_load 𝒱₀ (c : Thread nD τ) none Set.univ) $$ H7; iintro H7
  iapply (own_load 𝒱₀ (c : Thread nD τ) none Set.univ) $$ H7; iintro H7
  iapply (own_load 𝒱₀ (c : Thread nD τ) none Set.univ) $$ H7; iintro H7
  iapply (own_load 𝒱₀ (c : Thread nD τ) none Set.univ) $$ H7; iintro H7
  iapply (wp_call_spec 𝒱₀ (c : Thread nD τ) none Set.univ (spec c arg3 arg4 arg7 arg8 o kx vx n (alive1 R) R A) n (fun u hu => nomatch hu)
    (spec_le c Set.univ i arg3 harg3 arg4 harg4 arg7 harg7 arg8 harg8 o kx vx n hn (alive1 R) R A))
  rw [spec_apply]; unfold held
  isplitl [H3 H4 H7 H8]
  · isplitl [H3]; · iexact H3
    isplitl [H4]; · iexact H4
    isplitl [H7]; · iexact H7
    iexact H8
  iintro %r ⟨H3, H4, H7, H8⟩
  iapply (own_load 𝒱₀ (c : Thread nD τ) none Set.univ) $$ H8; iintro H8
  rw [wp_ret]; imodintro; iapply Hk
  isplitl [H3]; · iexact H3
  isplitl [H4]; · iexact H4
  isplitl [H7]; · iexact H7
  iexact H8

/-- Loading the whole query block reads it. -/
theorem ld_rQ (X : Vec F S1x128x512 .bf16) : ld rQ.toLoadRect X = X := by
  funext x
  exact ld_unit _ _ _ x fun a => by fin_cases a <;> exact (Nat.zero_add _).symm

/-- The kernel's body at grid point `i`: the output's buffer is left at `outs`, the inputs' as they were. -/
theorem body_wp (qx : Vec F S1x128x512 .bf16) (kx vx : Vec F S1x8320x512 .bf16) (gx : Vec F S1x512 .f32)
    (R : Vec F S8x128x128 .f32) (A : Vec F S128x512 .f32) (O : Vec F S1x128x512 .f32) {K : PUnit → sProp 𝕄} :
    iprop((owns (c : Thread nD τ) arg2 fullShare qx ∗ owns (c : Thread nD τ) arg3 fullShare kx ∗ owns (c : Thread nD τ) arg4 fullShare vx
        ∗ owns (c : Thread nD τ) arg5 fullShare gx ∗ owns (c : Thread nD τ) arg6 fullShare O ∗ owns (c : Thread nD τ) arg7 fullShare R
        ∗ owns (c : Thread nD τ) arg8 fullShare A)
      ∗ ((owns (c : Thread nD τ) arg2 fullShare qx ∗ owns (c : Thread nD τ) arg3 fullShare kx ∗ owns (c : Thread nD τ) arg4 fullShare vx
        ∗ owns (c : Thread nD τ) arg5 fullShare gx ∗ owns (c : Thread nD τ) arg6 fullShare (outs i qx kx vx gx R A O)
        ∗ owns (c : Thread nD τ) arg7 fullShare (after i qx kx vx R A).1 ∗ owns (c : Thread nD τ) arg8 fullShare (after i qx kx vx R A).2)
        -∗ K ⟨⟩))
      ⊢ wp frame (wpE (defs₀ (F := F)) 𝒱₀ (c : Thread nD τ) none) Set.univ (cc0_stickbreak i arg2 harg2 arg3 harg3 arg4 harg4 arg5 harg5 arg6 harg6 arg7 harg7 arg8 harg8) K := by
  have hi : (i 1).val < 64 := (i 1).isLt
  simp only [cc0_stickbreak_eq_skeleton]; unfold cc0_stickbreak_skel
  iintro ⟨⟨H2, H3, H4, H5, H6, H7, H8⟩, Hk⟩
  rw [wp_bind]
  iapply (part1_wp c none Set.univ)
  isplitl [H2]; · iexact H2
  iintro H2
  rw [ld_rQ]
  dsimp only
  rw [wp_bind]
  iapply (part2_wp c none Set.univ)
  isplitl [H3 H4]
  · isplitl [H3]; · iexact H3
    iexact H4
  iintro ⟨H3, H4⟩
  dsimp only
  rw [wp_bind]
  iapply (part3_wp c none Set.univ)
  isplitl [H7 H8]
  · isplitl [H7]; · iexact H7
    iexact H8
  iintro ⟨H7, H8⟩
  dsimp only
  rw [wp_bind]
  iapply (part4_wp c none Set.univ)
  isplitl [H7 H8]
  · isplitl [H8]; · iexact H8
    iexact H7
  iintro ⟨H8, H7⟩
  dsimp only
  rw [start_kbw _ hi, wp_bind]
  iapply (part5_wp c i (o := once qx) (n := (i 1).val + 1) (hn := by omega) (kx := kx) (vx := vx)
    (R := dRun qx (ld (rK1 i).toLoadRect kx) R) (A := dAcc qx (ld (rK1 i).toLoadRect kx) (ld (rK1 i).toLoadRect vx) A))
  unfold held
  isplitl [H3 H4 H7 H8]
  · isplitl [H3]; · iexact H3
    isplitl [H4]; · iexact H4
    isplitl [H7]; · iexact H7
    iexact H8
  iintro ⟨H3, H4, H7, H8⟩
  dsimp only
  rw [wp_bind]
  iapply (part6_wp c none Set.univ)
  isplitl [H5 H6 H8]
  · isplitl [H5]; · iexact H5
    isplitl [H6]; · iexact H6
    iexact H8
  iintro ⟨H5, H6, H8⟩
  dsimp only
  rw [wp_bind]
  iapply (part7_wp c none Set.univ)
  isplitl [H5 H6 H8]
  · isplitl [H5]; · iexact H5
    isplitl [H6]; · iexact H6
    iexact H8
  iintro ⟨H5, H6, H8⟩
  dsimp only
  rw [wp_bind]
  iapply (part8_wp c none Set.univ)
  isplitl [H5 H6 H8]
  · isplitl [H5]; · iexact H5
    isplitl [H6]; · iexact H6
    iexact H8
  iintro ⟨H5, H6, H8⟩
  simp only [Prog.lift, Prog.bind_op, Prog.bind_ret, Prog.pure_eq_ret]
  iapply (own_load 𝒱₀ (c : Thread nD τ) none Set.univ) $$ H6; iintro H6
  iapply (own_store 𝒱₀ (c : Thread nD τ) none Set.univ) $$ H6; iintro H6
  rw [wp_ret]; imodintro; iapply Hk
  isplitl [H2]; · iexact H2
  isplitl [H3]; · iexact H3
  isplitl [H4]; · iexact H4
  isplitl [H5]; · iexact H5
  isplitl [H6]; · iexact H6
  isplitl [H7]; · iexact H7
  iexact H8

end Outer

end Cert.Proof.KI

end
-- ==== Proof.KI.Run.lean ====
/-
  The run of the attention call: every point's body leaves the output block, the pipeline leaves the arrays the library
  computes, the inputs are unchanged.
-/
module

public import proofs.«01_k».proof.Proof.KI.Body
public import Idealize.ShloMosaic.Lib.Pipeline.KitQuiescent
public import Idealize.ShloMosaic.PureOps.BitExact
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- A whole scratch buffer's points-to owns it at its contents, -/
theorem owns_of_scratch (c : Dev nD) (b : Ref sig .tc) (f : b.ty.Contents (Elt F)) :
    (((c : Thread nD τ).loc b ↦{fullShare} f) : sProp 𝕄) ⊢ owns (c : Thread nD τ) (Memref.whole b) fullShare f := by
  rw [owns_whole_eq]
  iintro H; iexists f; isplitr; · (ipureintro; rfl)
  iexact H

/-- and back, at some contents. -/
theorem scratch_of_owns (c : Dev nD) (b : Ref sig .tc) (f : b.ty.Contents (Elt F)) :
    (owns (c : Thread nD τ) (Memref.whole b) fullShare f : sProp 𝕄)
      ⊢ iprop(∃ f : Buf (Elt F) ((c : Thread nD τ).loc b), ((c : Thread nD τ).loc b ↦{fullShare} f)) := by
  rw [owns_whole_eq]
  iintro ⟨%g, %hg, H⟩; iexists g; iexact H

/-- After the body each buffer holds what the proof data says. -/
theorem after_0 (c : Dev nD) (t : Fin (cfg0 (F := F)).N) : (dats m ρ 0 c).after (0 : Fin 5) t = qAt m c t := rfl
theorem after_1 (c : Dev nD) (t : Fin (cfg0 (F := F)).N) : (dats m ρ 0 c).after (1 : Fin 5) t = kAt m c t := rfl
theorem after_2 (c : Dev nD) (t : Fin (cfg0 (F := F)).N) : (dats m ρ 0 c).after (2 : Fin 5) t = vAt m c t := rfl
theorem after_3 (c : Dev nD) (t : Fin (cfg0 (F := F)).N) : (dats m ρ 0 c).after (3 : Fin 5) t = gAt m c t := rfl
theorem after_4 (c : Dev nD) (t : Fin (cfg0 (F := F)).N) : (dats m ρ 0 c).after (4 : Fin 5) t = oAt m c t := rfl

/-- The output block, whatever the scratch buffers and the output's buffer held. -/
theorem oAt_eq (c : Dev nD) (t : Fin (cfg0 (F := F)).N) (R : Vec F S8x128x128 .f32) (A : Vec F S128x512 .f32) (O : Vec F S1x128x512 .f32) :
    oAt m c t = outs (grid0.coords t) (qAt m c t) (kAt m c t) (vAt m c t) (gAt m c t) R A O := outs_irrel _ _ _ _ _ _ _ _ _ _ _

set_option maxHeartbeats 2000000 in
/-- The body obligation at every point. -/
theorem body_obligation (c : Dev nD) : BodyObligation (dats (F := F) m ρ 0 c) (defs₀ (F := F)) 𝒱₀ () Set.univ := fun t => by
  rw [bigSep_W0, bigSep_W0]
  sl_whnfR [defs₀, Defs.onTc]
  simp only [before_0 m ρ, before_1 m ρ, before_2 m ρ, before_3 m ρ]
  rw [after_0, after_1, after_2, after_3, after_4]
  rw [show (dats m ρ 0 c).Φ t.castSucc = Pipeline.scopedRest spec0 c from rfl,
    show (dats m ρ 0 c).Φ t.succ = Pipeline.scopedRest spec0 c from rfl,
    show (dats m ρ 0 c).owesAt () t.succ = (dats m ρ 0 c).owesAt () t.castSucc from rfl, scopedRest0_eq]
  iintro ⟨⟨⟨%R, HR⟩, ⟨%A, HA⟩⟩, Howes, ⟨%d0, H0⟩, ⟨%d1, H1⟩, ⟨%d2, H2⟩, ⟨%d3, H3⟩, ⟨%d4, H4⟩⟩
  iapply (body_wp c (qx := qAt m c t) (kx := kAt m c t) (vx := vAt m c t) (gx := gAt m c t) (R := R) (A := A)
    (O := (dats m ρ 0 c).before (4 : Fin 5) t d4))
  isplitl [HR HA H0 H1 H2 H3 H4]
  · isplitl [H0]; · iexact H0
    isplitl [H1]; · iexact H1
    isplitl [H2]; · iexact H2
    isplitl [H3]; · iexact H3
    isplitl [H4]; · iexact H4
    isplitl [HR]
    · iapply (owns_of_scratch c cc0_scratch0 R); iexact HR
    iapply (owns_of_scratch c cc0_scratch1 A); iexact HA
  iintro ⟨H0, H1, H2, H3, H4, HR, HA⟩
  isplitl [HR HA]
  · isplitl [HR]
    · iapply (scratch_of_owns c cc0_scratch0 _); iexact HR
    iapply (scratch_of_owns c cc0_scratch1 _); iexact HA
  isplitl [Howes]; · iexact Howes
  isplitl [H0]; · iexact H0
  isplitl [H1]; · iexact H1
  isplitl [H2]; · iexact H2
  isplitl [H3]; · iexact H3
  rw [oAt_eq m c t R A ((dats m ρ 0 c).before (4 : Fin 5) t d4)]
  iexact H4

/-! ### The run -/

/-- The launch element of the rounds library. -/
def u₀ : UR nD τ := initOf (Pipeline.cells (cfgs (F := F)) cellOf_inj) (Pipeline.launchToks (cfgs (F := F)) cellOf_inj)

theorem share_eq (c : Dev nD) (w : Fin (cfg0 (F := F)).W) : (dats m ρ 0 c).share w = fullShare := by
  unfold Dat.share; split <;> rfl

/-- An array's contents after the run, as the library computes them. -/
def finalA (c : Dev nD) (w : Fin (cfg0 (F := F)).W) : Buf (Elt F) (((cfg0 (F := F)).win w).arr.view.loc (c : Thread nD τ)) :=
  (dats m ρ 0 c).arrAt w (cfg0 (F := F)).N

/-- Every array of the call holds what the library computes. -/
def QC : PUnit × MemSt nD τ sig (Elt F) → Prop := fun r =>
  ∀ (c : Dev nD) (w : Fin (cfg0 (F := F)).W), r.2.mem (((cfg0 (F := F)).win w).arr.view.loc (c : Thread nD τ)) = finalA m ρ c w

/-- From any memory with zero counters every fair execution ends, without fault, with the arrays at what the library
    computes and the counters at zero. -/
theorem run_main : θ_run defs (onTc (τ := τ) (main (F := F))) (s₀ m ρ) (fun r => QC m ρ r ∧ r.2.sem = fun _ => 0) :=
  Pipeline.θ_run_region_noSem_kit_quiescent cfgs (dats m ρ) () (0 : Fin 1) launch0 EP defs₀ 𝒱₀ m ρ main
    (hbody := body_obligation m ρ) (hshare := share_eq m ρ) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by
      rw [show (dats m ρ 0 c).Φ 0 = Pipeline.scopedRest spec0 c from rfl]
      iintro ⟨-, H⟩; iexact H)
    (hout := fun c => by
      rw [show (dats m ρ 0 c).Φ (Fin.last (cfg0 (F := F)).N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h hz => ⟨fun c w => (h c).1 w, hz⟩)

/-- The four inputs are only read. -/
theorem finalA_0 (c : Dev nD) : finalA m ρ c (0 : Fin 5) = m ((c : Thread nD τ).loc main_arg0) :=
  (dats (F := F) m ρ 0 c).arrAt_in (0 : Fin 5) rfl _
theorem finalA_1 (c : Dev nD) : finalA m ρ c (1 : Fin 5) = m ((c : Thread nD τ).loc main_arg1) :=
  (dats (F := F) m ρ 0 c).arrAt_in (1 : Fin 5) rfl _
theorem finalA_2 (c : Dev nD) : finalA m ρ c (2 : Fin 5) = m ((c : Thread nD τ).loc main_arg2) :=
  (dats (F := F) m ρ 0 c).arrAt_in (2 : Fin 5) rfl _
theorem finalA_3 (c : Dev nD) : finalA m ρ c (3 : Fin 5) = m ((c : Thread nD τ).loc main_arg3) :=
  (dats (F := F) m ρ 0 c).arrAt_in (3 : Fin 5) rfl _

/-- The run leaves the result of the call in its array and the arguments unchanged. -/
theorem run_args : θ_run defs (onTc (τ := τ) (main (F := F))) ⟨m, fun _ => 0, ρ⟩ (fun r =>
    (∀ c : Dev nD, r.2.mem ((c : Thread nD τ).loc main_v0) = finalA m ρ c (4 : Fin 5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨h.1 c (4 : Fin 5), (h.1 c (0 : Fin 5)).trans (finalA_0 m ρ c),
    (h.1 c (1 : Fin 5)).trans (finalA_1 m ρ c), (h.1 c (2 : Fin 5)).trans (finalA_2 m ρ c),
    (h.1 c (3 : Fin 5)).trans (finalA_3 m ρ c)⟩, h.2⟩) (run_main m ρ)

end Cert.Proof.KI

end
-- ==== Proof.Frames.lean ====
/-
  The four frame-side claims: the kernel's runs, bit-exact and ideal, and the reference's end with their arguments
  unchanged and the counters at zero; the named constant is what its table says.
-/
module

public import proofs.«01_k».proof.Defs
public import proofs.«01_k».proof.Proof.K.Run
public import proofs.«01_k».proof.Proof.KI.Run
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as measured ends with its arguments unchanged and its counters at zero. -/
theorem frame_p : Cert.quiescent_Kernel := fun m ρ _ =>
  (θ_run Cert.Kernel.defs _ _).mono (fun _ h => ⟨fun c => (h.1 c).2, h.2⟩) (K.run_args (F := Bits) m ρ)

/-- So does the kernel over the extended reals, -/
theorem frame_pi : Cert.quiescent_KernelIdeal := fun m ρ _ =>
  (θ_run Cert.KernelIdeal.defs _ _).mono (fun _ h => ⟨fun c => (h.1 c).2, h.2⟩) (KI.run_args (F := Ideal) m ρ)

/-- and the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The threshold's constant is minus infinity. -/
theorem preserves : Cert.preserves_Kernel_KernelIdeal :=
  IdealRules.named_const.statement Cert.KernelIdeal.κ "dead" .f32 0xC2D20000#32 ⊥ rfl

end Cert.Proof

end
-- ==== Proof.Val.Math.lean ====
/-
  The mathematics of one query row of the stick-breaking attention, over the extended reals: the logarithm of one
  minus a weight, the suffix sums of those logarithms, the weights, the weighted sum of the values; how the sums go
  block by block, and why the blocks that remain add nothing when a suffix sum is minus infinity.
-/
module

public import Idealize.ShloMosaic.Lib.Pointwise

@[expose] public section

noncomputable section

namespace Cert.Proof.Val

open Idealize.ShloMosaic
open scoped BigOperators

/-- The logarithm of one minus the logistic function. -/
def lg (z : EReal) : EReal := 0 - (max z 0 + Ideal.log1p (Ideal.exp (0 - max z (-z))))

theorem lg_top : lg ⊤ = ⊥ := by
  have e : Ideal.log1p 0 = 0 := by
    rw [Ideal.log1p, add_zero, ← EReal.coe_one, Ideal.log_coe, if_neg (by norm_num), Real.log_one, EReal.coe_zero]
  simp [lg, Ideal.exp_bot, e]

theorem lg_bot : lg ⊥ = 0 := by
  have e : Ideal.log 1 = 0 := by
    rw [← EReal.coe_one, Ideal.log_coe, if_neg (by norm_num), Real.log_one, EReal.coe_zero]
  simp [lg, Ideal.exp_bot, Ideal.log1p, e]

/-- At a real number it is a real number. -/
theorem lg_coe (z : ℝ) : lg z = ((-(max z 0 + Real.log (1 + Real.exp (-(max z (-z))))) : ℝ) : EReal) := by
  have h : ¬ (1 + Real.exp (-(max z (-z))) ≤ 0) := not_le.2 (by positivity)
  have e : (1 : EReal) + ((Real.exp (-(max z (-z))) : ℝ) : EReal) = ((1 + Real.exp (-(max z (-z))) : ℝ) : EReal) := by
    rw [EReal.coe_add, EReal.coe_one]
  have em : max (z : EReal) (-(z : EReal)) = ((max z (-z) : ℝ) : EReal) := by
    rw [← EReal.coe_neg]; exact (EReal.coe_strictMono.monotone.map_max).symm
  have e0 : max (z : EReal) 0 = ((max z 0 : ℝ) : EReal) := by
    rw [← EReal.coe_zero]; exact (EReal.coe_strictMono.monotone.map_max).symm
  unfold lg
  rw [em, zero_sub, zero_sub, ← EReal.coe_neg, Ideal.exp_coe, Ideal.log1p, e, Ideal.log_coe, if_neg h, e0,
    ← EReal.coe_add, ← EReal.coe_neg]

/-- It is never plus infinity. -/
theorem lg_ne_top (z : EReal) : lg z ≠ ⊤ := by
  induction z with
  | bot => rw [lg_bot]; exact EReal.zero_ne_top
  | top => rw [lg_top]; exact bot_ne_top
  | coe z => rw [lg_coe]; exact EReal.coe_ne_top _

/-- The logarithm of the logistic function of a real number is that number plus the logarithm of one minus it. -/
theorem lg_neg_coe (z : ℝ) : lg (-(z : EReal)) = (z : EReal) + lg z := by
  rw [← EReal.coe_neg, lg_coe, lg_coe, ← EReal.coe_add]
  congr 1
  rw [neg_neg, max_comm (-z) z]
  rcases le_total 0 z with h | h
  · rw [max_eq_left h, max_eq_right (by linarith : -z ≤ 0)]; linarith
  · rw [max_eq_right h, max_eq_left (by linarith : 0 ≤ -z)]; linarith

/-- A weight computed with the inclusive suffix sum less its own term is the weight computed with the exclusive one. -/
theorem weight_eq (z X : EReal) : Ideal.exp (lg (-z) + ((lg z + X) - lg z)) = Ideal.exp (z + lg z + X) := by
  induction z with
  | bot => rw [lg_bot, EReal.neg_bot, lg_top]; simp
  | top => rw [lg_top, EReal.neg_top, lg_bot]; simp
  | coe z =>
    have hL : ∃ l : ℝ, lg z = l := ⟨_, lg_coe z⟩
    obtain ⟨l, hl⟩ := hL
    rw [lg_neg_coe, hl]
    congr 1
    have : ((l : EReal) + X) - l = X := by
      induction X with
      | bot => simp
      | top => simp
      | coe x => rw [← EReal.coe_add, ← EReal.coe_sub]; congr 1; ring_nf
    rw [this]

/-- A number that is not plus infinity and is split in itself and its difference with itself adds up to itself, also
    where zeros replace it. -/
theorem split_mul (f : EReal) (hf : f ≠ ⊤) (c : Prop) [Decidable c] :
    f * (if c then 1 else 0) + (f - f) * (if c then 1 else 0) = if c then f else 0 := by
  by_cases hc : c
  · simp only [if_pos hc, mul_one]
    induction f with
    | bot => simp
    | top => exact absurd rfl hf
    | coe x => rw [← EReal.coe_sub, sub_self, EReal.coe_zero, add_zero]
  · simp only [if_neg hc, mul_zero, add_zero]

/-- So do their sums against a matrix of zeros and ones. -/
theorem split_sum {N : ℕ} (f : Fin N → EReal) (hf : ∀ x, f x ≠ ⊤) (c : Fin N → Prop) [DecidablePred c] :
    (∑ x, f x * (if c x then 1 else 0)) + (∑ x, (f x - f x) * (if c x then 1 else 0)) = ∑ x, if c x then f x else 0 := by
  rw [← Finset.sum_add_distrib]
  exact Finset.sum_congr rfl fun x _ => split_mul (f x) (hf x) (c x)

/-! ### One row -/

/-- The number of keys. -/
abbrev NK : ℕ := 8320

section Row

variable (i : ℕ) (z v : ℕ → EReal)

/-- Key `j` counts for row `i`: it is real and strictly before. -/
abbrev Seen (i j : ℕ) : Prop := j < i ∧ 112 ≤ j

/-- The masked logarithm of one minus the weight of key `j`. -/
def ln (j : ℕ) : EReal := if Seen i j then lg (z j) else 0

/-- The sum of the logarithms from key `a` on. -/
def suf (a : ℕ) : EReal := ∑ j ∈ Finset.Ico a NK, ln i z j

/-- The weight of key `j`. -/
def wt (j : ℕ) : EReal := if Seen i j then Ideal.exp (z j + ln i z j + suf i z (j + 1)) else 0

/-- The weighted values from key `a` on. -/
def tail (a : ℕ) : EReal := ∑ j ∈ Finset.Ico a NK, wt i z j * v j

theorem ln_ne_top (j : ℕ) : ln i z j ≠ ⊤ := by
  unfold ln
  split
  · exact lg_ne_top _
  · exact EReal.zero_ne_top

/-- A suffix sum is its first term plus the next suffix sum. -/
theorem suf_succ (j : ℕ) (hj : j < NK) : suf i z j = ln i z j + suf i z (j + 1) :=
  Finset.sum_eq_sum_Ico_succ_bot hj _

/-- From the row's own block's end on nothing is left. -/
theorem suf_done (a : ℕ) (h : i ≤ a) : suf i z a = 0 :=
  Finset.sum_eq_zero fun j hj => if_neg fun hs => by have := (Finset.mem_Ico.1 hj).1; omega

theorem tail_done (a : ℕ) (h : i ≤ a) : tail i z v a = 0 :=
  Finset.sum_eq_zero fun j hj => by
    unfold wt
    rw [if_neg fun hs => by have := (Finset.mem_Ico.1 hj).1; omega, zero_mul]

/-- A sum over a block of 128 keys. -/
theorem sum_block (f : ℕ → EReal) (n : ℕ) :
    ∑ j ∈ Finset.Ico (n * 128) ((n + 1) * 128), f j = ∑ x : Fin 128, f (n * 128 + x.val) := by
  rw [Finset.sum_Ico_eq_sum_range, Fin.sum_univ_eq_sum_range (fun x => f (n * 128 + x)) 128]
  congr 2
  omega

/-- The suffix sum from a block's start: the block's logarithms and those after it. -/
theorem suf_block (n : ℕ) (hn : n < 65) :
    suf i z (n * 128) = suf i z ((n + 1) * 128) + ∑ x : Fin 128, ln i z (n * 128 + x.val) := by
  unfold suf
  rw [← Finset.sum_Ico_consecutive _ (show n * 128 ≤ (n + 1) * 128 by omega) (show (n + 1) * 128 ≤ NK by unfold NK; omega),
    sum_block, add_comm]

/-- The weighted values from a block's start. -/
theorem tail_block (n : ℕ) (hn : n < 65) :
    tail i z v (n * 128)
      = tail i z v ((n + 1) * 128) + ∑ x : Fin 128, wt i z (n * 128 + x.val) * v (n * 128 + x.val) := by
  unfold tail
  rw [← Finset.sum_Ico_consecutive _ (show n * 128 ≤ (n + 1) * 128 by omega) (show (n + 1) * 128 ≤ NK by unfold NK; omega),
    sum_block (fun j => wt i z j * v j), add_comm]

/-- The suffix sum after a key inside a block: the block's later logarithms and those after the block. -/
theorem suf_inside (n : ℕ) (hn : n < 65) (j : Fin 128) :
    suf i z (n * 128 + j.val + 1)
      = (∑ x : Fin 128, if j.val < x.val then ln i z (n * 128 + x.val) else 0) + suf i z ((n + 1) * 128) := by
  have hj := j.isLt
  unfold suf
  rw [← Finset.sum_Ico_consecutive _ (show n * 128 + j.val + 1 ≤ (n + 1) * 128 by omega) (show (n + 1) * 128 ≤ NK by unfold NK; omega)]
  congr 1
  rw [Fin.sum_univ_eq_sum_range (fun x => if j.val < x then ln i z (n * 128 + x) else 0) 128, ← Finset.sum_filter,
    Finset.sum_Ico_eq_sum_range]
  refine Finset.sum_bij (fun x _ => x + j.val + 1) (fun x hx => ?_) (fun x _ y _ h => by omega) (fun y hy => ?_) (fun x _ => ?_)
  · simp only [Finset.mem_range, Finset.mem_filter] at hx ⊢; omega
  · simp only [Finset.mem_range, Finset.mem_filter] at hy
    exact ⟨y - j.val - 1, by simp only [Finset.mem_range]; omega, by omega⟩
  · congr 1; omega

/-- When the suffix sum from key `a` is minus infinity the keys before `a` add nothing. -/
theorem tail_dead (a : ℕ) (ha : a ≤ NK) (h : suf i z a = ⊥) : tail i z v 0 = tail i z v a := by
  unfold tail
  rw [← Finset.sum_Ico_consecutive _ (Nat.zero_le a) ha]
  refine (congrArg (· + _) (Finset.sum_eq_zero fun j hj => ?_)).trans (zero_add _)
  have hja := (Finset.mem_Ico.1 hj).2
  have hs : suf i z (j + 1) = ⊥ := by
    unfold suf
    rw [← Finset.sum_Ico_consecutive _ (show j + 1 ≤ a by omega) ha]
    rw [show ∑ j ∈ Finset.Ico a NK, ln i z j = ⊥ from h, EReal.add_bot]
  unfold wt
  rw [hs, EReal.add_bot, Ideal.exp_bot]
  simp

/-! ### The forms the two programs compute -/

/-- The kernel's weight: its block's later logarithms, then the running sum. -/
theorem wt_block (n : ℕ) (hn : n < 65) (j : Fin 128) :
    wt i z (n * 128 + j.val)
      = if Seen i (n * 128 + j.val) then
          Ideal.exp (z (n * 128 + j.val) + ln i z (n * 128 + j.val)
            + (∑ x : Fin 128, if j.val < x.val then ln i z (n * 128 + x.val) else 0) + suf i z ((n + 1) * 128))
        else 0 := by
  unfold wt
  rw [suf_inside i z n hn j, ← add_assoc]

/-- The reference's weight: the logarithm of the logistic function, plus the inclusive sum less the key's own term. -/
theorem wt_ref (j : ℕ) (hj : j < NK) :
    (if Seen i j then Ideal.exp (lg (-(z j)) + (suf i z j - ln i z j)) else 0) = wt i z j := by
  unfold wt
  by_cases h : Seen i j
  · rw [if_pos h, if_pos h, suf_succ i z j hj]
    have e : ln i z j = lg (z j) := if_pos h
    rw [e, weight_eq]
  · rw [if_neg h, if_neg h]

end Row

/-! ### Sums over a pair of heads' lanes -/

/-- A sum over 128 lanes with zeros at the odd head's is the sum over the even head's. -/
theorem sum_even (f : Fin 128 → EReal) :
    (∑ x : Fin 128, if 64 ≤ x.val then 0 else f x) = ∑ d : Fin 64, f ⟨d.val, by omega⟩ := by
  rw [Fin.sum_univ_add (a := 64) (b := 64) (fun x => if 64 ≤ x.val then 0 else f x)]
  have h2 : (∑ d : Fin 64, if 64 ≤ (Fin.natAdd 64 d).val then (0 : EReal) else f (Fin.natAdd 64 d)) = 0 :=
    Finset.sum_eq_zero fun d _ => if_pos (by simp)
  rw [h2, add_zero]
  exact Finset.sum_congr rfl fun d _ => if_neg (by have := d.isLt; simp)

/-- With zeros at the even head's lanes, the odd head's. -/
theorem sum_odd (f : Fin 128 → EReal) :
    (∑ x : Fin 128, if 64 ≤ x.val then f x else 0) = ∑ d : Fin 64, f ⟨64 + d.val, by omega⟩ := by
  rw [Fin.sum_univ_add (a := 64) (b := 64) (fun x => if 64 ≤ x.val then f x else 0)]
  have h1 : (∑ d : Fin 64, if 64 ≤ (Fin.castAdd 64 d).val then f (Fin.castAdd 64 d) else (0 : EReal)) = 0 :=
    Finset.sum_eq_zero fun d _ => if_neg (by have := d.isLt; simp)
  rw [h1, zero_add]
  exact Finset.sum_congr rfl fun d _ => if_pos (by simp)

end Cert.Proof.Val

end
-- ==== Proof.Val.Spec.lean ====
/-
  The stick-breaking attention of whole tensors, an entry at a time, over the extended reals.
-/
module

public import proofs.«01_k».proof.Proof.Val.Math
public import Idealize.ShloMosaic.Lib.WordCmp

@[expose] public section

noncomputable section

namespace Cert.Proof.Val

open Idealize.ShloMosaic
open scoped BigOperators

/-- Lane `d` of head `h` among the 512 columns. -/
abbrev lane (h : Fin 8) (d : Fin 64) : Fin 512 := ⟨h.val * 64 + d.val, by omega⟩

/-- The head of a column. -/
abbrev headOf (e : Fin 512) : Fin 8 := ⟨e.val / 64, by omega⟩

/-- The queries' scale, one eighth. -/
def cq : EReal := Ideal.ofBits .f32 0x3E000000#32

/-- The constant under the square root. -/
def ce : EReal := Ideal.ofBits .f32 0x358637BD#32

section

variable (q k v : Fin 2 → Fin 8320 → Fin 512 → EReal) (g : Fin 512 → EReal)

/-- The score of head `h`'s query `i` against key `j`. -/
def sc (b : Fin 2) (h : Fin 8) (i : Fin 8320) (j : ℕ) : EReal :=
  if hj : j < 8320 then ∑ d : Fin 64, q b i (lane h d) * cq * k b ⟨j, hj⟩ (lane h d) else 0

/-- Column `e` of the value of key `j`. -/
def vv (b : Fin 2) (e : Fin 512) (j : ℕ) : EReal := if hj : j < 8320 then v b ⟨j, hj⟩ e else 0

/-- The attention before its normalisation. -/
def att (b : Fin 2) (i : Fin 8320) (e : Fin 512) : EReal :=
  tail i.val (sc q k b (headOf e) i) (vv v b e) 0

/-- The normalised attention of row values `a`, at column `e`: each head's lanes over the root of their mean square,
    times the gain. -/
def normed (a : Fin 512 → EReal) (e : Fin 512) : EReal :=
  a e * Ideal.rsqrt ((∑ d : Fin 64, a (lane (headOf e) d) * a (lane (headOf e) d)) * ((64 : ℝ)⁻¹ : ℝ) + ce) * g e

end

/-! ### Lanes, bits and constants -/

theorem headOf_lane (h : Fin 8) (d : Fin 64) : headOf (lane h d) = h := Fin.ext (by simp only [headOf, lane]; omega)

theorem lane_mod (h : Fin 8) (d : Fin 64) : (lane h d).val % 64 = d.val := by simp only [lane]; omega

theorem lane_headOf (e : Fin 512) : lane (headOf e) ⟨e.val % 64, Nat.mod_lt _ (by omega)⟩ = e :=
  Fin.ext (by simp only [headOf, lane]; omega)

/-- A choice by a decided bit is a conditional. -/
theorem select_decide {α : Type} (p : Prop) [Decidable p] (a b : α) :
    Scalar.select (BitVec.ofBool (decide p)) a b = if p then a else b := by
  by_cases h : p <;> simp [h, Scalar.select]

/-- Two decided bits conjoined, -/
theorem andi_decide (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- and disjoined. -/
theorem ori_decide (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

/-- A decided bit as a number. -/
theorem sitofp_decide (p : Prop) [Decidable p] :
    (FloatOps.sitofp (F := Ideal) .f32 (BitVec.setWidth 32 (BitVec.ofBool (decide p))) : EReal) = if p then 1 else 0 := by
  by_cases h : p <;> simp [h, FloatOps.sitofp]

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = (((64 : ℝ)⁻¹ : ℝ) : EReal) := by
  simp [Ideal.ofBits, Ideal.ieee, -EReal.coe_mul]; norm_num

/-- A column's lane within its head. -/
abbrev laneOf (e : Fin 512) : Fin 64 := ⟨e.val % 64, Nat.mod_lt _ (by omega)⟩

/-- The normalisation of values given by head and lane. -/
theorem normed_heads (g : Fin 512 → EReal) (f : Fin 8 → Fin 64 → EReal) (e : Fin 512) :
    normed g (fun e' => f (headOf e') (laneOf e')) e
      = f (headOf e) (laneOf e)
        * Ideal.rsqrt ((∑ d : Fin 64, f (headOf e) d * f (headOf e) d) * ((64 : ℝ)⁻¹ : ℝ) + ce) * g e := by
  have hl : ∀ d : Fin 64, f (headOf (lane (headOf e) d)) (laneOf (lane (headOf e) d)) = f (headOf e) d := fun d => by
    rw [headOf_lane]
    exact congrArg _ (Fin.ext (lane_mod _ _))
  unfold normed
  simp only [hl]

end Cert.Proof.Val

end
-- ==== Proof.Val.Scores.lean ====
/-
  The kernel's query pairs and scores at an entry, over the extended reals.
-/
module

public import proofs.«01_k».proof.Proof.Val.Spec
public import proofs.«01_k».proof.Proof.KI.Model

@[expose] public section

set_option maxRecDepth 16384

noncomputable section

namespace Cert.Proof.Val

open Idealize.ShloMosaic
open Cert.KernelIdeal Cert.KernelIdeal.Gen Cert.Proof.KI
open scoped BigOperators

/-- The lanes' parity. -/
theorem odd_at (r x : Fin 128) : k0_pay2 (ix2 r x) = BitVec.ofBool (decide (64 ≤ x.val)) := by
  pointwise [k0_pay2]
  rw [WordCmp.cmpi_sge_ofNat (by omega) (by omega)]

/-- A negated decided bit. -/
theorem xori_decide (p : Prop) [Decidable p] : IntOp.xori (BitVec.ofBool (decide p)) 1#1 = BitVec.ofBool (decide (¬p)) := by
  by_cases h : p <;> simp [h, IntOp.xori]

/-- A choice by a negated decided bit. -/
theorem select_not {α : Type} (p : Prop) [Decidable p] (a b : α) :
    Scalar.select (IntOp.xori (BitVec.ofBool (decide p)) 1#1) a b = if p then b else a := by
  rw [xori_decide, select_decide]
  by_cases h : p <;> simp [h]

/-- The two triangles: later keys, then all keys. -/
theorem tri_at (x : Fin 128) (s : Fin 256) :
    (k0_pay3 (F := Ideal) (ix2 x s) : EReal) = if s.val < x.val ∨ 128 ≤ s.val then 1 else 0 := by
  pointwise [k0_pay3]
  rw [WordCmp.cmpi_sgt_ofNat (by omega) (by omega), WordCmp.cmpi_sge_ofNat (by omega) (by omega), ori_decide]
  exact sitofp_decide _

/-! ### The query pairs: the even head's rows hold its lanes, the odd head's rows its -/

section Pairs

variable (qx kb : FVec Ideal S1x128x512 .bf16) (r j x : Fin 128)

theorem q0_even : (once (F := Ideal) qx).q0 (ix2 ⟨r.val, by omega⟩ x) = if 64 ≤ x.val then 0 else qx (ix3 0 r ⟨x.val, by omega⟩) * cq := by
  pointwise [once, k0_pay11, k0_pay5, k0_pay6, k0_pay4, odd_at]
  rw [select_not]
  rfl

theorem q0_odd : (once (F := Ideal) qx).q0 (ix2 ⟨128 + r.val, by omega⟩ x) = if 64 ≤ x.val then qx (ix3 0 r ⟨x.val, by omega⟩) * cq else 0 := by
  pointwise [once, k0_pay11, k0_pay5, k0_pay6, k0_pay4, odd_at]
  rfl

theorem q1_even : (once (F := Ideal) qx).q1 (ix2 ⟨r.val, by omega⟩ x) = if 64 ≤ x.val then 0 else qx (ix3 0 r ⟨128 + x.val, by omega⟩) * cq := by
  pointwise [once, k0_pay12, k0_pay7, k0_pay8, k0_pay4, odd_at]
  rw [select_not]
  rfl

theorem q1_odd : (once (F := Ideal) qx).q1 (ix2 ⟨128 + r.val, by omega⟩ x) = if 64 ≤ x.val then qx (ix3 0 r ⟨128 + x.val, by omega⟩) * cq else 0 := by
  pointwise [once, k0_pay12, k0_pay7, k0_pay8, k0_pay4, odd_at]
  rfl

theorem q2_even : (once (F := Ideal) qx).q2 (ix2 ⟨r.val, by omega⟩ x) = if 64 ≤ x.val then 0 else qx (ix3 0 r ⟨256 + x.val, by omega⟩) * cq := by
  pointwise [once, k0_pay13, k0_pay9, k0_pay10, k0_pay4, odd_at]
  rw [select_not]
  rfl

theorem q2_odd : (once (F := Ideal) qx).q2 (ix2 ⟨128 + r.val, by omega⟩ x) = if 64 ≤ x.val then qx (ix3 0 r ⟨256 + x.val, by omega⟩) * cq else 0 := by
  pointwise [once, k0_pay13, k0_pay9, k0_pay10, k0_pay4, odd_at]
  rfl

theorem q3_even : (once (F := Ideal) qx).q3 (ix2 ⟨r.val, by omega⟩ x) = if 64 ≤ x.val then 0 else qx (ix3 0 r ⟨384 + x.val, by omega⟩) * cq := by
  pointwise [once, k0_pay14, k0_pay4, odd_at]
  rw [select_not]
  rfl

theorem q3_odd : (once (F := Ideal) qx).q3 (ix2 ⟨128 + r.val, by omega⟩ x) = if 64 ≤ x.val then qx (ix3 0 r ⟨384 + x.val, by omega⟩) * cq else 0 := by
  pointwise [once, k0_pay14, k0_pay4, odd_at]
  rfl

end Pairs

/-! ### The scores -/

/-- The score of head `h`'s query `r` of a query block against key `j` of a key block. -/
def bs (qx kb : FVec Ideal S1x128x512 .bf16) (h : Fin 8) (r j : Fin 128) : EReal :=
  ∑ d : Fin 64, qx (ix3 0 r (lane h d)) * cq * kb (ix3 0 j (lane h d))

section Scores

variable (qx kb : FVec Ideal S1x128x512 .bf16) (r j : Fin 128)

theorem sZ_0 : sZ (F := Ideal) (once qx) kb (ix3 (0 : Fin 8) r j) = bs qx kb 0 r j := by
  pointwise [sZ, k0_pay45]
  rw [dif_pos (by omega)]
  refine (Finset.sum_congr rfl fun x _ => congrArg (· * _) ((congrArg (fun t => (once (F := Ideal) qx).q0 (ix2 t x))
    (Fin.ext (by first | rfl | (simp only []; omega) | (simp only []; done)))).trans (q0_even qx r x))).trans ?_
  simp only [ite_mul, zero_mul]
  rw [sum_even]
  unfold bs
  refine Finset.sum_congr rfl fun d _ => ?_
  exact congrArg₂ (fun a c => qx (ix3 0 r a) * cq * kb (ix3 0 j c)) (Fin.ext (show d.val = 0 * 64 + d.val by omega)) (Fin.ext (show d.val = 0 * 64 + d.val by omega))

theorem sZ_1 : sZ (F := Ideal) (once qx) kb (ix3 (1 : Fin 8) r j) = bs qx kb 1 r j := by
  pointwise [sZ, k0_pay45]
  rw [dif_pos (by omega)]
  refine (Finset.sum_congr rfl fun x _ => congrArg (· * _) ((congrArg (fun t => (once (F := Ideal) qx).q0 (ix2 t x))
    (Fin.ext (by first | rfl | (simp only []; omega) | (simp only []; done)))).trans (q0_odd qx r x))).trans ?_
  simp only [ite_mul, zero_mul]
  rw [sum_odd]
  unfold bs
  refine Finset.sum_congr rfl fun d _ => ?_
  exact congrArg₂ (fun a c => qx (ix3 0 r a) * cq * kb (ix3 0 j c)) (Fin.ext (show (64 + d.val) = 1 * 64 + d.val by omega)) (Fin.ext (show (64 + d.val) = 1 * 64 + d.val by omega))

theorem sZ_2 : sZ (F := Ideal) (once qx) kb (ix3 (2 : Fin 8) r j) = bs qx kb 2 r j := by
  pointwise [sZ, k0_pay45]
  rw [dif_pos (by omega)]
  refine (Finset.sum_congr rfl fun x _ => congrArg (· * _) ((congrArg (fun t => (once (F := Ideal) qx).q1 (ix2 t x))
    (Fin.ext (by first | rfl | (simp only []; omega) | (simp only []; done)))).trans (q1_even qx r x))).trans ?_
  simp only [ite_mul, zero_mul]
  rw [sum_even]
  unfold bs
  refine Finset.sum_congr rfl fun d _ => ?_
  exact congrArg₂ (fun a c => qx (ix3 0 r a) * cq * kb (ix3 0 j c)) (Fin.ext (show 128 + d.val = 2 * 64 + d.val by omega)) (Fin.ext (show 128 + d.val = 2 * 64 + d.val by omega))

theorem sZ_3 : sZ (F := Ideal) (once qx) kb (ix3 (3 : Fin 8) r j) = bs qx kb 3 r j := by
  pointwise [sZ, k0_pay45]
  rw [dif_neg (by omega), dif_pos (by omega)]
  refine (Finset.sum_congr rfl fun x _ => congrArg (· * _) ((congrArg (fun t => (once (F := Ideal) qx).q1 (ix2 t x))
    (Fin.ext (by first | rfl | (simp only []; omega) | (simp only []; done)))).trans (q1_odd qx r x))).trans ?_
  simp only [ite_mul, zero_mul]
  rw [sum_odd]
  unfold bs
  refine Finset.sum_congr rfl fun d _ => ?_
  exact congrArg₂ (fun a c => qx (ix3 0 r a) * cq * kb (ix3 0 j c)) (Fin.ext (show 128 + (64 + d.val) = 3 * 64 + d.val by omega)) (Fin.ext (show 128 + (64 + d.val) = 3 * 64 + d.val by omega))

theorem sZ_4 : sZ (F := Ideal) (once qx) kb (ix3 (4 : Fin 8) r j) = bs qx kb 4 r j := by
  pointwise [sZ, k0_pay45]
  rw [dif_neg (by omega), dif_neg (by omega), dif_pos (by omega)]
  refine (Finset.sum_congr rfl fun x _ => congrArg (· * _) ((congrArg (fun t => (once (F := Ideal) qx).q2 (ix2 t x))
    (Fin.ext (by first | rfl | (simp only []; omega) | (simp only []; done)))).trans (q2_even qx r x))).trans ?_
  simp only [ite_mul, zero_mul]
  rw [sum_even]
  unfold bs
  refine Finset.sum_congr rfl fun d _ => ?_
  exact congrArg₂ (fun a c => qx (ix3 0 r a) * cq * kb (ix3 0 j c)) (Fin.ext (show 256 + d.val = 4 * 64 + d.val by omega)) (Fin.ext (show 256 + d.val = 4 * 64 + d.val by omega))

theorem sZ_5 : sZ (F := Ideal) (once qx) kb (ix3 (5 : Fin 8) r j) = bs qx kb 5 r j := by
  pointwise [sZ, k0_pay45]
  rw [dif_neg (by omega), dif_neg (by omega), dif_pos (by omega)]
  refine (Finset.sum_congr rfl fun x _ => congrArg (· * _) ((congrArg (fun t => (once (F := Ideal) qx).q2 (ix2 t x))
    (Fin.ext (by first | rfl | (simp only []; omega) | (simp only []; done)))).trans (q2_odd qx r x))).trans ?_
  simp only [ite_mul, zero_mul]
  rw [sum_odd]
  unfold bs
  refine Finset.sum_congr rfl fun d _ => ?_
  exact congrArg₂ (fun a c => qx (ix3 0 r a) * cq * kb (ix3 0 j c)) (Fin.ext (show 256 + (64 + d.val) = 5 * 64 + d.val by omega)) (Fin.ext (show 256 + (64 + d.val) = 5 * 64 + d.val by omega))

theorem sZ_6 : sZ (F := Ideal) (once qx) kb (ix3 (6 : Fin 8) r j) = bs qx kb 6 r j := by
  pointwise [sZ, k0_pay45]
  rw [dif_neg (by omega), dif_neg (by omega), dif_neg (by omega)]
  refine (Finset.sum_congr rfl fun x _ => congrArg (· * _) ((congrArg (fun t => (once (F := Ideal) qx).q3 (ix2 t x))
    (Fin.ext (by first | rfl | (simp only []; omega) | (simp only []; done)))).trans (q3_even qx r x))).trans ?_
  simp only [ite_mul, zero_mul]
  rw [sum_even]
  unfold bs
  refine Finset.sum_congr rfl fun d _ => ?_
  exact congrArg₂ (fun a c => qx (ix3 0 r a) * cq * kb (ix3 0 j c)) (Fin.ext (show 384 + d.val = 6 * 64 + d.val by omega)) (Fin.ext (show 384 + d.val = 6 * 64 + d.val by omega))

theorem sZ_7 : sZ (F := Ideal) (once qx) kb (ix3 (7 : Fin 8) r j) = bs qx kb 7 r j := by
  pointwise [sZ, k0_pay45]
  rw [dif_neg (by omega), dif_neg (by omega), dif_neg (by omega)]
  refine (Finset.sum_congr rfl fun x _ => congrArg (· * _) ((congrArg (fun t => (once (F := Ideal) qx).q3 (ix2 t x))
    (Fin.ext (by first | rfl | (simp only []; omega) | (simp only []; done)))).trans (q3_odd qx r x))).trans ?_
  simp only [ite_mul, zero_mul]
  rw [sum_odd]
  unfold bs
  refine Finset.sum_congr rfl fun d _ => ?_
  exact congrArg₂ (fun a c => qx (ix3 0 r a) * cq * kb (ix3 0 j c)) (Fin.ext (show 384 + (64 + d.val) = 7 * 64 + d.val by omega)) (Fin.ext (show 384 + (64 + d.val) = 7 * 64 + d.val by omega))

/-- The scores at any head. -/
theorem sZ_at (h : Fin 8) : sZ (F := Ideal) (once qx) kb (ix3 h r j) = bs qx kb h r j := by
  match h with
  | ⟨0, _⟩ => exact sZ_0 qx kb r j
  | ⟨1, _⟩ => exact sZ_1 qx kb r j
  | ⟨2, _⟩ => exact sZ_2 qx kb r j
  | ⟨3, _⟩ => exact sZ_3 qx kb r j
  | ⟨4, _⟩ => exact sZ_4 qx kb r j
  | ⟨5, _⟩ => exact sZ_5 qx kb r j
  | ⟨6, _⟩ => exact sZ_6 qx kb r j
  | ⟨7, _⟩ => exact sZ_7 qx kb r j

/-- The diagonal block's scores are made the same way. -/
theorem dZ_at (h : Fin 8) : dZ (F := Ideal) qx kb (ix3 h r j) = bs qx kb h r j := sZ_at qx kb r j h

end Scores

end Cert.Proof.Val

end
-- ==== Proof.Val.Step.lean ====
/-
  One block of keys, over the extended reals: the masked logarithms, the weights, the running sums and the accumulated
  values at an entry, on the diagonal and before it.
-/
module

public import proofs.«01_k».proof.Proof.Val.Scores

@[expose] public section

set_option maxRecDepth 16384

noncomputable section

namespace Cert.Proof.Val

open Idealize.ShloMosaic
open Cert.KernelIdeal Cert.KernelIdeal.Gen Cert.Proof.KI
open scoped BigOperators

/-! ### The masks -/

/-- On the diagonal a key counts when it is before its row in the block. -/
theorem dMk2_at (r j : Fin 128) : k0_pay15 rowNo colNo (ix2 r j) = BitVec.ofBool (decide (j.val < r.val)) := by
  pointwise [k0_pay15]
  rw [WordCmp.cmpi_slt_ofNat (by omega) (by omega)]

theorem dMk3_at (r j : Fin 128) : k0_pay18 rowNo colNo (ix3 0 r j) = BitVec.ofBool (decide (j.val < r.val)) := by
  pointwise [k0_pay18, k0_pay15]
  rw [WordCmp.cmpi_slt_ofNat (by omega) (by omega)]

/-- The word of a block to come is its number. -/
theorem kbw_succ : ∀ n < 64, kbw (n + 1) = BitVec.ofNat 32 n := by decide +kernel

/-- Before it a key counts when it is real. -/
theorem sMk_at (n : ℕ) (hn : n < 64) (r j : Fin 128) :
    k0_pay43 colNo (kbw (n + 1)) (ix2 r j) = BitVec.ofBool (decide (112 ≤ n * 128 + j.val)) := by
  have e : IntOp.addi (Scalar.muli (BitVec.ofNat 32 n) 128#32) (BitVec.ofNat 32 j.val) = BitVec.ofNat 32 (n * 128 + j.val) := by
    rw [BitVec.ofNat_add, BitVec.ofNat_mul]; rfl
  rw [kbw_succ n hn]
  pointwise [k0_pay43]
  rw [e, WordCmp.cmpi_sge_ofNat (by omega) (by omega)]

/-! ### The logarithms of one minus the weights -/

section

variable (qx kb vb : FVec Ideal S1x128x512 .bf16) (h : Fin 8) (r j : Fin 128)

theorem dL_at : 0 - dL (F := Ideal) qx kb (ix3 h r j) = lg (bs qx kb h r j) := by
  rw [← dZ_at]
  pointwise [dL, k0_pay19]
  rfl

/-- The masked logarithms before the diagonal. -/
theorem sL_at (n : ℕ) (hn : n < 64) :
    sL (F := Ideal) (once qx) (kbw (n + 1)) kb (ix3 h r j) = if 112 ≤ n * 128 + j.val then lg (bs qx kb h r j) else 0 := by
  rw [← sZ_at]
  pointwise [sL, k0_pay46]
  refine (congrArg (fun c => Scalar.select c _ _) (sMk_at n hn r j)).trans ?_
  rw [select_decide]
  rfl

/-- The low and high parts' sums over a triangle. -/
theorem sRt_at (n : ℕ) (hn : n < 64) (s : Fin 256) :
    sHi (F := Ideal) (once qx) (kbw (n + 1)) kb (ix2 ⟨h.val * 128 + r.val, by omega⟩ s)
        + ∑ x, sLo (F := Ideal) (once qx) (kbw (n + 1)) kb (ix2 ⟨h.val * 128 + r.val, by omega⟩ x) * (once (F := Ideal) qx).tri (ix2 x s)
      = ∑ x : Fin 128, if s.val < x.val ∨ 128 ≤ s.val then sL (F := Ideal) (once qx) (kbw (n + 1)) kb (ix3 h r x) else 0 := by
  have hhi : sHi (F := Ideal) (once qx) (kbw (n + 1)) kb (ix2 ⟨h.val * 128 + r.val, by omega⟩ s)
      = ∑ x, sL (F := Ideal) (once qx) (kbw (n + 1)) kb (ix3 h r x) * (once (F := Ideal) qx).tri (ix2 x s) := by
    pointwise [sHi, k0_pay50, k0_pay48, k0_pay47]
    rfl
  have hlo : ∀ x, sLo (F := Ideal) (once qx) (kbw (n + 1)) kb (ix2 ⟨h.val * 128 + r.val, by omega⟩ x)
      = sL (F := Ideal) (once qx) (kbw (n + 1)) kb (ix3 h r x) - sL (F := Ideal) (once qx) (kbw (n + 1)) kb (ix3 h r x) := fun x => by
    pointwise [sLo, k0_pay49, k0_pay48, k0_pay47]
    rfl
  have htri : ∀ x : Fin 128, ((once (F := Ideal) qx).tri (ix2 x s) : EReal) = if s.val < x.val ∨ 128 ≤ s.val then 1 else 0 := fun x => tri_at x s
  rw [hhi]
  simp only [hlo, htri]
  refine split_sum _ (fun x => ?_) _
  rw [sL_at _ _ _ _ _ n hn]
  split
  · exact lg_ne_top _
  · exact EReal.zero_ne_top

theorem ld_rR (R : FVec Ideal S8x128x128 .f32) : ld rR.toLoadRect R (ix3 h r j) = R (ix3 h r j) :=
  ld_unit _ R _ _ fun a => by fin_cases a <;> exact (Nat.zero_add _).symm

/-- The weights before the diagonal. -/
theorem sW_at (R : FVec Ideal S8x128x128 .f32) (n : ℕ) (hn : n < 64) :
    sW (F := Ideal) (once qx) (kbw (n + 1)) kb R (ix3 h r j)
      = if 112 ≤ n * 128 + j.val then
          Ideal.exp (bs qx kb h r j + sL (F := Ideal) (once qx) (kbw (n + 1)) kb (ix3 h r j)
            + (∑ x : Fin 128, if j.val < x.val then sL (F := Ideal) (once qx) (kbw (n + 1)) kb (ix3 h r x) else 0) + R (ix3 h r j))
        else 0 := by
  have e := sRt_at qx kb h r n hn ⟨j.val, by omega⟩
  simp only [show ¬ (128 ≤ j.val) by omega, or_false] at e
  rw [← e, ← sZ_at, ← ld_rR h r j R]
  pointwise [sW, k0_pay52, k0_pay51]
  refine (congrArg (fun c => Scalar.select c _ _) (sMk_at n hn r j)).trans ?_
  rw [select_decide]

/-- The running sums before the diagonal. -/
theorem sRun_at (R : FVec Ideal S8x128x128 .f32) (n : ℕ) (hn : n < 64) :
    sRun (F := Ideal) (once qx) (kbw (n + 1)) kb R (ix3 h r j)
      = R (ix3 h r j) + ∑ x : Fin 128, sL (F := Ideal) (once qx) (kbw (n + 1)) kb (ix3 h r x) := by
  have e := sRt_at qx kb h r n hn ⟨128 + j.val, by omega⟩
  simp only [show 128 ≤ 128 + j.val by omega, or_true, if_true] at e
  rw [← e, ← ld_rR h r j R]
  unfold sRun
  refine (put_unit_in _ _ R (ix3 h r j) (ix3 h r j) fun a => by fin_cases a <;> exact (Nat.zero_add _).symm).trans ?_
  pointwise [k0_pay53, k0_pay51]

/-! ### The diagonal block -/

/-- Its masked logarithms. -/
def dlm (qx kb : FVec Ideal S1x128x512 .bf16) (h : Fin 8) (r j : Fin 128) : EReal := if j.val < r.val then lg (bs qx kb h r j) else 0

/-- Its logarithms' low and high parts' sums over a triangle. -/
theorem dRt_at (s : Fin 256) :
    (∑ x : Fin 128, Scalar.select (k0_pay18 rowNo colNo (ix3 0 r x)) ((0 - dL (F := Ideal) qx kb (ix3 h r x)) * k0_pay3 (F := Ideal) (ix2 x s)) 0)
      + (∑ x : Fin 128, (Scalar.select (k0_pay18 rowNo colNo (ix3 0 r x)) (0 - dL (F := Ideal) qx kb (ix3 h r x)) 0
          - Scalar.select (k0_pay18 rowNo colNo (ix3 0 r x)) (0 - dL (F := Ideal) qx kb (ix3 h r x)) 0) * k0_pay3 (F := Ideal) (ix2 x s))
      = ∑ x : Fin 128, if s.val < x.val ∨ 128 ≤ s.val then dlm qx kb h r x else 0 := by
  have e : ∀ x, Scalar.select (k0_pay18 rowNo colNo (ix3 0 r x)) (0 - dL (F := Ideal) qx kb (ix3 h r x)) 0 = dlm qx kb h r x := fun x => by
    rw [dMk3_at, select_decide, dL_at]; rfl
  have e' : ∀ x, Scalar.select (k0_pay18 rowNo colNo (ix3 0 r x)) ((0 - dL (F := Ideal) qx kb (ix3 h r x)) * k0_pay3 (F := Ideal) (ix2 x s)) 0
      = dlm qx kb h r x * (if s.val < x.val ∨ 128 ≤ s.val then 1 else 0) := fun x => by
    rw [dMk3_at, select_decide, dL_at, tri_at, dlm, ite_mul, zero_mul]
  have e2 : ∀ x, (Scalar.select (k0_pay18 rowNo colNo (ix3 0 r x)) (0 - dL (F := Ideal) qx kb (ix3 h r x)) 0
          - Scalar.select (k0_pay18 rowNo colNo (ix3 0 r x)) (0 - dL (F := Ideal) qx kb (ix3 h r x)) 0) * k0_pay3 (F := Ideal) (ix2 x s)
      = (dlm qx kb h r x - dlm qx kb h r x) * (if s.val < x.val ∨ 128 ≤ s.val then 1 else 0) := fun x => by
    rw [e, tri_at]
  refine (congrArg₂ (· + ·) (Finset.sum_congr rfl fun x _ => e' x) (Finset.sum_congr rfl fun x _ => e2 x)).trans
    (split_sum (fun x => dlm qx kb h r x) (fun x => ?_) (fun x => s.val < x.val ∨ 128 ≤ s.val))
  unfold dlm
  split
  · exact lg_ne_top _
  · exact EReal.zero_ne_top

/-- Its weights. -/
theorem dW_at : dW (F := Ideal) qx kb (ix3 h r j)
      = if j.val < r.val then
          Ideal.exp (bs qx kb h r j + dlm qx kb h r j + ∑ x : Fin 128, if j.val < x.val then dlm qx kb h r x else 0)
        else 0 := by
  have e := dRt_at qx kb h r ⟨j.val, by omega⟩
  simp only [show ¬ (128 ≤ j.val) by omega, or_false] at e
  have e1 : Scalar.select (k0_pay18 rowNo colNo (ix3 0 r j)) (0 - dL (F := Ideal) qx kb (ix3 h r j)) 0 = dlm qx kb h r j := by
    rw [dMk3_at, select_decide, dL_at]; rfl
  rw [← e, ← e1, ← dZ_at]
  pointwise [dW, k0_pay22, k0_pay21, k0_pay20]
  refine (congrArg (fun c => Scalar.select c _ _) (dMk2_at r j)).trans ?_
  rw [select_decide]

/-- Its running sums. -/
theorem dRun_at (R : FVec Ideal S8x128x128 .f32) : dRun (F := Ideal) qx kb R (ix3 h r j) = ∑ x : Fin 128, dlm qx kb h r x := by
  have e := dRt_at qx kb h r ⟨128 + j.val, by omega⟩
  simp only [show 128 ≤ 128 + j.val by omega, or_true, if_true] at e
  rw [← e]
  unfold dRun
  refine (put_unit_in _ _ R (ix3 h r j) (ix3 h r j) fun a => by fin_cases a <;> exact (Nat.zero_add _).symm).trans ?_
  pointwise [k0_pay23, k0_pay21, k0_pay20]

end

end Cert.Proof.Val

end
-- ==== Proof.Val.Acc.lean ====
/-
  The accumulated values of one block of keys, at an entry, over the extended reals: each pair's matrix product of both
  heads' weights with the values masked to each head's lanes is, at a lane, its own head's weights with the values.
-/
module

public import proofs.«01_k».proof.Proof.Val.Step

@[expose] public section

set_option maxRecDepth 16384

noncomputable section

namespace Cert.Proof.Val

open Idealize.ShloMosaic
open Cert.KernelIdeal Cert.KernelIdeal.Gen Cert.Proof.KI
open scoped BigOperators

/-- Column `x` of pair `p`'s strip. -/
abbrev col (p : Fin 4) (x : Fin 128) : Fin 512 := ⟨p.val * 128 + x.val, by omega⟩

/-- The two heads' masked sums at a lane: its own head's sum. -/
theorem pick {n : ℕ} (c : Prop) [Decidable c] (W0 W1 v : Fin n → EReal) :
    (∑ y, W0 y * if c then 0 else v y) + (∑ y, W1 y * if c then v y else 0) = ∑ y, (if c then W1 y else W0 y) * v y := by
  by_cases h : c <;> simp [h]

/-- The head of a strip's lane. -/
theorem head_pick (p : Fin 4) (x : Fin 128) (f : Fin 8 → EReal) :
    (if 64 ≤ x.val then f ⟨p.val * 2 + 1, by omega⟩ else f ⟨p.val * 2, by omega⟩) = f (headOf (col p x)) := by
  by_cases h : 64 ≤ x.val
  · rw [if_pos h]
    exact congrArg f (Fin.ext (by simp only [headOf, col]; omega))
  · rw [if_neg h]
    exact congrArg f (Fin.ext (by simp only [headOf, col]; omega))

/-- What a block adds at column `e` of row `r`: its weights with the values. -/
def pvAt (W : FVec Ideal S8x128x128 .bf16) (vb : FVec Ideal S1x128x512 .bf16) (r : Fin 128) (e : Fin 512) : EReal :=
  ∑ y : Fin 128, W (ix3 (headOf e) r y) * vb (ix3 0 y e)

/-- A strip's two masked products are that. -/
theorem strip (W : FVec Ideal S8x128x128 .bf16) (vb : FVec Ideal S1x128x512 .bf16) (r x : Fin 128) (p : Fin 4) :
    ((∑ y : Fin 128, W (ix3 ⟨p.val * 2, by omega⟩ r y) * if 64 ≤ x.val then (0 : EReal) else vb (ix3 0 y (col p x)))
        + ∑ y : Fin 128, W (ix3 ⟨p.val * 2 + 1, by omega⟩ r y) * if 64 ≤ x.val then vb (ix3 0 y (col p x)) else (0 : EReal))
      = pvAt W vb r (col p x) :=
  (pick (64 ≤ x.val) (fun y => W (ix3 ⟨p.val * 2, by omega⟩ r y)) (fun y => W (ix3 ⟨p.val * 2 + 1, by omega⟩ r y))
    (fun y => vb (ix3 0 y (col p x)))).trans
  (Finset.sum_congr rfl fun y _ => congrArg (· * vb (ix3 0 y (col p x))) (head_pick p x fun h => W (ix3 h r y)))

section Puts

variable {α : Type} (w0 w1 w2 w3 : S128x128.Idx → α) (A : S128x512.Idx → α) (r x : Fin 128)

theorem ldA0 : ld rA0.toLoadRect A (ix2 r x) = A (ix2 r (col 0 x)) :=
  ld_unit _ A _ _ fun a => by fin_cases a <;> first | exact (Nat.zero_add _).symm | rfl
theorem putA0 : put rA0 w0 A (ix2 r (col 0 x)) = w0 (ix2 r x) :=
  put_unit_in _ _ A _ (ix2 r x) fun a => by fin_cases a <;> first | exact (Nat.zero_add _).symm | rfl
theorem putA1_0 : put rA1 w1 A (ix2 r (col 0 x)) = A (ix2 r (col 0 x)) :=
  put_unit_out _ _ A _ 1 (by have := x.isLt; left; show 0 + x.val < 128; omega)
theorem putA2_0 : put rA2 w2 A (ix2 r (col 0 x)) = A (ix2 r (col 0 x)) :=
  put_unit_out _ _ A _ 1 (by have := x.isLt; left; show 0 + x.val < 256; omega)
theorem putA3_0 : put rA3 w3 A (ix2 r (col 0 x)) = A (ix2 r (col 0 x)) :=
  put_unit_out _ _ A _ 1 (by have := x.isLt; left; show 0 + x.val < 384; omega)
theorem ldA1 : ld rA1.toLoadRect A (ix2 r x) = A (ix2 r (col 1 x)) :=
  ld_unit _ A _ _ fun a => by fin_cases a <;> first | exact (Nat.zero_add _).symm | rfl
theorem putA1 : put rA1 w1 A (ix2 r (col 1 x)) = w1 (ix2 r x) :=
  put_unit_in _ _ A _ (ix2 r x) fun a => by fin_cases a <;> first | exact (Nat.zero_add _).symm | rfl
theorem putA0_1 : put rA0 w0 A (ix2 r (col 1 x)) = A (ix2 r (col 1 x)) :=
  put_unit_out _ _ A _ 1 (by have := x.isLt; right; show 0 + 128 ≤ 128 + x.val; omega)
theorem putA2_1 : put rA2 w2 A (ix2 r (col 1 x)) = A (ix2 r (col 1 x)) :=
  put_unit_out _ _ A _ 1 (by have := x.isLt; left; show 128 + x.val < 256; omega)
theorem putA3_1 : put rA3 w3 A (ix2 r (col 1 x)) = A (ix2 r (col 1 x)) :=
  put_unit_out _ _ A _ 1 (by have := x.isLt; left; show 128 + x.val < 384; omega)
theorem ldA2 : ld rA2.toLoadRect A (ix2 r x) = A (ix2 r (col 2 x)) :=
  ld_unit _ A _ _ fun a => by fin_cases a <;> first | exact (Nat.zero_add _).symm | rfl
theorem putA2 : put rA2 w2 A (ix2 r (col 2 x)) = w2 (ix2 r x) :=
  put_unit_in _ _ A _ (ix2 r x) fun a => by fin_cases a <;> first | exact (Nat.zero_add _).symm | rfl
theorem putA0_2 : put rA0 w0 A (ix2 r (col 2 x)) = A (ix2 r (col 2 x)) :=
  put_unit_out _ _ A _ 1 (by have := x.isLt; right; show 0 + 128 ≤ 256 + x.val; omega)
theorem putA1_2 : put rA1 w1 A (ix2 r (col 2 x)) = A (ix2 r (col 2 x)) :=
  put_unit_out _ _ A _ 1 (by have := x.isLt; right; show 128 + 128 ≤ 256 + x.val; omega)
theorem putA3_2 : put rA3 w3 A (ix2 r (col 2 x)) = A (ix2 r (col 2 x)) :=
  put_unit_out _ _ A _ 1 (by have := x.isLt; left; show 256 + x.val < 384; omega)
theorem ldA3 : ld rA3.toLoadRect A (ix2 r x) = A (ix2 r (col 3 x)) :=
  ld_unit _ A _ _ fun a => by fin_cases a <;> first | exact (Nat.zero_add _).symm | rfl
theorem putA3 : put rA3 w3 A (ix2 r (col 3 x)) = w3 (ix2 r x) :=
  put_unit_in _ _ A _ (ix2 r x) fun a => by fin_cases a <;> first | exact (Nat.zero_add _).symm | rfl
theorem putA0_3 : put rA0 w0 A (ix2 r (col 3 x)) = A (ix2 r (col 3 x)) :=
  put_unit_out _ _ A _ 1 (by have := x.isLt; right; show 0 + 128 ≤ 384 + x.val; omega)
theorem putA1_3 : put rA1 w1 A (ix2 r (col 3 x)) = A (ix2 r (col 3 x)) :=
  put_unit_out _ _ A _ 1 (by have := x.isLt; right; show 128 + 128 ≤ 384 + x.val; omega)
theorem putA2_3 : put rA2 w2 A (ix2 r (col 3 x)) = A (ix2 r (col 3 x)) :=
  put_unit_out _ _ A _ 1 (by have := x.isLt; right; show 256 + 128 ≤ 384 + x.val; omega)

end Puts

section Acc

variable (qx kb vb : FVec Ideal S1x128x512 .bf16) (r x : Fin 128)

theorem dStrip0 : (k0_pay24 (F := Ideal) k0_pay2 k0_pay3 (k0_pay15 rowNo colNo) (k0_pay16 vb) (dZ qx kb) (k0_pay18 rowNo colNo) (dL qx kb) (Scalar.ofBits .f32 0x00000000#32)) (ix2 r x) = pvAt (dW (F := Ideal) qx kb) vb r (col 0 x) := by
  refine Eq.trans ?_ (strip (dW (F := Ideal) qx kb) vb r x 0)
  pointwise [k0_pay24, k0_pay16, odd_at]
  rw [show col 0 x = (⟨x.val, by omega⟩ : Fin 512) from Fin.ext (Nat.zero_add _)]
  rw [show k0_pay22 (F := Ideal) k0_pay3 (k0_pay15 rowNo colNo) (dZ qx kb) (k0_pay18 rowNo colNo) (dL qx kb) (0 : EReal) = dW qx kb from
    congrArg (k0_pay22 (F := Ideal) k0_pay3 (k0_pay15 rowNo colNo) (dZ qx kb) (k0_pay18 rowNo colNo) (dL qx kb)) Ideal.ofBits_zero_f32.symm]

theorem dStrip1 : (k0_pay27 (F := Ideal) k0_pay2 (dW qx kb) (k0_pay25 (k0_pay16 vb)) k0_pay26) (ix2 r x) = pvAt (dW (F := Ideal) qx kb) vb r (col 1 x) := by
  refine Eq.trans ?_ (strip (dW (F := Ideal) qx kb) vb r x 1)
  pointwise [k0_pay27, k0_pay25, k0_pay26, k0_pay16, odd_at]
  rfl

theorem dStrip2 : (k0_pay28 (F := Ideal) k0_pay2 (k0_pay16 vb) (dW qx kb)) (ix2 r x) = pvAt (dW (F := Ideal) qx kb) vb r (col 2 x) := by
  refine Eq.trans ?_ (strip (dW (F := Ideal) qx kb) vb r x 2)
  pointwise [k0_pay28, k0_pay16, odd_at]
  rfl

theorem dStrip3 : (k0_pay29 (F := Ideal) k0_pay2 (k0_pay16 vb) (dW qx kb)) (ix2 r x) = pvAt (dW (F := Ideal) qx kb) vb r (col 3 x) := by
  refine Eq.trans ?_ (strip (dW (F := Ideal) qx kb) vb r x 3)
  pointwise [k0_pay29, k0_pay16, odd_at]
  rfl

theorem sStrip0 (w : BitVec 32) (R : FVec Ideal S8x128x128 .f32) (B : FVec Ideal S128x128 .f32) :
    (k0_pay54 k0_pay3 k0_pay2 (k0_pay43 colNo w) (k0_pay44 vb) (sZ (once qx) kb) (sL (once qx) w kb) (sLo (once qx) w kb) (sHi (once qx) w kb) (constant S1024x256 .f32 0x00000000#32) (ld rR.toLoadRect R) B) (ix2 r x) = B (ix2 r x) + pvAt (sW (F := Ideal) (once qx) w kb R) vb r (col 0 x) := by
  refine Eq.trans ?_ (congrArg (B (ix2 r x) + ·) (strip (sW (F := Ideal) (once qx) w kb R) vb r x 0))
  pointwise [k0_pay54, k0_pay44, odd_at]
  rw [show col 0 x = (⟨x.val, by omega⟩ : Fin 512) from Fin.ext (Nat.zero_add _)]
  rw [show k0_pay52 (F := Ideal) k0_pay3 (k0_pay43 colNo w) (sZ (once qx) kb) (sL (once qx) w kb) (sLo (once qx) w kb) (sHi (once qx) w kb) (constant S1024x256 .f32 0x00000000#32) (ld rR.toLoadRect R) = sW (once qx) w kb R from rfl]

theorem sStrip1 (w : BitVec 32) (R : FVec Ideal S8x128x128 .f32) (B : FVec Ideal S128x128 .f32) :
    (k0_pay58 k0_pay2 (sW (once qx) w kb R) (k0_pay55 (k0_pay44 vb)) k0_pay56 (k0_pay57 k0_pay2 (k0_pay44 vb)) B) (ix2 r x) = B (ix2 r x) + pvAt (sW (F := Ideal) (once qx) w kb R) vb r (col 1 x) := by
  refine Eq.trans ?_ (congrArg (B (ix2 r x) + ·) (strip (sW (F := Ideal) (once qx) w kb R) vb r x 1))
  pointwise [k0_pay58, k0_pay55, k0_pay56, k0_pay57, k0_pay44, odd_at]
  rfl

theorem sStrip2 (w : BitVec 32) (R : FVec Ideal S8x128x128 .f32) (B : FVec Ideal S128x128 .f32) :
    (k0_pay59 k0_pay2 (k0_pay44 vb) (sW (once qx) w kb R) B) (ix2 r x) = B (ix2 r x) + pvAt (sW (F := Ideal) (once qx) w kb R) vb r (col 2 x) := by
  refine Eq.trans ?_ (congrArg (B (ix2 r x) + ·) (strip (sW (F := Ideal) (once qx) w kb R) vb r x 2))
  pointwise [k0_pay59, k0_pay44, odd_at]
  rfl

theorem sStrip3 (w : BitVec 32) (R : FVec Ideal S8x128x128 .f32) (B : FVec Ideal S128x128 .f32) :
    (k0_pay61 (k0_pay60 k0_pay2 (k0_pay44 vb) (sW (once qx) w kb R) B)) (ix2 r x) = B (ix2 r x) + pvAt (sW (F := Ideal) (once qx) w kb R) vb r (col 3 x) := by
  refine Eq.trans ?_ (congrArg (B (ix2 r x) + ·) (strip (sW (F := Ideal) (once qx) w kb R) vb r x 3))
  pointwise [k0_pay61, k0_pay60, k0_pay44, odd_at]
  rfl

/-- A column is a lane of one of the four strips. -/
theorem exists_col (e : Fin 512) : ∃ (p : Fin 4) (x : Fin 128), e = col p x :=
  ⟨⟨e.val / 128, by omega⟩, ⟨e.val % 128, Nat.mod_lt _ (by omega)⟩, Fin.ext (by show e.val = e.val / 128 * 128 + e.val % 128; omega)⟩

/-- The accumulated values after the diagonal block. -/
theorem dAcc_at (A : FVec Ideal S128x512 .f32) (e : Fin 512) :
    dAcc (F := Ideal) qx kb vb A (ix2 r e) = pvAt (dW (F := Ideal) qx kb) vb r e := by
  obtain ⟨p, x, rfl⟩ := exists_col e
  unfold dAcc dAcc0
  fin_cases p
  · exact (putA3_0 ..).trans ((putA2_0 ..).trans ((putA1_0 ..).trans ((putA0 ..).trans (dStrip0 qx kb vb r x))))
  · exact (putA3_1 ..).trans ((putA2_1 ..).trans ((putA1 ..).trans (dStrip1 qx kb vb r x)))
  · exact (putA3_2 ..).trans ((putA2 ..).trans (dStrip2 qx kb vb r x))
  · exact (putA3 ..).trans (dStrip3 qx kb vb r x)

/-- The accumulated values after another block. -/
theorem sAcc_at (w : BitVec 32) (R : FVec Ideal S8x128x128 .f32) (A : FVec Ideal S128x512 .f32) (e : Fin 512) :
    sAcc (F := Ideal) (once qx) w kb vb R A (ix2 r e) = A (ix2 r e) + pvAt (sW (F := Ideal) (once qx) w kb R) vb r e := by
  obtain ⟨p, x, rfl⟩ := exists_col e
  have h0 : ∀ x, sAcc0 (F := Ideal) (once qx) w kb vb R A (ix2 r (col 0 x)) = A (ix2 r (col 0 x)) + pvAt (sW (F := Ideal) (once qx) w kb R) vb r (col 0 x) := fun x =>
    (putA0 ..).trans ((sStrip0 qx kb vb r x w R _).trans (congrArg (· + _) (ldA0 A r x)))
  have h1 : ∀ x, sAcc1 (F := Ideal) (once qx) w kb vb R A (ix2 r (col 1 x)) = A (ix2 r (col 1 x)) + pvAt (sW (F := Ideal) (once qx) w kb R) vb r (col 1 x) := fun x =>
    (putA1 ..).trans ((sStrip1 qx kb vb r x w R _).trans (congrArg (· + _) ((ldA1 _ r x).trans (putA0_1 ..))))
  have h2 : ∀ x, sAcc2 (F := Ideal) (once qx) w kb vb R A (ix2 r (col 2 x)) = A (ix2 r (col 2 x)) + pvAt (sW (F := Ideal) (once qx) w kb R) vb r (col 2 x) := fun x =>
    (putA2 ..).trans ((sStrip2 qx kb vb r x w R _).trans (congrArg (· + _) ((ldA2 _ r x).trans ((putA1_2 ..).trans (putA0_2 ..)))))
  fin_cases p
  · exact (putA3_0 ..).trans ((putA2_0 ..).trans ((putA1_0 ..).trans (h0 x)))
  · exact (putA3_1 ..).trans ((putA2_1 ..).trans (h1 x))
  · exact (putA3_2 ..).trans (h2 x)
  · exact (putA3 ..).trans ((sStrip3 qx kb vb r x w R _).trans (congrArg (· + _) ((ldA3 _ r x).trans ((putA2_3 ..).trans ((putA1_3 ..).trans (putA0_3 ..))))))

end Acc

/-- An entry is below the maximum of the slabs. -/
theorem le_pay30 (a0 a1 a2 a3 a4 a5 a6 a7 : FVec Ideal S1x128x128 .f32) (r j : Fin 128) (x : EReal)
    (hx : x ≤ max (max (max (max (max (max (max (a0 (ix3 0 r j)) (a1 (ix3 0 r j))) (a2 (ix3 0 r j))) (a3 (ix3 0 r j)))
      (a4 (ix3 0 r j))) (a5 (ix3 0 r j))) (a6 (ix3 0 r j))) (a7 (ix3 0 r j))) :
    x ≤ k0_pay30 (F := Ideal) a0 a1 a2 a3 a4 a5 a6 a7 := by
  pointwise [k0_pay30]
  exact (Finset.le_fold_max x).2 (.inr ⟨(r, j), Finset.mem_univ _, hx⟩)

theorem pay62_eq (a0 a1 a2 a3 a4 a5 a6 a7 : FVec Ideal S1x128x128 .f32) :
    k0_pay62 (F := Ideal) a0 a1 a2 a3 a4 a5 a6 a7 = k0_pay30 (F := Ideal) a0 a1 a2 a3 a4 a5 a6 a7 := rfl

theorem alive2_eq (R : FVec Ideal S8x128x128 .f32) : alive2 (F := Ideal) R = alive1 (F := Ideal) R := by
  unfold alive1 alive2
  rw [pay62_eq]

/-- The named threshold is below every number. -/
theorem dead_eq : (dead : Ideal .f32) = (⊥ : EReal) := by
  rfl

theorem ld_rR0 (R : FVec Ideal S8x128x128 .f32) (r j : Fin 128) : ld rR0.toLoadRect R (ix3 0 r j) = R (ix3 0 r j) :=
  ld_unit _ R _ _ fun a => by fin_cases a <;> first | exact (Nat.zero_add _).symm | rfl
theorem ld_rR1 (R : FVec Ideal S8x128x128 .f32) (r j : Fin 128) : ld rR1.toLoadRect R (ix3 0 r j) = R (ix3 1 r j) :=
  ld_unit _ R _ _ fun a => by fin_cases a <;> first | exact (Nat.zero_add _).symm | rfl
theorem ld_rR2 (R : FVec Ideal S8x128x128 .f32) (r j : Fin 128) : ld rR2.toLoadRect R (ix3 0 r j) = R (ix3 2 r j) :=
  ld_unit _ R _ _ fun a => by fin_cases a <;> first | exact (Nat.zero_add _).symm | rfl
theorem ld_rR3 (R : FVec Ideal S8x128x128 .f32) (r j : Fin 128) : ld rR3.toLoadRect R (ix3 0 r j) = R (ix3 3 r j) :=
  ld_unit _ R _ _ fun a => by fin_cases a <;> first | exact (Nat.zero_add _).symm | rfl
theorem ld_rR4 (R : FVec Ideal S8x128x128 .f32) (r j : Fin 128) : ld rR4.toLoadRect R (ix3 0 r j) = R (ix3 4 r j) :=
  ld_unit _ R _ _ fun a => by fin_cases a <;> first | exact (Nat.zero_add _).symm | rfl
theorem ld_rR5 (R : FVec Ideal S8x128x128 .f32) (r j : Fin 128) : ld rR5.toLoadRect R (ix3 0 r j) = R (ix3 5 r j) :=
  ld_unit _ R _ _ fun a => by fin_cases a <;> first | exact (Nat.zero_add _).symm | rfl
theorem ld_rR6 (R : FVec Ideal S8x128x128 .f32) (r j : Fin 128) : ld rR6.toLoadRect R (ix3 0 r j) = R (ix3 6 r j) :=
  ld_unit _ R _ _ fun a => by fin_cases a <;> first | exact (Nat.zero_add _).symm | rfl
theorem ld_rR7 (R : FVec Ideal S8x128x128 .f32) (r j : Fin 128) : ld rR7.toLoadRect R (ix3 0 r j) = R (ix3 7 r j) :=
  ld_unit _ R _ _ fun a => by fin_cases a <;> first | exact (Nat.zero_add _).symm | rfl

/-- When no running sum is above the threshold, all of them are the bottom. -/
theorem alive1_off (R : FVec Ideal S8x128x128 .f32) (h0 : ¬ Scalar.cmpi .sgt (alive1 (F := Ideal) R) 0#32 = 1#1) (h : Fin 8) (r j : Fin 128) :
    R (ix3 h r j) = (⊥ : EReal) := by
  unfold alive1 at h0
  rw [dead_eq] at h0
  by_contra hne
  refine h0 ?_
  have hlt : (⊥ : EReal) < k0_pay30 (F := Ideal) (ld rR0.toLoadRect R) (ld rR1.toLoadRect R) (ld rR2.toLoadRect R) (ld rR3.toLoadRect R)
      (ld rR4.toLoadRect R) (ld rR5.toLoadRect R) (ld rR6.toLoadRect R) (ld rR7.toLoadRect R) := by
    refine lt_of_lt_of_le (bot_lt_iff_ne_bot.2 hne) (le_pay30 _ _ _ _ _ _ _ _ r j _ ?_)
    rw [ld_rR0, ld_rR1, ld_rR2, ld_rR3, ld_rR4, ld_rR5, ld_rR6, ld_rR7]
    fin_cases h
    all_goals simp only [le_max_iff]
    all_goals first
      | exact .inr le_rfl | exact .inl (.inr le_rfl) | exact .inl (.inl (.inr le_rfl)) | exact .inl (.inl (.inl (.inr le_rfl)))
      | exact .inl (.inl (.inl (.inl (.inr le_rfl)))) | exact .inl (.inl (.inl (.inl (.inl (.inr le_rfl)))))
      | exact .inl (.inl (.inl (.inl (.inl (.inl (.inr le_rfl)))))) | exact .inl (.inl (.inl (.inl (.inl (.inl (.inl le_rfl))))))
  generalize k0_pay30 (F := Ideal) (ld rR0.toLoadRect R) (ld rR1.toLoadRect R) (ld rR2.toLoadRect R) (ld rR3.toLoadRect R)
      (ld rR4.toLoadRect R) (ld rR5.toLoadRect R) (ld rR6.toLoadRect R) (ld rR7.toLoadRect R) = y at hlt
  have e : Scalar.cmpf (F := Ideal) (φ := .f32) .ogt y (⊥ : EReal) = 1#1 := by
    pointwise []
    simp [hlt]
  rw [e]
  rfl

end Cert.Proof.Val

end
-- ==== Proof.Val.Loop.lean ====
/-
  The loop over the blocks of keys, last to first, over the extended reals: after block `n` the running sums and the
  accumulated values of a row are the suffix sums from key `n * 128` on, and stopping once every running sum is the
  bottom leaves out weights that are zero.
-/
module

public import proofs.«01_k».proof.Proof.Val.Acc

@[expose] public section

set_option maxRecDepth 16384

noncomputable section

namespace Cert.Proof.Val

open Idealize.ShloMosaic
open Cert.KernelIdeal Cert.KernelIdeal.Gen Cert.Proof.KI
open scoped BigOperators

/-- The block of keys a step of the loop reads begins at key `n * 128`, -/
theorem off2_kbw : ∀ n < 64, k0_off2 (kbw (n + 1)) 0 = 0 ∧ k0_off2 (kbw (n + 1)) 1 = n * 128 ∧ k0_off2 (kbw (n + 1)) 2 = 0 := by
  decide +kernel

/-- so its entries are those keys'. -/
theorem ld_rK2 (X : FVec Ideal S1x8320x512 .bf16) (n : ℕ) (hn : n < 64) (hw : k0_chk1 (kbw (n + 1))) (j : Fin 128) (e : Fin 512) :
    ld (rK2 (kbw (n + 1)) hw).toLoadRect X (ix3 0 j e) = X (ix3 0 ⟨n * 128 + j.val, by omega⟩ e) := by
  obtain ⟨h0, h1, h2⟩ := off2_kbw n hn
  refine ld_unit _ X _ _ fun a => ?_
  fin_cases a
  · show (0 : ℕ) = k0_off2 (kbw (n + 1)) 0 + 0
    rw [h0]
  · show n * 128 + j.val = k0_off2 (kbw (n + 1)) 1 + j.val
    rw [h1]
  · show e.val = k0_off2 (kbw (n + 1)) 2 + e.val
    rw [h2, Nat.zero_add]

section Rows

variable (qx : FVec Ideal S1x128x512 .bf16) (kx vx : FVec Ideal S1x8320x512 .bf16)

/-- The score of key `j` in head `h` of row `r`. -/
def zz (h : Fin 8) (r : Fin 128) (j : ℕ) : EReal :=
  if hj : j < 8320 then ∑ d : Fin 64, qx (ix3 0 r (lane h d)) * cq * kx (ix3 0 ⟨j, hj⟩ (lane h d)) else 0

/-- Column `e` of the value of key `j`. -/
def vz (e : Fin 512) (j : ℕ) : EReal := if hj : j < 8320 then vx (ix3 0 ⟨j, hj⟩ e) else 0

/-- A block of 128 keys. -/
def IsBlock (X : FVec Ideal S1x8320x512 .bf16) (n : ℕ) (hn : n < 65) (b : FVec Ideal S1x128x512 .bf16) : Prop :=
  ∀ (j : Fin 128) (e : Fin 512), b (ix3 0 j e) = X (ix3 0 ⟨n * 128 + j.val, by omega⟩ e)

/-- A block's scores. -/
theorem bs_block (n : ℕ) (hn : n < 65) (kb : FVec Ideal S1x128x512 .bf16) (hk : IsBlock kx n hn kb) (h : Fin 8) (r j : Fin 128) :
    bs qx kb h r j = zz qx kx h r (n * 128 + j.val) := by
  unfold bs zz
  rw [dif_pos (show n * 128 + j.val < 8320 by omega)]
  exact Finset.sum_congr rfl fun d _ => congrArg (_ * cq * ·) (hk j (lane h d))

/-- A block's values. -/
theorem vz_block (n : ℕ) (hn : n < 65) (vb : FVec Ideal S1x128x512 .bf16) (hv : IsBlock vx n hn vb) (j : Fin 128) (e : Fin 512) :
    vb (ix3 0 j e) = vz vx e (n * 128 + j.val) := by
  unfold vz
  rw [dif_pos (show n * 128 + j.val < 8320 by omega)]
  exact hv j e

/-- What holds with blocks `n` and later done, of the rows of block `N`. -/
def Inv (N n : ℕ) (R : FVec Ideal S8x128x128 .f32) (A : FVec Ideal S128x512 .f32) : Prop :=
  (∀ (h : Fin 8) (r j : Fin 128), R (ix3 h r j) = suf (N * 128 + r.val) (zz qx kx h r) (n * 128))
    ∧ ∀ (r : Fin 128) (e : Fin 512), A (ix2 r e) = tail (N * 128 + r.val) (zz qx kx (headOf e) r) (vz vx e) (n * 128)

section Step

variable (N n : ℕ) (hN : N < 65) (hn : n < N) (kb vb : FVec Ideal S1x128x512 .bf16)

/-- A block before the rows' own: its logarithms, -/
theorem sL_ln (hk : IsBlock kx n (by omega) kb) (h : Fin 8) (r j : Fin 128) :
    sL (F := Ideal) (once qx) (kbw (n + 1)) kb (ix3 h r j) = ln (N * 128 + r.val) (zz qx kx h r) (n * 128 + j.val) := by
  refine (sL_at qx kb h r j n (by omega)).trans ?_
  rw [bs_block qx kx n (by omega) kb hk]
  unfold ln
  exact if_congr ⟨fun h => ⟨by omega, h⟩, fun h => h.2⟩ rfl rfl

/-- its weights, -/
theorem sW_wt (hk : IsBlock kx n (by omega) kb) (R : FVec Ideal S8x128x128 .f32) (h : Fin 8) (r j : Fin 128)
    (hR : R (ix3 h r j) = suf (N * 128 + r.val) (zz qx kx h r) ((n + 1) * 128)) :
    sW (F := Ideal) (once qx) (kbw (n + 1)) kb R (ix3 h r j) = wt (N * 128 + r.val) (zz qx kx h r) (n * 128 + j.val) := by
  refine (sW_at qx kb h r j R n (by omega)).trans ((if_congr ⟨fun h => ⟨by omega, h⟩, fun h => h.2⟩ ?_ rfl).trans (wt_block _ _ n (by omega) j).symm)
  refine congrArg Ideal.exp (congrArg₂ (· + ·) (congrArg₂ (· + ·) (congrArg₂ (· + ·) (bs_block qx kx n (by omega) kb hk h r j)
    (sL_ln qx kx N n hN hn kb hk h r j)) (Finset.sum_congr rfl fun x _ => ?_)) hR)
  exact if_congr Iff.rfl (sL_ln qx kx N n hN hn kb hk h r x) rfl

/-- and one step of the loop. -/
theorem inv_step (hk : IsBlock kx n (by omega) kb) (hv : IsBlock vx n (by omega) vb)
    (R : FVec Ideal S8x128x128 .f32) (A : FVec Ideal S128x512 .f32) (hi : Inv qx kx vx N (n + 1) R A) :
    Inv qx kx vx N n (sRun (F := Ideal) (once qx) (kbw (n + 1)) kb R) (sAcc (F := Ideal) (once qx) (kbw (n + 1)) kb vb R A) := by
  refine ⟨fun h r j => ?_, fun r e => ?_⟩
  · refine (sRun_at qx kb h r j R n (by omega)).trans ((congrArg₂ (· + ·) (hi.1 h r j) (Finset.sum_congr rfl fun x _ => ?_)).trans
      (suf_block _ _ n (by omega)).symm)
    exact sL_ln qx kx N n hN hn kb hk h r x
  · refine (sAcc_at qx kb vb r (kbw (n + 1)) R A e).trans ((congrArg₂ (· + ·) (hi.2 r e) (Finset.sum_congr rfl fun x _ => ?_)).trans
      (tail_block _ _ _ n (by omega)).symm)
    exact congrArg₂ (· * ·) (sW_wt qx kx N n hN hn kb hk R (headOf e) r x (hi.1 _ r x)) (vz_block vx n (by omega) vb hv x e)

end Step

/-- The rows' own block: its logarithms, -/
theorem dlm_ln (N : ℕ) (hN : N < 65) (h1 : 1 ≤ N) (kb : FVec Ideal S1x128x512 .bf16) (hk : IsBlock kx N hN kb) (h : Fin 8) (r j : Fin 128) :
    dlm qx kb h r j = ln (N * 128 + r.val) (zz qx kx h r) (N * 128 + j.val) := by
  unfold dlm ln
  rw [bs_block qx kx N hN kb hk]
  exact if_congr ⟨fun h => ⟨by omega, by omega⟩, fun h => by have := h.1; omega⟩ rfl rfl

/-- its weights, -/
theorem dW_wt (N : ℕ) (hN : N < 65) (h1 : 1 ≤ N) (kb : FVec Ideal S1x128x512 .bf16) (hk : IsBlock kx N hN kb) (h : Fin 8) (r j : Fin 128) :
    dW (F := Ideal) qx kb (ix3 h r j) = wt (N * 128 + r.val) (zz qx kx h r) (N * 128 + j.val) := by
  refine (dW_at qx kb h r j).trans ((if_congr ⟨fun h => ⟨by omega, by omega⟩, fun h => by have := h.1; omega⟩ ?_ rfl).trans
    (wt_block _ _ N hN j).symm)
  rw [suf_done _ _ _ (show N * 128 + r.val ≤ (N + 1) * 128 by omega), add_zero]
  refine congrArg Ideal.exp (congrArg₂ (· + ·) (congrArg₂ (· + ·) (bs_block qx kx N hN kb hk h r j) (dlm_ln qx kx N hN h1 kb hk h r j))
    (Finset.sum_congr rfl fun x _ => ?_))
  exact if_congr Iff.rfl (dlm_ln qx kx N hN h1 kb hk h r x) rfl

/-- and what the loop begins with. -/
theorem inv_start (N : ℕ) (hN : N < 65) (h1 : 1 ≤ N) (kb vb : FVec Ideal S1x128x512 .bf16) (hk : IsBlock kx N hN kb)
    (hv : IsBlock vx N hN vb) (R : FVec Ideal S8x128x128 .f32) (A : FVec Ideal S128x512 .f32) :
    Inv qx kx vx N N (dRun (F := Ideal) qx kb R) (dAcc (F := Ideal) qx kb vb A) := by
  refine ⟨fun h r j => ?_, fun r e => ?_⟩
  · rw [suf_block _ _ N hN, suf_done _ _ _ (show N * 128 + r.val ≤ (N + 1) * 128 by omega), zero_add]
    exact (dRun_at qx kb h r j R).trans (Finset.sum_congr rfl fun x _ => dlm_ln qx kx N hN h1 kb hk h r x)
  · rw [tail_block _ _ _ N hN, tail_done _ _ _ _ (show N * 128 + r.val ≤ (N + 1) * 128 by omega), zero_add]
    exact (dAcc_at qx kb vb r A e).trans (Finset.sum_congr rfl fun x _ =>
      congrArg₂ (· * ·) (dW_wt qx kx N hN h1 kb hk (headOf e) r x) (vz_block vx N hN vb hv x e))

/-- The loop leaves the whole sums, whether it runs to the first block or stops before. -/
theorem loop_at (N : ℕ) (hN : N < 65) : ∀ (n : ℕ) (_ : n ≤ N) (go : BitVec 32) (R : FVec Ideal S8x128x128 .f32) (A : FVec Ideal S128x512 .f32)
    (_ : Inv qx kx vx N n R A) (_ : ¬ Scalar.cmpi .sgt go 0#32 = 1#1 → ∀ h r j, R (ix3 h r j) = (⊥ : EReal)) (r : Fin 128) (e : Fin 512),
    (loop (F := Ideal) (once qx) kx vx n go R A).2 (ix2 r e) = tail (N * 128 + r.val) (zz qx kx (headOf e) r) (vz vx e) 0
  | 0, _, go, R, A, hi, _, r, e => by
    have h := hi.2 r e
    rw [Nat.zero_mul] at h
    exact h
  | n + 1, hnN, go, R, A, hi, hgo, r, e => by
    have hw : k0_chk1 (kbw (n + 1)) := chk_kbw n (by omega)
    unfold loop
    by_cases hc : Scalar.cmpi .sgt go 0#32 = 1#1
    · rw [if_pos hc, dif_pos hw]
      refine loop_at N hN n (by omega) _ _ _ (inv_step qx kx vx N n hN (by omega) _ _ (fun j e => ld_rK2 kx n (by omega) hw j e)
        (fun j e => ld_rK2 vx n (by omega) hw j e) R A hi) (fun hoff h r j => ?_) r e
      rw [alive2_eq] at hoff
      exact alive1_off _ hoff h r j
    · rw [if_neg hc]
      refine (hi.2 r e).trans (tail_dead _ _ _ _ (by unfold NK; omega) ?_).symm
      rw [← hi.1 (headOf e) r 0]
      exact hgo hc _ _ _

end Rows

/-- The rows' own block begins at key `(i 1 + 1) * 128`, -/
theorem off1_at (i : grid0.Coords) : k0_off1 i 0 = 0 ∧ k0_off1 i 1 = ((i 1).val + 1) * 128 ∧ k0_off1 i 2 = 0 := by
  have h : ∀ n < 64, (Scalar.indexCast (Scalar.muli (Scalar.addi (BitVec.ofNat 32 n) 1#32) 128#32) : Index).toNat = (n + 1) * 128 := by
    decide +kernel
  exact ⟨rfl, h (i 1).val (i 1).isLt, rfl⟩

/-- so its entries are those keys'. -/
theorem ld_rK1 (X : FVec Ideal S1x8320x512 .bf16) (i : grid0.Coords) (j : Fin 128) (e : Fin 512) :
    ld (rK1 i).toLoadRect X (ix3 0 j e) = X (ix3 0 ⟨((i 1).val + 1) * 128 + j.val, by have : (i 1).val < 64 := (i 1).isLt; omega⟩ e) := by
  obtain ⟨h0, h1, h2⟩ := off1_at i
  refine ld_unit _ X _ _ fun a => ?_
  fin_cases a
  · show (0 : ℕ) = k0_off1 i 0 + 0
    rw [h0]
  · show ((i 1).val + 1) * 128 + j.val = k0_off1 i 1 + j.val
    rw [h1]
  · show e.val = k0_off1 i 2 + e.val
    rw [h2, Nat.zero_add]

/-- The number of the rows' own block. -/
def own (i : grid0.Coords) : ℕ := (i 1).val + 1

/-- It is one of the blocks -/
theorem own_lt (i : grid0.Coords) : own i < 65 := by
  have h : (i 1).val < 64 := (i 1).isLt
  unfold own
  omega

/-- and not the first. -/
theorem own_pos (i : grid0.Coords) : 1 ≤ own i := Nat.le_add_left 1 _

/-- The block it reads. -/
theorem isBlock_own (X : FVec Ideal S1x8320x512 .bf16) (i : grid0.Coords) : IsBlock X (own i) (own_lt i) (ld (rK1 i).toLoadRect X) :=
  fun j e => ld_rK1 X i j e

section

variable (i : grid0.Coords) (qx : FVec Ideal S1x128x512 .bf16) (kx vx : FVec Ideal S1x8320x512 .bf16) (R : FVec Ideal S8x128x128 .f32)
    (A : FVec Ideal S128x512 .f32) (r : Fin 128) (e : Fin 512)

/-- What the loop begins with. -/
theorem own_start : Inv qx kx vx (own i) (own i) (dRun (F := Ideal) qx (ld (rK1 i).toLoadRect kx) R)
      (dAcc (F := Ideal) qx (ld (rK1 i).toLoadRect kx) (ld (rK1 i).toLoadRect vx) A) :=
    (inv_start qx kx vx (own i) (own_lt i) (own_pos i) (ld (rK1 i).toLoadRect kx) (ld (rK1 i).toLoadRect vx) (isBlock_own kx i) (isBlock_own vx i) R A)

/-- What it leaves, from any such beginning, -/
theorem own_loop (R : FVec Ideal S8x128x128 .f32) (hi : Inv qx kx vx (own i) (own i) R A) :
   (loop (F := Ideal) (once qx) kx vx (own i) (alive1 (F := Ideal) R) R A).2 (ix2 r e)
    = tail (own i * 128 + r.val) (zz qx kx (headOf e) r) (vz vx e) 0 :=
  loop_at qx kx vx (own i) (own_lt i) (own i) le_rfl (alive1 (F := Ideal) R) R A hi (alive1_off R) r e

/-- and from that one. -/
theorem own_at (X : FVec Ideal S8x128x128 .f32 × FVec Ideal S128x512 .f32) (n : ℕ)
    (hX : X = loop (F := Ideal) (once qx) kx vx n (alive1 (F := Ideal) (dRun (F := Ideal) qx (ld (rK1 i).toLoadRect kx) R))
      (dRun (F := Ideal) qx (ld (rK1 i).toLoadRect kx) R)
      (dAcc (F := Ideal) qx (ld (rK1 i).toLoadRect kx) (ld (rK1 i).toLoadRect vx) A)) (hn : n = own i) : X.2 (ix2 r e)
    = tail (own i * 128 + r.val) (zz qx kx (headOf e) r) (vz vx e) 0 := by
  have h1 := own_start i qx kx vx R A
  generalize dRun (F := Ideal) qx (ld (rK1 i).toLoadRect kx) R = R' at hX h1
  generalize dAcc (F := Ideal) qx (ld (rK1 i).toLoadRect kx) (ld (rK1 i).toLoadRect vx) A = A' at hX h1
  subst hX hn
  exact own_loop i qx kx vx A' r e R' h1

/-- The accumulated values at the end of a point: the attention of its rows. -/
theorem after_at : (after (F := Ideal) i qx kx vx R A).2 (ix2 r e)
    = tail (own i * 128 + r.val) (zz qx kx (headOf e) r) (vz vx e) 0 :=
  own_at i qx kx vx R A r e _ _ (by unfold after; exact rfl) rfl

end

end Cert.Proof.Val

end
-- ==== Proof.Val.Out.lean ====
/-
  The output block of a point, at an entry, over the extended reals: the accumulated values over the root of their
  head's mean square, times the gain.
-/
module

public import proofs.«01_k».proof.Proof.Val.Loop

@[expose] public section

set_option maxRecDepth 16384

noncomputable section

namespace Cert.Proof.Val

open Idealize.ShloMosaic
open Cert.KernelIdeal Cert.KernelIdeal.Gen Cert.Proof.KI
open scoped BigOperators

/-- A strip's normalisation, its two heads' sums told apart by a mask, is the head's own. -/
theorem normed_strip (g a : Fin 512 → EReal) (p : Fin 4) (x : Fin 128) :
    a (col p x) * (if 64 ≤ x.val then
        Ideal.rsqrt ((∑ d : Fin 64, a (col p ⟨64 + d.val, by omega⟩) * a (col p ⟨64 + d.val, by omega⟩)) * Ideal.ofBits .f32 0x3C800000#32 + ce)
      else Ideal.rsqrt ((∑ d : Fin 64, a (col p ⟨d.val, by omega⟩) * a (col p ⟨d.val, by omega⟩)) * Ideal.ofBits .f32 0x3C800000#32 + ce))
      * g (col p x) = normed g a (col p x) := by
  unfold normed
  rw [ofBits_inv_64]
  refine congrArg (a (col p x) * · * g (col p x)) ?_
  by_cases h : 64 ≤ x.val
  · rw [if_pos h]
    refine congrArg (fun s => Ideal.rsqrt (s * ((64 : ℝ)⁻¹ : ℝ) + ce)) (Finset.sum_congr rfl fun d _ => ?_)
    have e : col p ⟨64 + d.val, by omega⟩ = lane (headOf (col p x)) d := Fin.ext (by simp only [headOf, lane, col]; omega)
    rw [e]
  · rw [if_neg h]
    refine congrArg (fun s => Ideal.rsqrt (s * ((64 : ℝ)⁻¹ : ℝ) + ce)) (Finset.sum_congr rfl fun d _ => ?_)
    have e : col p ⟨d.val, by omega⟩ = lane (headOf (col p x)) d := Fin.ext (by simp only [headOf, lane, col]; omega)
    rw [e]

section Puts

variable (w0 w1 w2 w3 : FVec Ideal S1x128x128 .f32) (O : FVec Ideal S1x128x512 .f32) (gx : FVec Ideal S1x512 .f32) (r x : Fin 128)

theorem ldG0 : ld rG0.toLoadRect gx (ix2 0 x) = gx (ix2 0 (col 0 x)) :=
  ld_unit _ gx _ _ fun a => by fin_cases a <;> first | exact (Nat.zero_add _).symm | rfl
theorem putO0 : put rO0 w0 O (ix3 0 r (col 0 x)) = w0 (ix3 0 r x) :=
  put_unit_in _ _ O _ (ix3 0 r x) fun a => by fin_cases a <;> first | exact (Nat.zero_add _).symm | rfl
theorem putO1_0 : put rO1 w1 O (ix3 0 r (col 0 x)) = O (ix3 0 r (col 0 x)) :=
  put_unit_out _ _ O _ 2 (by have := x.isLt; left; show 0 + x.val < 128; omega)
theorem putO2_0 : put rO2 w2 O (ix3 0 r (col 0 x)) = O (ix3 0 r (col 0 x)) :=
  put_unit_out _ _ O _ 2 (by have := x.isLt; left; show 0 + x.val < 256; omega)
theorem putO3_0 : put rO3 w3 O (ix3 0 r (col 0 x)) = O (ix3 0 r (col 0 x)) :=
  put_unit_out _ _ O _ 2 (by have := x.isLt; left; show 0 + x.val < 384; omega)
theorem ldG1 : ld rG1.toLoadRect gx (ix2 0 x) = gx (ix2 0 (col 1 x)) :=
  ld_unit _ gx _ _ fun a => by fin_cases a <;> first | exact (Nat.zero_add _).symm | rfl
theorem putO1 : put rO1 w1 O (ix3 0 r (col 1 x)) = w1 (ix3 0 r x) :=
  put_unit_in _ _ O _ (ix3 0 r x) fun a => by fin_cases a <;> first | exact (Nat.zero_add _).symm | rfl
theorem putO2_1 : put rO2 w2 O (ix3 0 r (col 1 x)) = O (ix3 0 r (col 1 x)) :=
  put_unit_out _ _ O _ 2 (by have := x.isLt; left; show 128 + x.val < 256; omega)
theorem putO3_1 : put rO3 w3 O (ix3 0 r (col 1 x)) = O (ix3 0 r (col 1 x)) :=
  put_unit_out _ _ O _ 2 (by have := x.isLt; left; show 128 + x.val < 384; omega)
theorem ldG2 : ld rG2.toLoadRect gx (ix2 0 x) = gx (ix2 0 (col 2 x)) :=
  ld_unit _ gx _ _ fun a => by fin_cases a <;> first | exact (Nat.zero_add _).symm | rfl
theorem putO2 : put rO2 w2 O (ix3 0 r (col 2 x)) = w2 (ix3 0 r x) :=
  put_unit_in _ _ O _ (ix3 0 r x) fun a => by fin_cases a <;> first | exact (Nat.zero_add _).symm | rfl
theorem putO3_2 : put rO3 w3 O (ix3 0 r (col 2 x)) = O (ix3 0 r (col 2 x)) :=
  put_unit_out _ _ O _ 2 (by have := x.isLt; left; show 256 + x.val < 384; omega)
theorem ldG3 : ld rG3.toLoadRect gx (ix2 0 x) = gx (ix2 0 (col 3 x)) :=
  ld_unit _ gx _ _ fun a => by fin_cases a <;> first | exact (Nat.zero_add _).symm | rfl
theorem putO3 : put rO3 w3 O (ix3 0 r (col 3 x)) = w3 (ix3 0 r x) :=
  put_unit_in _ _ O _ (ix3 0 r x) fun a => by fin_cases a <;> first | exact (Nat.zero_add _).symm | rfl

end Puts

/-- A strip's normalised values at an entry. -/
def stripOut (B : FVec Ideal S128x128 .f32) (g : FVec Ideal S1x128 .f32) (r x : Fin 128) : EReal :=
  B (ix2 r x) * (if 64 ≤ x.val then
      Ideal.rsqrt ((∑ d : Fin 64, B (ix2 r ⟨64 + d.val, by omega⟩) * B (ix2 r ⟨64 + d.val, by omega⟩)) * Ideal.ofBits .f32 0x3C800000#32 + ce)
    else Ideal.rsqrt ((∑ d : Fin 64, B (ix2 r ⟨d.val, by omega⟩) * B (ix2 r ⟨d.val, by omega⟩)) * Ideal.ofBits .f32 0x3C800000#32 + ce))
    * g (ix2 0 x)

section Strips

variable (B : FVec Ideal S128x128 .f32) (g : FVec Ideal S1x128 .f32) (r x : Fin 128)

theorem out0_at : (k0_pay33 (F := Ideal) k0_pay2 B (k0_pay31 B) (k0_pay32 k0_pay2 B) g) (ix3 0 r x) = stripOut B g r x := by
  pointwise [k0_pay33, k0_pay31, k0_pay32, odd_at]
  simp only [Finset.sum_const_zero, zero_add, add_zero]
  rfl

theorem out1_at : (k0_pay37 (F := Ideal) k0_pay2 B (k0_pay35 k0_pay2 B) (k0_pay36 k0_pay2 B) (Scalar.ofBits .f32 0x3C800000#32) g) (ix3 0 r x) = stripOut B g r x := by
  pointwise [k0_pay37, k0_pay34, k0_pay35, k0_pay36, odd_at]
  simp only [Finset.sum_const_zero, zero_add, add_zero]
  rfl

theorem out2_at : (k0_pay41 (F := Ideal) k0_pay2 B (k0_pay39 k0_pay2 B) (k0_pay40 k0_pay2 B) g) (ix3 0 r x) = stripOut B g r x := by
  pointwise [k0_pay41, k0_pay38, k0_pay39, k0_pay40, odd_at]
  simp only [Finset.sum_const_zero, zero_add, add_zero]
  rfl

theorem out3_at : (k0_pay1 (k0_pay42 (F := Ideal) k0_pay2 B g)) (ix3 0 r x) = stripOut B g r x := by
  pointwise [k0_pay1, k0_pay42, odd_at]
  simp only [Finset.sum_const_zero, zero_add, add_zero]
  rfl

end Strips

/-- The output block. -/
theorem outsA_at (A : FVec Ideal S128x512 .f32) (gx : FVec Ideal S1x512 .f32) (O : FVec Ideal S1x128x512 .f32) (r : Fin 128) (e : Fin 512) :
    outsA (F := Ideal) A gx O (ix3 0 r e) = normed (fun e' => gx (ix2 0 e')) (fun e' => A (ix2 r e')) e := by
  obtain ⟨p, x, rfl⟩ := exists_col e
  refine Eq.trans ?_ (normed_strip (fun e' => gx (ix2 0 e')) (fun e' => A (ix2 r e')) p x)
  unfold outsA outs2 outs1 outs0
  fin_cases p
  · refine (putO3_0 ..).trans ((putO2_0 ..).trans ((putO1_0 ..).trans ((putO0 ..).trans ((out0_at _ _ r x).trans ?_))))
    unfold stripOut
    simp only [ldA0, ldG0]
    rfl
  · refine (putO3_1 ..).trans ((putO2_1 ..).trans ((putO1 ..).trans ((out1_at _ _ r x).trans ?_)))
    unfold stripOut
    simp only [ldA1, ldG1]
    rfl
  · refine (putO3_2 ..).trans ((putO2 ..).trans ((out2_at _ _ r x).trans ?_))
    unfold stripOut
    simp only [ldA2, ldG2]
    rfl
  · refine (putO3 ..).trans ((out3_at _ _ r x).trans ?_)
    unfold stripOut
    simp only [ldA3, ldG3]
    rfl

/-- The output block of a point. -/
theorem outs_at (i : grid0.Coords) (qx : FVec Ideal S1x128x512 .bf16) (kx vx : FVec Ideal S1x8320x512 .bf16) (gx : FVec Ideal S1x512 .f32)
    (R : FVec Ideal S8x128x128 .f32) (A : FVec Ideal S128x512 .f32) (O : FVec Ideal S1x128x512 .f32) (r : Fin 128) (e : Fin 512) :
    outs (F := Ideal) i qx kx vx gx R A O (ix3 0 r e)
      = normed (fun e' => gx (ix2 0 e'))
          (fun e' => tail (own i * 128 + r.val) (zz qx kx (headOf e') r) (vz vx e') 0) e := by
  unfold outs
  refine (outsA_at _ gx O r e).trans (congrArg (fun a => normed (fun e' => gx (ix2 0 e')) a e) (funext fun e' => ?_))
  exact after_at i qx kx vx R A r e'

end Cert.Proof.Val

end
-- ==== Proof.Val.Blocks.lean ====
/-
  The whole output array at the end of the run, over the extended reals: each point's block is the block of one
  function of the arguments — the normalised attention of the block's rows — and the blocks cover the array.
-/
module

public import proofs.«01_k».proof.Proof.Val.Out
public import proofs.«01_k».proof.Proof.KI.Run
public import Idealize.ShloMosaic.Lib.Pipeline.Value

@[expose] public section

set_option maxRecDepth 16384

noncomputable section

namespace Cert.Proof.Val

open Idealize.ShloMosaic Idealize.ShloMosaic.TcCoe
open Cert.KernelIdeal Cert.KernelIdeal.Gen Cert.Proof.KI
open scoped BigOperators

variable (m : (ℓ : Loc nD τ sig) → Buf (Elt Ideal) ℓ) (ρ : Dev nD → PrngReg) (c : Dev nD)

/-- The blocks' places at point `t`. -/
theorem idx_at : ∀ t : Fin (cfg0 (F := Ideal)).N,
    cc0_transform_0 (grid0.coords t) = ![t.val / 64, t.val % 64 + 1, 0]
    ∧ cc0_transform_1 (grid0.coords t) = ![t.val / 64, 0, 0]
    ∧ cc0_transform_2 (grid0.coords t) = ![t.val / 64, 0, 0]
    ∧ cc0_transform_3 (grid0.coords t) = ![0, 0]
    ∧ cc0_transform_4 (grid0.coords t) = ![t.val / 64, t.val % 64, 0]
    ∧ own (grid0.coords t) = t.val % 64 + 1 :=
  (by decide +kernel : ∀ t : Fin grid0.N,
    cc0_transform_0 (grid0.coords t) = ![t.val / 64, t.val % 64 + 1, 0]
    ∧ cc0_transform_1 (grid0.coords t) = ![t.val / 64, 0, 0]
    ∧ cc0_transform_2 (grid0.coords t) = ![t.val / 64, 0, 0]
    ∧ cc0_transform_3 (grid0.coords t) = ![0, 0]
    ∧ cc0_transform_4 (grid0.coords t) = ![t.val / 64, t.val % 64, 0]
    ∧ own (grid0.coords t) = t.val % 64 + 1)

theorem N_128 (t : Fin (cfg0 (F := Ideal)).N) : t.val < 128 := t.isLt

/-- The batch element of point `t`. -/
abbrev bat (t : Fin (cfg0 (F := Ideal)).N) : Fin 2 := ⟨t.val / 64, by have := N_128 t; omega⟩

/-- Row `r` of its queries, counted with the keys. -/
abbrev row (t : Fin (cfg0 (F := Ideal)).N) (r : Fin 128) : Fin 8320 := ⟨(t.val % 64 + 1) * 128 + r.val, by omega⟩

/-- The queries' block, -/
theorem qAt_at (t : Fin (cfg0 (F := Ideal)).N) (r : Fin 128) (e : Fin 512) :
    qAt m c t (ix3 0 r e) = m ((c : Thread nD τ).loc main_arg0) (ix3 (bat t) (row t r) e) := by
  have h := (idx_at t).1
  show m ((c : Thread nD τ).loc main_arg0) ((win0_0.rect t).emb (ix3 0 r e)) = _
  refine congrArg (m ((c : Thread nD τ).loc main_arg0)) (funext fun a => Fin.ext ?_)
  fin_cases a
  · show cc0_transform_0 (grid0.coords t) 0 * 1 + 1 * 0 = t.val / 64
    rw [h]; show t.val / 64 * 1 + 1 * 0 = _; omega
  · show cc0_transform_0 (grid0.coords t) 1 * 128 + 1 * r.val = (t.val % 64 + 1) * 128 + r.val
    rw [h]; show (t.val % 64 + 1) * 128 + 1 * r.val = _; omega
  · show cc0_transform_0 (grid0.coords t) 2 * 512 + 1 * e.val = e.val
    rw [h]; show 0 * 512 + 1 * e.val = _; omega

/-- the keys', -/
theorem kAt_at (t : Fin (cfg0 (F := Ideal)).N) (j : Fin 8320) (e : Fin 512) :
    kAt m c t (ix3 0 j e) = m ((c : Thread nD τ).loc main_arg1) (ix3 (bat t) j e) := by
  have h := (idx_at t).2.1
  show m ((c : Thread nD τ).loc main_arg1) ((win0_1.rect t).emb (ix3 0 j e)) = _
  refine congrArg (m ((c : Thread nD τ).loc main_arg1)) (funext fun a => Fin.ext ?_)
  fin_cases a
  · show cc0_transform_1 (grid0.coords t) 0 * 1 + 1 * 0 = t.val / 64
    rw [h]; show t.val / 64 * 1 + 1 * 0 = _; omega
  · show cc0_transform_1 (grid0.coords t) 1 * 8320 + 1 * j.val = j.val
    rw [h]; show 0 * 8320 + 1 * j.val = _; omega
  · show cc0_transform_1 (grid0.coords t) 2 * 512 + 1 * e.val = e.val
    rw [h]; show 0 * 512 + 1 * e.val = _; omega

/-- the values' -/
theorem vAt_at (t : Fin (cfg0 (F := Ideal)).N) (j : Fin 8320) (e : Fin 512) :
    vAt m c t (ix3 0 j e) = m ((c : Thread nD τ).loc main_arg2) (ix3 (bat t) j e) := by
  have h := (idx_at t).2.2.1
  show m ((c : Thread nD τ).loc main_arg2) ((win0_2.rect t).emb (ix3 0 j e)) = _
  refine congrArg (m ((c : Thread nD τ).loc main_arg2)) (funext fun a => Fin.ext ?_)
  fin_cases a
  · show cc0_transform_2 (grid0.coords t) 0 * 1 + 1 * 0 = t.val / 64
    rw [h]; show t.val / 64 * 1 + 1 * 0 = _; omega
  · show cc0_transform_2 (grid0.coords t) 1 * 8320 + 1 * j.val = j.val
    rw [h]; show 0 * 8320 + 1 * j.val = _; omega
  · show cc0_transform_2 (grid0.coords t) 2 * 512 + 1 * e.val = e.val
    rw [h]; show 0 * 512 + 1 * e.val = _; omega

/-- and the gains'. -/
theorem gAt_at (t : Fin (cfg0 (F := Ideal)).N) (e : Fin 512) :
    gAt m c t (ix2 0 e) = m ((c : Thread nD τ).loc main_arg3) (ix2 (0 : Fin 1) e) := by
  have h := (idx_at t).2.2.2.1
  show m ((c : Thread nD τ).loc main_arg3) ((win0_3.rect t).emb (ix2 0 e)) = _
  refine congrArg (m ((c : Thread nD τ).loc main_arg3)) (funext fun a => Fin.ext ?_)
  fin_cases a
  · show cc0_transform_3 (grid0.coords t) 0 * 1 + 1 * 0 = 0
    rw [h]; rfl
  · show cc0_transform_3 (grid0.coords t) 1 * 512 + 1 * e.val = e.val
    rw [h]; show 0 * 512 + 1 * e.val = _; omega

/-- The queries, the keys, the values and the gains, by batch element, row and column. -/
abbrev qs : Fin 2 → Fin 8320 → Fin 512 → EReal := fun b i e => m ((c : Thread nD τ).loc main_arg0) (ix3 b i e)
abbrev ks : Fin 2 → Fin 8320 → Fin 512 → EReal := fun b i e => m ((c : Thread nD τ).loc main_arg1) (ix3 b i e)
abbrev vs : Fin 2 → Fin 8320 → Fin 512 → EReal := fun b i e => m ((c : Thread nD τ).loc main_arg2) (ix3 b i e)
abbrev gs : Fin 512 → EReal := fun e => m ((c : Thread nD τ).loc main_arg3) (ix2 (0 : Fin 1) e)

/-- A point's scores are the rows', -/
theorem zz_at (t : Fin (cfg0 (F := Ideal)).N) (h : Fin 8) (r : Fin 128) :
    zz (qAt m c t) (kAt m c t) h r = sc (qs m c) (ks m c) (bat t) h (row t r) := by
  funext j
  unfold zz sc
  by_cases hj : j < 8320
  · rw [dif_pos hj, dif_pos hj]
    exact Finset.sum_congr rfl fun d _ => congrArg₂ (fun x y => x * cq * y) (qAt_at m c t r (lane h d)) (kAt_at m c t ⟨j, hj⟩ (lane h d))
  · rw [dif_neg hj, dif_neg hj]

/-- and its values. -/
theorem vz_at (t : Fin (cfg0 (F := Ideal)).N) (e : Fin 512) : vz (vAt m c t) e = vv (vs m c) (bat t) e := by
  funext j
  unfold vz vv
  by_cases hj : j < 8320
  · rw [dif_pos hj, dif_pos hj]
    exact vAt_at m c t ⟨j, hj⟩ e
  · rw [dif_neg hj, dif_neg hj]

/-- So the block a point leaves is its rows' normalised attention. -/
theorem oAt_at (t : Fin (cfg0 (F := Ideal)).N) (r : Fin 128) (e : Fin 512) :
    oAt m c t (ix3 0 r e) = normed (gs m c) (att (qs m c) (ks m c) (vs m c) (bat t) (row t r)) e := by
  unfold oAt
  refine (outs_at _ _ _ _ _ _ _ _ r e).trans ?_
  refine congrArg₂ (fun g a => normed g a e) (funext fun e' => gAt_at m c t e') (funext fun e' => ?_)
  unfold att
  rw [zz_at, vz_at, (idx_at t).2.2.2.2.2]

/-- The normalised attention, the whole array: row `i` of the output is row `128 + i` of the queries. -/
def whole : Buf (Elt Ideal) ((c : Thread nD τ).loc main_v0) := fun (i : S2x8192x512.Idx) =>
  normed (gs m c) (att (qs m c) (ks m c) (vs m c) (i 0) ⟨128 + (i 1).val, Nat.add_lt_add_left (i 1).isLt 128⟩) (i 2)

/-- An index of a block by its coordinates. -/
theorem eta3 (j : S1x128x512.Idx) : j = ix3 (0 : Fin 1) (j 1) (j 2) := by
  funext a
  fin_cases a
  · exact Fin.ext (by have : (j 0).val < 1 := (j 0).isLt; show (j 0).val = 0; omega)
  · rfl
  · rfl

/-- What a point writes back is its block of that. -/
theorem flushed_eq (t : Fin (cfg0 (F := Ideal)).N) :
    (dats m ρ 0 c).flushed (4 : Fin 5) t = (win0_4.blk t).view.read (Elt Ideal) (whole m c) := by
  show oAt m c t = _
  funext j
  rw [eta3 j]
  refine (oAt_at m c t (j 1) (j 2)).trans ?_
  have h := (idx_at t).2.2.2.2.1
  show _ = whole m c ((win0_4.rect t).emb (ix3 (0 : Fin 1) (j 1) (j 2)))
  have e0 : ((win0_4.rect t).emb (ix3 (0 : Fin 1) (j 1) (j 2))) = ix3 (bat t) (⟨t.val % 64 * 128 + (j 1).val, by have : (j 1).val < 128 := (j 1).isLt; omega⟩ : Fin 8192) (j 2) := by
    funext a
    refine Fin.ext ?_
    fin_cases a
    · show cc0_transform_4 (grid0.coords t) 0 * 1 + 1 * 0 = t.val / 64
      rw [h]; show t.val / 64 * 1 + 1 * 0 = _; omega
    · show cc0_transform_4 (grid0.coords t) 1 * 128 + 1 * (j 1).val = t.val % 64 * 128 + (j 1).val
      rw [h]; show t.val % 64 * 128 + 1 * (j 1).val = _; omega
    · show cc0_transform_4 (grid0.coords t) 2 * 512 + 1 * (j 2).val = (j 2).val
      rw [h]; show 0 * 512 + 1 * (j 2).val = _; omega
  rw [e0]
  show _ = normed (gs m c) (att (qs m c) (ks m c) (vs m c) (bat t) ⟨128 + (t.val % 64 * 128 + (j 1).val), _⟩) (j 2)
  refine congrArg (fun i => normed (gs m c) (att (qs m c) (ks m c) (vs m c) (bat t) i) (j 2)) (Fin.ext ?_)
  show (t.val % 64 + 1) * 128 + (j 1).val = 128 + (t.val % 64 * 128 + (j 1).val)
  omega

/-- Every index of the output lies in some point's block. -/
theorem cover (i : S2x8192x512.Idx) :
    ∃ t : Fin (cfg0 (F := Ideal)).N, ((cfg0 (F := Ideal)).win 4).flush t = true ∧ i ∈ (((cfg0 (F := Ideal)).win 4).blk t).view.set := by
  have h0 : (i 0).val < 2 := (i 0).isLt
  have h1 : (i 1).val < 8192 := (i 1).isLt
  have h2 : (i 2).val < 512 := (i 2).isLt
  have hN : (cfg0 (F := Ideal)).N = 128 := rfl
  obtain ⟨t, ht⟩ : ∃ t : Fin (cfg0 (F := Ideal)).N, t.val = (i 0).val * 64 + (i 1).val / 128 :=
    ⟨⟨(i 0).val * 64 + (i 1).val / 128, by rw [hN]; omega⟩, rfl⟩
  refine ⟨t, flush0_4 _, ?_⟩
  have h := (idx_at t).2.2.2.2.1
  show i ∈ ((View.whole main_v0).slice (win0_4.rect t)).set
  rw [View.set_slice_whole, Rect.mem_set_unit]
  intro a
  match a with
  | ⟨0, _⟩ =>
    show cc0_transform_4 (grid0.coords t) 0 * 1 ≤ (i 0).val ∧ (i 0).val < cc0_transform_4 (grid0.coords t) 0 * 1 + 1
    rw [h]
    show t.val / 64 * 1 ≤ (i 0).val ∧ (i 0).val < t.val / 64 * 1 + 1
    omega
  | ⟨1, _⟩ =>
    show cc0_transform_4 (grid0.coords t) 1 * 128 ≤ (i 1).val ∧ (i 1).val < cc0_transform_4 (grid0.coords t) 1 * 128 + 128
    rw [h]
    show t.val % 64 * 128 ≤ (i 1).val ∧ (i 1).val < t.val % 64 * 128 + 128
    omega
  | ⟨2, _⟩ =>
    show cc0_transform_4 (grid0.coords t) 2 * 512 ≤ (i 2).val ∧ (i 2).val < cc0_transform_4 (grid0.coords t) 2 * 512 + 512
    rw [h]
    show 0 * 512 ≤ (i 2).val ∧ (i 2).val < 0 * 512 + 512
    omega

/-- So the output array ends holding the normalised attention. -/
theorem final_whole : finalA m ρ c (4 : Fin 5) = whole m c :=
  (dats m ρ 0 c).arrAt_eq_of_cover (4 : Fin 5) (whole m c) (fun t _ => flushed_eq m ρ c t) (fun i => cover i)

end Cert.Proof.Val

end
-- ==== Proof.Val.Ref.lean ====
/-
  The reference's result at an entry: its term in stages, and the entry of each stage.
-/
module

public import proofs.«01_k».proof.Proof.Val.Spec
public import proofs.«01_k».proof.Proof.Gen.ReferenceIdeal.Run

@[expose] public section

set_option maxRecDepth 16384

noncomputable section

namespace Cert.Proof.Val

open Idealize.ShloMosaic
open Cert.ReferenceIdeal Cert.ReferenceIdeal.Gen
open scoped BigOperators

section Stages

/-- A tensor's heads brought to the front. -/
def hd (x : FVec Ideal S2x8320x512 .bf16) : FVec Ideal S2x8x8320x64 .f32 :=
  transpose S2x8x8320x64 [0, 2, 1, 3] (shapeCast _ (extf .f32 x bitsLt_bf16_f32) shapeCasts_S2x8320x512_S2x8320x8x64)
    transposes_S2x8320x8x64_S2x8x8320x64_0_2_1_3

/-- The scores. -/
def zT (q k : FVec Ideal S2x8320x512 .bf16) : FVec Ideal S2x8x8320x8320 .f32 :=
  Host.dotGeneral dot_S2x8x8320x64_S2x8x8320x64_S2x8x8320x8320_3_3_2_2_01_01 none
    (mulf (hd q) (broadcastInDim S2x8x8320x64 ![] bcast_S_S2x8x8320x64 (constant S_ .f32 0x3E000000#32))) (hd k)

/-- The mask. -/
def mkT : IVec S2x8x8320x8320 1 :=
  broadcastInDim S2x8x8320x8320 ![2, 3] bcast_S8320x8320_S2x8x8320x8320_2_3
    (andi (cmpi .slt (broadcastInDim S8320x8320 ![0, 1] bcast_S1x8320_S8320x8320_0_1 (broadcastInDim S1x8320 ![1] bcast_S8320_S1x8320_1 (iotaInDim S8320 32 0)))
        (broadcastInDim S8320x8320 ![0, 1] bcast_S8320x1_S8320x8320_0_1 (broadcastInDim S8320x1 ![0] bcast_S8320_S8320x1_0 (iotaInDim S8320 32 0))))
      (broadcastInDim S8320x8320 ![0, 1] bcast_S1x8320_S8320x8320_0_1 (broadcastInDim S1x8320 ![1] bcast_S8320_S1x8320_1
        (cmpi .sge (iotaInDim S8320 32 0) (broadcastInDim S8320 ![] bcast_S_S8320 (constantI S_ 32 112#32))))))

/-- Zeros of the scores' shape. -/
def zero4 : FVec Ideal S2x8x8320x8320 .f32 := broadcastInDim S2x8x8320x8320 ![] bcast_S_S2x8x8320x8320 (constant S_ .f32 0x00000000#32)

/-- The logarithm of the logistic function. -/
def lsT (z : FVec Ideal S2x8x8320x8320 .f32) : FVec Ideal S2x8x8320x8320 .f32 :=
  Host.negf (select (cmpf .une (subf (Host.negf z) zero4) (subf (Host.negf z) zero4)) (addf (Host.negf z) zero4)
    (addf (maximumf (Host.negf z) zero4) (Host.log1p (Host.exp (Host.negf (Host.absf (subf (Host.negf z) zero4)))))))

/-- The masked logarithms of one minus the weights. -/
def lnT (z : FVec Ideal S2x8x8320x8320 .f32) : FVec Ideal S2x8x8320x8320 .f32 := select mkT (lsT (Host.negf z)) zero4

/-- Their sums over the later keys. -/
def rxT (l : FVec Ideal S2x8x8320x8320 .f32) : FVec Ideal S2x8x8320x8320 .f32 :=
  subf (Host.reduceWindowAdd ![1, 1, 1, 8320] ![1, 1, 1, 1] ![0, 0, 0, 0] ![0, 0, 0, 8319] l
    (broadcastInDim S_ ![] bcast_S_S_ (constant S_ .f32 0x00000000#32))
    reduceWindows_S2x8x8320x8320_S2x8x8320x8320_w1s1p0_0_w1s1p0_0_w1s1p0_0_w8320s1p0_8319 h_S_) l

/-- The weights. -/
def wT (z : FVec Ideal S2x8x8320x8320 .f32) : FVec Ideal S2x8x8320x8320 .f32 :=
  select mkT (Host.exp (addf (lsT z) (rxT (lnT z)))) zero4

/-- The attention, the heads back beside the lanes. -/
def oT (w : FVec Ideal S2x8x8320x8320 .f32) (v : FVec Ideal S2x8320x512 .bf16) : FVec Ideal S2x8320x8x64 .f32 :=
  transpose S2x8320x8x64 [0, 2, 1, 3] (Host.dotGeneral dot_S2x8x8320x8320_S2x8x8320x64_S2x8x8320x64_3_2_2_3_01_01 none w (hd v))
    transposes_S2x8x8320x64_S2x8320x8x64_0_2_1_3

/-- The normalised attention, its leading rows dropped. -/
def nT (o : FVec Ideal S2x8320x8x64 .f32) (g : FVec Ideal S1x512 .f32) : FVec Ideal S2x8192x512 .f32 :=
  extractStridedSlice S2x8192x512 ![0, 128, 0]
    (mulf (shapeCast S2x8320x512 (mulf o (broadcastInDim S2x8320x8x64 ![0, 1, 2, 3] bcast_S2x8320x8x1_S2x8320x8x64_0_1_2_3
        (Host.rsqrt (addf (Host.divf (broadcastInDim S2x8320x8x1 ![0, 1, 2] bcast_S2x8320x8_S2x8320x8x1_0_1_2
            (Host.reduceAdd (mulf o o) (constant S_ .f32 0x00000000#32) reducesTo_S2x8320x8x64_S2x8320x8_d3 h_S_))
          (broadcastInDim S2x8320x8x1 ![] bcast_S_S2x8320x8x1 (constant S_ .f32 0x42800000#32)))
          (broadcastInDim S2x8320x8x1 ![] bcast_S_S2x8320x8x1 (constant S_ .f32 0x358637BD#32)))))) shapeCasts_S2x8320x8x64_S2x8320x512)
      (broadcastInDim S2x8320x512 ![0, 1, 2] bcast_S1x1x512_S2x8320x512_0_1_2 (broadcastInDim S1x1x512 ![1, 2] bcast_S1x512_S1x1x512_1_2 g)))
    slices_S2x8320x512_S2x8192x512_0_128_0

end Stages

open Idealize.SL.Sem in
/-- The reference's term is its stages composed. -/
theorem res_eq (m : (ℓ : Loc nD τ sig) → Buf (Elt Ideal) ℓ) (c : Dev nD) :
    Cert.ReferenceIdeal.Value.res_main_v48 m c
      = nT (oT (wT (zT (m ((c.tc : Thread nD τ).loc main_arg0)) (m ((c.tc : Thread nD τ).loc main_arg1))))
          (m ((c.tc : Thread nD τ).loc main_arg2))) (m ((c.tc : Thread nD τ).loc main_arg3)) := by
  unfold Cert.ReferenceIdeal.Value.res_main_v48
  rfl

theorem hd_at (x : FVec Ideal S2x8320x512 .bf16) (b : Fin 2) (h : Fin 8) (i : Fin 8320) (d : Fin 64) :
    hd x (ix4 b h i d) = x (ix3 b i (lane h d)) := by
  pointwise [hd]

theorem zT_at (q k : FVec Ideal S2x8320x512 .bf16) (b : Fin 2) (h : Fin 8) (i j : Fin 8320) :
    zT q k (ix4 b h i j) = ∑ d : Fin 64, q (ix3 b i (lane h d)) * cq * k (ix3 b j (lane h d)) := by
  pointwise [zT, hd_at]
  rfl

/-- The mask holds where the key counts. -/
theorem mkT_at (b : Fin 2) (h : Fin 8) (i j : Fin 8320) :
    mkT (ix4 b h i j) = BitVec.ofBool (decide (Seen i.val j.val)) := by
  pointwise [mkT]
  have hi := i.isLt
  have hj := j.isLt
  rw [WordCmp.cmpi_slt_ofNat (by omega) (by omega), WordCmp.cmpi_sge_ofNat (by omega) (by omega), andi_decide]

/-- The logarithm of the logistic function of `z` is that of one minus it at `-z`. -/
theorem lsT_at (z : FVec Ideal S2x8x8320x8320 .f32) (b : Fin 2) (h : Fin 8) (i j : Fin 8320) :
    lsT z (ix4 b h i j) = lg (-(z (ix4 b h i j))) := by
  pointwise [lsT, zero4]
  rw [if_neg (not_not.2 rfl)]
  unfold lg
  rw [zero_sub, zero_sub]
  rfl

/-- A fold that adds is a sum. -/
theorem foldl_add_eq {α : Type} (l : List α) (f : α → EReal) (a : EReal) : l.foldl (fun r n => r + f n) a = a + (l.map f).sum := by
  induction l generalizing a with
  | nil => simp
  | cons x l ih => rw [List.foldl_cons, ih, List.map_cons, List.sum_cons, add_assoc]

/-- The window sum, padded above: the entries from the place on. -/
theorem window_at (x : FVec Ideal S2x8x8320x8320 .f32) (b : Fin 2) (h : Fin 8) (i j : Fin 8320) :
    Host.reduceWindowAdd ![1, 1, 1, 8320] ![1, 1, 1, 1] ![0, 0, 0, 0] ![0, 0, 0, 8319] x
      (broadcastInDim S_ ![] bcast_S_S_ (constant (F := Ideal) S_ .f32 0x00000000#32))
      reduceWindows_S2x8x8320x8320_S2x8x8320x8320_w1s1p0_0_w1s1p0_0_w1s1p0_0_w8320s1p0_8319 h_S_ (ix4 b h i j)
      = ∑ n : Fin 8320, if hn : j.val + n.val < 8320 then x (ix4 b h i ⟨j.val + n.val, hn⟩) else 0 := by
  have h0 : (broadcastInDim S_ ![] bcast_S_S_ (constant (F := Ideal) S_ .f32 0x00000000#32)) (Shape.Idx.first h_S_) = (0 : EReal) :=
    Ideal.ofBits_zero_f32
  unfold Host.reduceWindowAdd
  rw [Ideal.hostReduceWindowAdd_def, h0]
  unfold Ideal.hostReduceWindowAdd Host.reduceWindow
  dsimp only
  rw [foldl_add_eq, zero_add, ← Fin.sum_univ_def]
  have hp : ∀ n : Fin 8320, (Shape.rowMajor (⟨4, ![1, 1, 1, 8320]⟩ : Shape)).symm
      ((Shape.rowMajor (⟨4, ![1, 1, 1, 8320]⟩ : Shape)) (ix4 (0 : Fin 1) (0 : Fin 1) (0 : Fin 1) n)) = ix4 (0 : Fin 1) (0 : Fin 1) (0 : Fin 1) n :=
    fun n => Equiv.symm_apply_apply _ _
  refine (Fintype.sum_bijective (fun n : Fin 8320 => (Shape.rowMajor (⟨4, ![1, 1, 1, 8320]⟩ : Shape)) (ix4 (0 : Fin 1) (0 : Fin 1) (0 : Fin 1) n))
    ⟨fun n n' e => ?_, fun p => ⟨(Shape.rowMajor (⟨4, ![1, 1, 1, 8320]⟩ : Shape)).symm p 3, ?_⟩⟩ _ _ fun n => ?_).symm
  · exact congrFun ((Shape.rowMajor (⟨4, ![1, 1, 1, 8320]⟩ : Shape)).injective e) 3
  · refine (congrArg _ ?_).trans (Equiv.apply_symm_apply _ p)
    refine Eq.trans ?_ (eq_ix4 _).symm
    generalize (Shape.rowMajor (⟨4, ![1, 1, 1, 8320]⟩ : Shape)).symm p = w
    have h0 : w 0 = (0 : Fin 1) := Fin.ext (Nat.lt_one_iff.1 (w 0).isLt)
    have h1 : w 1 = (0 : Fin 1) := Fin.ext (Nat.lt_one_iff.1 (w 1).isLt)
    have h2 : w 2 = (0 : Fin 1) := Fin.ext (Nat.lt_one_iff.1 (w 2).isLt)
    rw [h0, h1, h2]
  · have hb := b.isLt
    have hh := h.isLt
    have hi := i.isLt
    by_cases hn : j.val + n.val < 8320
    · rw [dif_pos hn, dif_pos fun a => by rw [hp]; fin_cases a <;> simp <;> omega]
      refine congrArg x (funext fun a => Fin.ext ?_)
      simp only [hp]
      fin_cases a <;> simp
    · rw [dif_neg hn, dif_neg fun hin => hn (by have := (hin 3).2; rw [hp] at this; simpa using this)]

theorem oT_at (w : FVec Ideal S2x8x8320x8320 .f32) (v : FVec Ideal S2x8320x512 .bf16) (b : Fin 2) (i : Fin 8320) (h : Fin 8) (d : Fin 64) :
    oT w v (ix4 b i h d) = ∑ j : Fin 8320, w (ix4 b h i j) * v (ix3 b j (lane h d)) := by
  pointwise [oT, hd_at]

/-- The normalised attention, of the attention at each column. -/
theorem nT_at (o : FVec Ideal S2x8320x8x64 .f32) (g : FVec Ideal S1x512 .f32) (b : Fin 2) (i : Fin 8192) (e : Fin 512) :
    nT o g (ix3 b i e)
      = normed (fun e' => g (ix2 0 e')) (fun e' => o (ix4 b ⟨128 + i.val, by omega⟩ (headOf e') (laneOf e'))) e := by
  pointwise [nT]
  rw [ofBits_64, Ideal.div_coe (by norm_num), one_div (64 : ℝ)]
  exact (normed_heads (fun e' => g (ix2 0 e')) (fun h d => o (ix4 b ⟨128 + i.val, by omega⟩ h d)) e).symm

/-! ### The reference, an entry at a time -/

section Entry

variable (q k v : FVec Ideal S2x8320x512 .bf16) (b : Fin 2) (h : Fin 8) (i : Fin 8320)

/-- The three tensors by their coordinates. -/
abbrev cur (x : FVec Ideal S2x8320x512 .bf16) (b : Fin 2) (i : Fin 8320) (e : Fin 512) : EReal := x (ix3 b i e)

theorem zT_sc (j : Fin 8320) : zT q k (ix4 b h i j) = sc (cur q) (cur k) b h i j.val := by
  rw [zT_at]
  unfold sc
  rw [dif_pos j.isLt]

theorem lnT_at (j : Fin 8320) :
    lnT (zT q k) (ix4 b h i j) = ln i.val (sc (cur q) (cur k) b h i) j.val := by
  pointwise [lnT, zero4, mkT_at, lsT_at]
  rw [neg_neg, zT_sc]
  rfl

/-- The window sum is the suffix sum. -/
theorem window_suf (f : ℕ → EReal) (j : Fin 8320) :
    (∑ n : Fin 8320, if j.val + n.val < 8320 then f (j.val + n.val) else 0) = ∑ n ∈ Finset.Ico j.val NK, f n := by
  have hj := j.isLt
  rw [Fin.sum_univ_eq_sum_range (fun n => if j.val + n < 8320 then f (j.val + n) else 0) 8320, ← Finset.sum_filter,
    Finset.sum_Ico_eq_sum_range]
  refine Finset.sum_congr (Finset.ext fun n => ?_) fun _ _ => rfl
  simp only [Finset.mem_filter, Finset.mem_range, NK]
  omega

theorem rxT_at (j : Fin 8320) :
    rxT (lnT (zT q k)) (ix4 b h i j)
      = suf i.val (sc (cur q) (cur k) b h i) j.val - ln i.val (sc (cur q) (cur k) b h i) j.val := by
  unfold rxT
  refine (congrArg₂ (· - ·) ((window_at _ b h i j).trans ?_) (lnT_at q k b h i j))
  unfold suf
  rw [← window_suf]
  refine Finset.sum_congr rfl fun n _ => ?_
  by_cases hn : j.val + n.val < 8320
  · rw [dif_pos hn, if_pos hn, lnT_at]
  · rw [dif_neg hn, if_neg hn]

theorem wT_at (j : Fin 8320) :
    wT (zT q k) (ix4 b h i j) = wt i.val (sc (cur q) (cur k) b h i) j.val := by
  rw [← wt_ref _ _ _ j.isLt]
  pointwise [wT, zero4, mkT_at, lsT_at, rxT_at]
  rw [zT_sc]

theorem oT_eq (d : Fin 64) :
    oT (wT (zT q k)) v (ix4 b i h d) = att (cur q) (cur k) (cur v) b i (lane h d) := by
  rw [oT_at]
  unfold att tail
  rw [headOf_lane, show Finset.Ico 0 NK = Finset.range 8320 from (Finset.range_eq_Ico 8320).symm,
    ← Fin.sum_univ_eq_sum_range (fun j => wt i.val (sc (cur q) (cur k) b h i) j * vv (cur v) b (lane h d) j) 8320]
  refine Finset.sum_congr rfl fun j _ => ?_
  rw [wT_at]
  congr 1
  unfold vv
  rw [dif_pos j.isLt]

end Entry

open Idealize.SL.Sem in
/-- The reference's result at an entry: the normalised attention of row `128 + i`. -/
theorem ref_at (m : (ℓ : Loc nD τ sig) → Buf (Elt Ideal) ℓ) (c : Dev nD) (b : Fin 2) (i : Fin 8192) (e : Fin 512) :
    Cert.ReferenceIdeal.Value.res_main_v48 m c (ix3 b i e)
      = normed (fun e' => m ((c.tc : Thread nD τ).loc main_arg3) (ix2 (0 : Fin 1) e'))
          (att (fun b i e => m ((c.tc : Thread nD τ).loc main_arg0) (ix3 b i e)) (fun b i e => m ((c.tc : Thread nD τ).loc main_arg1) (ix3 b i e))
            (fun b i e => m ((c.tc : Thread nD τ).loc main_arg2) (ix3 b i e)) b ⟨128 + i.val, by omega⟩) e := by
  rw [res_eq]
  refine (nT_at _ _ b i e).trans ?_
  congr 1
  funext e'
  rw [oT_eq, lane_headOf]

end Cert.Proof.Val

end
-- ==== Proof.Val.Algebraic.lean ====
/-
  The value claim: over the extended reals the kernel's result is the reference's.
-/
module

public import proofs.«01_k».proof.Defs
public import proofs.«01_k».proof.Proof.Val.Blocks
public import proofs.«01_k».proof.Proof.Val.Ref
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Proof.Val

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Of the same arguments the reference's result is the array the kernel leaves. -/
theorem same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v48 (F := Ideal) m' c = whole m c := by
  funext (i : Cert.KernelIdeal.S2x8192x512.Idx)
  have e : i = ix3 (i 0 : Fin 2) (i 1 : Fin 8192) (i 2 : Fin 512) := by
    funext a
    fin_cases a <;> rfl
  have hr := ref_at m' c (i 0) (i 1) (i 2)
  rw [h0, h1, h2, h3] at hr
  exact (congrArg (Cert.ReferenceIdeal.Value.res_main_v48 (F := Ideal) m' c) e).trans hr

end

/-- The kernel's result is the reference's. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => whole m c, ?_, ?_⟩
  · refine (θ_run Cert.KernelIdeal.defs _ _).mono (fun _ h c => ⟨((h.1 c).1).trans (final_whole m g c), (h.1 c).2⟩) (Cert.Proof.KI.run_args (F := Ideal) m g)
  · refine (θ_run Cert.ReferenceIdeal.defs _ _).mono (fun _ h c => ⟨(h c).1.trans ?_, (h c).2⟩) (Cert.ReferenceIdeal.Value.run (F := Ideal) m' g')
    obtain ⟨h0, h1, h2, h3⟩ := hagree c
    exact same m m' c h0 h1 h2 h3

end Cert.Proof

end
-- ==== Proof.Norm.lean ====
/-
  A row normalised by the root of its mean square and scaled by the gains, and its product with a column, over the
  extended reals.
-/
module

public import Idealize.ShloMosaic.Lib.Pointwise

@[expose] public section

noncomputable section

namespace Cert.Proof

open Idealize.ShloMosaic
open scoped BigOperators

/-- The row `x` over the root of its mean square plus the small constant, times the gain, at entry `d`. -/
def nrm (x g : Fin 1024 → EReal) (d : Fin 1024) : EReal :=
  x d * Ideal.rsqrt (Ideal.div (∑ k, x k * x k) (Ideal.ofBits .f32 0x44800000#32) + Ideal.ofBits .f32 0x358637BD#32) * g d

/-- The normalised row times the column `w`. -/
def lin (x g w : Fin 1024 → EReal) : EReal := ∑ k, nrm x g k * w k

end Cert.Proof

end
-- ==== Proof.In.Common.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
-- ==== Proof.In.Kernel.lean ====
/-
  What a point of the input projection computes, at an entry: its rows normalised, times the weights' columns.
-/
module

public import proofs.«01_k».proof.Proof.Norm
public import proofs.«01_k».proof.Proof.In.Common

@[expose] public section

set_option maxRecDepth 16384

noncomputable section

namespace Cert.Proof.In

open Idealize.ShloMosaic
open Cert.Kernel2Ideal Cert.Kernel2Ideal.Gen
open scoped BigOperators

variable (x : FVec Ideal S256x1024 .f32) (g : FVec Ideal S1x1024 .f32) (r : Fin 256)

/-- The block's rows, normalised. -/
theorem pay2_at (d : Fin 1024) :
    k0_pay2 (F := Ideal) x g (ix2 r d) = nrm (fun d => x (ix2 r d)) (fun d => g (ix2 (0 : Fin 1) d)) d := by
  pointwise [k0_pay2]
  rfl

/-- Their product with the main weights, -/
theorem pay3_at (w : FVec Ideal S1024x3072 .bf16) (j : Fin 3072) :
    k0_pay3 (F := Ideal) x g w (ix2 r j)
      = lin (fun d => x (ix2 r d)) (fun d => g (ix2 (0 : Fin 1) d)) (fun k => w (ix2 k j)) := by
  pointwise [k0_pay3]
  exact Finset.sum_congr rfl fun k _ => congrArg (· * w (ix2 k j)) (pay2_at x g r k)

/-- and with the gates'. -/
theorem pay1_at (w : FVec Ideal S1024x128 .bf16) (j : Fin 128) :
    k0_pay1 (F := Ideal) (k0_pay2 (F := Ideal) x g) w (ix2 r j)
      = lin (fun d => x (ix2 r d)) (fun d => g (ix2 (0 : Fin 1) d)) (fun k => w (ix2 k j)) := by
  pointwise [k0_pay1]
  exact Finset.sum_congr rfl fun k _ => congrArg (· * w (ix2 k j)) (pay2_at x g r k)

section Groups

variable (w : FVec Ideal S1024x3072 .bf16) (j : Fin 512)

/-- The six groups of 512 columns: the first, -/
theorem pay4_at : k0_pay4 (F := Ideal) x g w (ix2 r j) = k0_pay3 (F := Ideal) x g w (ix2 r ⟨0 + j.val, by omega⟩) := by
  pointwise [k0_pay4]

/-- the second, -/
theorem pay5_at : k0_pay5 (F := Ideal) x g w (ix2 r j) = k0_pay3 (F := Ideal) x g w (ix2 r ⟨512 + j.val, by omega⟩) := by
  pointwise [k0_pay5]

/-- the third, -/
theorem pay6_at : k0_pay6 (F := Ideal) x g w (ix2 r j) = k0_pay3 (F := Ideal) x g w (ix2 r ⟨1024 + j.val, by omega⟩) := by
  pointwise [k0_pay6]

/-- the fourth, -/
theorem pay7_at : k0_pay7 (F := Ideal) x g w (ix2 r j) = k0_pay3 (F := Ideal) x g w (ix2 r ⟨1536 + j.val, by omega⟩) := by
  pointwise [k0_pay7]

/-- the fifth, -/
theorem pay8_at : k0_pay8 (F := Ideal) x g w (ix2 r j) = k0_pay3 (F := Ideal) x g w (ix2 r ⟨2048 + j.val, by omega⟩) := by
  pointwise [k0_pay8]

/-- and the sixth. -/
theorem pay9_at : k0_pay9 (F := Ideal) x g w (ix2 r j) = k0_pay3 (F := Ideal) x g w (ix2 r ⟨2560 + j.val, by omega⟩) := by
  pointwise [k0_pay9]

end Groups

end Cert.Proof.In

end
-- ==== Proof.In.Blocks.lean ====
/-
  The input projection's output arrays at the end of its run: every block a point leaves is its rows' of one function
  of the arguments, and the blocks cover the arrays.
-/
module

public import proofs.«01_k».proof.Proof.In.Kernel
public import Idealize.ShloMosaic.Lib.Pipeline.ValueKit

@[expose] public section

set_option maxRecDepth 16384

noncomputable section

namespace Cert.Proof.In

open Idealize.ShloMosaic Idealize.ShloMosaic.TcCoe
open Cert.Kernel2Ideal Cert.Kernel2Ideal.Gen
open scoped BigOperators

variable (m : (ℓ : Loc nD τ sig) → Buf (Elt Ideal) ℓ) (c : Dev nD)

/-- The blocks' places at point `t`. -/
theorem idx_at : ∀ t : Fin cfg0.N,
    cc0_transform_0 (grid0.coords t) = ![t.val, 0]
    ∧ cc0_transform_1 (grid0.coords t) = ![0, 0]
    ∧ cc0_transform_2 (grid0.coords t) = ![0, 0]
    ∧ cc0_transform_3 (grid0.coords t) = ![0, 0]
    ∧ cc0_transform_4 (grid0.coords t) = ![t.val, 0] :=
  (by decide +kernel : ∀ t : Fin grid0.N,
    cc0_transform_0 (grid0.coords t) = ![t.val, 0]
    ∧ cc0_transform_1 (grid0.coords t) = ![0, 0]
    ∧ cc0_transform_2 (grid0.coords t) = ![0, 0]
    ∧ cc0_transform_3 (grid0.coords t) = ![0, 0]
    ∧ cc0_transform_4 (grid0.coords t) = ![t.val, 0])

theorem N_65 (t : Fin cfg0.N) : t.val < 65 := t.isLt

/-- Row `r` of point `t`'s block among all rows. -/
abbrev row (t : Fin cfg0.N) (r : Fin 256) : Fin 16640 := ⟨t.val * 256 + r.val, by have := N_65 t; omega⟩

/-- The stream, the gains, the main weights and the gates', by row and column. -/
abbrev hs : Fin 16640 → Fin 1024 → EReal := fun i d => m ((c : Thread nD τ).loc main_arg0) (ix2 i d)
abbrev gs : Fin 1024 → EReal := fun d => m ((c : Thread nD τ).loc main_arg1) (ix2 (0 : Fin 1) d)
abbrev wm : Fin 1024 → Fin 3072 → EReal := fun k j => m ((c : Thread nD τ).loc main_arg2) (ix2 k j)
abbrev wg : Fin 1024 → Fin 128 → EReal := fun k j => m ((c : Thread nD τ).loc main_arg3) (ix2 k j)

/-- The stream's block, -/
theorem hb_at (t : Fin cfg0.N) (r : Fin 256) (d : Fin 1024) :
    iblk (F := Ideal) m c 0 t (ix2 r d) = hs m c (row t r) d := by
  have h := (idx_at t).1
  show m ((c : Thread nD τ).loc main_arg0) ((win0_0.rect t).emb (ix2 r d)) = _
  refine congrArg (m ((c : Thread nD τ).loc main_arg0)) (funext fun a => Fin.ext ?_)
  fin_cases a
  · show cc0_transform_0 (grid0.coords t) 0 * 256 + 1 * r.val = t.val * 256 + r.val
    rw [h]; show t.val * 256 + 1 * r.val = _; omega
  · show cc0_transform_0 (grid0.coords t) 1 * 1024 + 1 * d.val = d.val
    rw [h]; show 0 * 1024 + 1 * d.val = _; omega

/-- the gains', -/
theorem gb_at (t : Fin cfg0.N) (d : Fin 1024) :
    iblk (F := Ideal) m c 1 t (ix2 (0 : Fin 1) d) = gs m c d := by
  have h := (idx_at t).2.1
  show m ((c : Thread nD τ).loc main_arg1) ((win0_1.rect t).emb (ix2 (0 : Fin 1) d)) = _
  refine congrArg (m ((c : Thread nD τ).loc main_arg1)) (funext fun a => Fin.ext ?_)
  fin_cases a
  · show cc0_transform_1 (grid0.coords t) 0 * 1 + 1 * 0 = 0
    rw [h]; rfl
  · show cc0_transform_1 (grid0.coords t) 1 * 1024 + 1 * d.val = d.val
    rw [h]; show 0 * 1024 + 1 * d.val = _; omega

/-- the main weights' -/
theorem wm_at (t : Fin cfg0.N) (k : Fin 1024) (j : Fin 3072) :
    iblk (F := Ideal) m c 2 t (ix2 k j) = wm m c k j := by
  have h := (idx_at t).2.2.1
  show m ((c : Thread nD τ).loc main_arg2) ((win0_2.rect t).emb (ix2 k j)) = _
  refine congrArg (m ((c : Thread nD τ).loc main_arg2)) (funext fun a => Fin.ext ?_)
  fin_cases a
  · show cc0_transform_2 (grid0.coords t) 0 * 1024 + 1 * k.val = k.val
    rw [h]; show 0 * 1024 + 1 * k.val = _; omega
  · show cc0_transform_2 (grid0.coords t) 1 * 3072 + 1 * j.val = j.val
    rw [h]; show 0 * 3072 + 1 * j.val = _; omega

/-- and the gates'. -/
theorem wg_at (t : Fin cfg0.N) (k : Fin 1024) (j : Fin 128) :
    iblk (F := Ideal) m c 3 t (ix2 k j) = wg m c k j := by
  have h := (idx_at t).2.2.2.1
  show m ((c : Thread nD τ).loc main_arg3) ((win0_3.rect t).emb (ix2 k j)) = _
  refine congrArg (m ((c : Thread nD τ).loc main_arg3)) (funext fun a => Fin.ext ?_)
  fin_cases a
  · show cc0_transform_3 (grid0.coords t) 0 * 1024 + 1 * k.val = k.val
    rw [h]; show 0 * 1024 + 1 * k.val = _; omega
  · show cc0_transform_3 (grid0.coords t) 1 * 128 + 1 * j.val = j.val
    rw [h]; show 0 * 128 + 1 * j.val = _; omega

/-- The projection of row `i` at column `j`, and its gate. -/
def proj (i : Fin 16640) (j : Fin 3072) : EReal := lin (hs m c i) (gs m c) (fun k => wm m c k j)
def gate (i : Fin 16640) (j : Fin 128) : EReal := lin (hs m c i) (gs m c) (fun k => wg m c k j)

/-- A point's product is its rows' projection, -/
theorem main_blk (t : Fin cfg0.N) (r : Fin 256) (j : Fin 3072) :
    k0_pay3 (F := Ideal) (iblk (F := Ideal) m c 0 t) (iblk (F := Ideal) m c 1 t) (iblk (F := Ideal) m c 2 t) (ix2 r j) = proj m c (row t r) j := by
  refine (pay3_at _ _ _ _ _).trans ?_
  unfold proj
  congr 1
  · exact funext fun d => hb_at m c t r d
  · exact funext fun d => gb_at m c t d
  · exact funext fun k => wm_at m c t k j

/-- and its rows' gates. -/
theorem gate_blk (t : Fin cfg0.N) (r : Fin 256) (j : Fin 128) :
    k0_pay1 (F := Ideal) (k0_pay2 (F := Ideal) (iblk (F := Ideal) m c 0 t) (iblk (F := Ideal) m c 1 t)) (iblk (F := Ideal) m c 3 t) (ix2 r j) = gate m c (row t r) j := by
  refine (pay1_at _ _ _ _ _).trans ?_
  unfold gate
  congr 1
  · exact funext fun d => hb_at m c t r d
  · exact funext fun d => gb_at m c t d
  · exact funext fun k => wg_at m c t k j

/-- The group of 512 columns from `o` on. -/
def part (o : ℕ) (ho : o + 512 ≤ 3072) : S16640x512.Idx → EReal := fun i => proj m c (i 0) ⟨o + (i 1).val, by have : (i 1).val < 512 := (i 1).isLt; omega⟩

/-- The gates, the whole array. -/
def gates : S16640x128.Idx → EReal := fun i => gate m c (i 0) (i 1)

/-- The array of the mLSTM inputs ends as its group of the projection's columns. -/
theorem final4 : (dats (F := Ideal) m 0 c).arrAt 4 cfg0.N = part m c 0 (by decide) := by
  refine (dats (F := Ideal) m 0 c).arrAt_eq_of_covers 4 _ (by decide +kernel) fun t hf y => ?_
  have h : cc0_transform_4 (grid0.coords t) = ![t.val, 0] := (idx_at t).2.2.2.2
  have e : ((cfg0.win 4).blk t).view.emb y = ix2 (row t (y 0)) (y 1) := by
    funext a
    refine Fin.ext ?_
    fin_cases a
    · show cc0_transform_4 (grid0.coords t) 0 * 256 + 1 * (y 0).val = t.val * 256 + (y 0).val
      rw [h]; show t.val * 256 + 1 * (y 0).val = _; omega
    · show cc0_transform_4 (grid0.coords t) 1 * 512 + 1 * (y 1).val = (y 1).val
      rw [h]; show 0 * 512 + 1 * (y 1).val = _; omega
  rw [e]
  have a : (dats (F := Ideal) m 0 c).after 4 t = k0_pay4 (F := Ideal) (iblk (F := Ideal) m c 0 t) (iblk (F := Ideal) m c 1 t) (iblk (F := Ideal) m c 2 t) := by
    rw [after0_4]; frame_out
  show (dats (F := Ideal) m 0 c).after 4 t y = _
  rw [a]
  rw [show y = ix2 (y 0 : Fin 256) (y 1 : Fin 512) from by funext a; fin_cases a <;> rfl]
  refine (pay4_at _ _ _ _ _).trans ?_
  exact main_blk m c t (y 0) _

/-- The array of the mLSTM values ends as its group of the projection's columns. -/
theorem final5 : (dats (F := Ideal) m 0 c).arrAt 5 cfg0.N = part m c 512 (by decide) := by
  refine (dats (F := Ideal) m 0 c).arrAt_eq_of_covers 5 _ (by decide +kernel) fun t hf y => ?_
  have h : cc0_transform_5 (grid0.coords t) = ![t.val, 0] := (idx_at t).2.2.2.2
  have e : ((cfg0.win 5).blk t).view.emb y = ix2 (row t (y 0)) (y 1) := by
    funext a
    refine Fin.ext ?_
    fin_cases a
    · show cc0_transform_5 (grid0.coords t) 0 * 256 + 1 * (y 0).val = t.val * 256 + (y 0).val
      rw [h]; show t.val * 256 + 1 * (y 0).val = _; omega
    · show cc0_transform_5 (grid0.coords t) 1 * 512 + 1 * (y 1).val = (y 1).val
      rw [h]; show 0 * 512 + 1 * (y 1).val = _; omega
  rw [e]
  have a : (dats (F := Ideal) m 0 c).after 5 t = k0_pay5 (F := Ideal) (iblk (F := Ideal) m c 0 t) (iblk (F := Ideal) m c 1 t) (iblk (F := Ideal) m c 2 t) := by
    rw [after0_5]; frame_out
  show (dats (F := Ideal) m 0 c).after 5 t y = _
  rw [a]
  rw [show y = ix2 (y 0 : Fin 256) (y 1 : Fin 512) from by funext a; fin_cases a <;> rfl]
  refine (pay5_at _ _ _ _ _).trans ?_
  exact main_blk m c t (y 0) _

/-- The array of the output gates ends as its group of the projection's columns. -/
theorem final6 : (dats (F := Ideal) m 0 c).arrAt 6 cfg0.N = part m c 1024 (by decide) := by
  refine (dats (F := Ideal) m 0 c).arrAt_eq_of_covers 6 _ (by decide +kernel) fun t hf y => ?_
  have h : cc0_transform_6 (grid0.coords t) = ![t.val, 0] := (idx_at t).2.2.2.2
  have e : ((cfg0.win 6).blk t).view.emb y = ix2 (row t (y 0)) (y 1) := by
    funext a
    refine Fin.ext ?_
    fin_cases a
    · show cc0_transform_6 (grid0.coords t) 0 * 256 + 1 * (y 0).val = t.val * 256 + (y 0).val
      rw [h]; show t.val * 256 + 1 * (y 0).val = _; omega
    · show cc0_transform_6 (grid0.coords t) 1 * 512 + 1 * (y 1).val = (y 1).val
      rw [h]; show 0 * 512 + 1 * (y 1).val = _; omega
  rw [e]
  have a : (dats (F := Ideal) m 0 c).after 6 t = k0_pay6 (F := Ideal) (iblk (F := Ideal) m c 0 t) (iblk (F := Ideal) m c 1 t) (iblk (F := Ideal) m c 2 t) := by
    rw [after0_6]; frame_out
  show (dats (F := Ideal) m 0 c).after 6 t y = _
  rw [a]
  rw [show y = ix2 (y 0 : Fin 256) (y 1 : Fin 512) from by funext a; fin_cases a <;> rfl]
  refine (pay6_at _ _ _ _ _).trans ?_
  exact main_blk m c t (y 0) _

/-- The array of the gates ends as the rows' gates. -/
theorem final7 : (dats (F := Ideal) m 0 c).arrAt 7 cfg0.N = gates m c := by
  refine (dats (F := Ideal) m 0 c).arrAt_eq_of_covers 7 _ (by decide +kernel) fun t hf y => ?_
  have h : cc0_transform_7 (grid0.coords t) = ![t.val, 0] := (idx_at t).2.2.2.2
  have e : ((cfg0.win 7).blk t).view.emb y = ix2 (row t (y 0)) (y 1) := by
    funext a
    refine Fin.ext ?_
    fin_cases a
    · show cc0_transform_7 (grid0.coords t) 0 * 256 + 1 * (y 0).val = t.val * 256 + (y 0).val
      rw [h]; show t.val * 256 + 1 * (y 0).val = _; omega
    · show cc0_transform_7 (grid0.coords t) 1 * 128 + 1 * (y 1).val = (y 1).val
      rw [h]; show 0 * 128 + 1 * (y 1).val = _; omega
  rw [e]
  have a : (dats (F := Ideal) m 0 c).after 7 t = k0_pay1 (F := Ideal) (k0_pay2 (F := Ideal) (iblk (F := Ideal) m c 0 t) (iblk (F := Ideal) m c 1 t)) (iblk (F := Ideal) m c 3 t) := by
    rw [after0_7]; frame_out
  show (dats (F := Ideal) m 0 c).after 7 t y = _
  rw [a]
  rw [show y = ix2 (y 0 : Fin 256) (y 1 : Fin 128) from by funext a; fin_cases a <;> rfl]
  exact gate_blk m c t (y 0) (y 1)

/-- The array of the queries ends as its group of the projection's columns. -/
theorem final8 : (dats (F := Ideal) m 0 c).arrAt 8 cfg0.N = part m c 1536 (by decide) := by
  refine (dats (F := Ideal) m 0 c).arrAt_eq_of_covers 8 _ (by decide +kernel) fun t hf y => ?_
  have h : cc0_transform_8 (grid0.coords t) = ![t.val, 0] := (idx_at t).2.2.2.2
  have e : ((cfg0.win 8).blk t).view.emb y = ix2 (row t (y 0)) (y 1) := by
    funext a
    refine Fin.ext ?_
    fin_cases a
    · show cc0_transform_8 (grid0.coords t) 0 * 256 + 1 * (y 0).val = t.val * 256 + (y 0).val
      rw [h]; show t.val * 256 + 1 * (y 0).val = _; omega
    · show cc0_transform_8 (grid0.coords t) 1 * 512 + 1 * (y 1).val = (y 1).val
      rw [h]; show 0 * 512 + 1 * (y 1).val = _; omega
  rw [e]
  have a : (dats (F := Ideal) m 0 c).after 8 t = k0_pay7 (F := Ideal) (iblk (F := Ideal) m c 0 t) (iblk (F := Ideal) m c 1 t) (iblk (F := Ideal) m c 2 t) := by
    rw [after0_8]; frame_out
  show (dats (F := Ideal) m 0 c).after 8 t y = _
  rw [a]
  rw [show y = ix2 (y 0 : Fin 256) (y 1 : Fin 512) from by funext a; fin_cases a <;> rfl]
  refine (pay7_at _ _ _ _ _).trans ?_
  exact main_blk m c t (y 0) _

/-- The array of the keys ends as its group of the projection's columns. -/
theorem final9 : (dats (F := Ideal) m 0 c).arrAt 9 cfg0.N = part m c 2048 (by decide) := by
  refine (dats (F := Ideal) m 0 c).arrAt_eq_of_covers 9 _ (by decide +kernel) fun t hf y => ?_
  have h : cc0_transform_9 (grid0.coords t) = ![t.val, 0] := (idx_at t).2.2.2.2
  have e : ((cfg0.win 9).blk t).view.emb y = ix2 (row t (y 0)) (y 1) := by
    funext a
    refine Fin.ext ?_
    fin_cases a
    · show cc0_transform_9 (grid0.coords t) 0 * 256 + 1 * (y 0).val = t.val * 256 + (y 0).val
      rw [h]; show t.val * 256 + 1 * (y 0).val = _; omega
    · show cc0_transform_9 (grid0.coords t) 1 * 512 + 1 * (y 1).val = (y 1).val
      rw [h]; show 0 * 512 + 1 * (y 1).val = _; omega
  rw [e]
  have a : (dats (F := Ideal) m 0 c).after 9 t = k0_pay8 (F := Ideal) (iblk (F := Ideal) m c 0 t) (iblk (F := Ideal) m c 1 t) (iblk (F := Ideal) m c 2 t) := by
    rw [after0_9]; frame_out
  show (dats (F := Ideal) m 0 c).after 9 t y = _
  rw [a]
  rw [show y = ix2 (y 0 : Fin 256) (y 1 : Fin 512) from by funext a; fin_cases a <;> rfl]
  refine (pay8_at _ _ _ _ _).trans ?_
  exact main_blk m c t (y 0) _

/-- The array of the values ends as its group of the projection's columns. -/
theorem final10 : (dats (F := Ideal) m 0 c).arrAt 10 cfg0.N = part m c 2560 (by decide) := by
  refine (dats (F := Ideal) m 0 c).arrAt_eq_of_covers 10 _ (by decide +kernel) fun t hf y => ?_
  have h : cc0_transform_10 (grid0.coords t) = ![t.val, 0] := (idx_at t).2.2.2.2
  have e : ((cfg0.win 10).blk t).view.emb y = ix2 (row t (y 0)) (y 1) := by
    funext a
    refine Fin.ext ?_
    fin_cases a
    · show cc0_transform_10 (grid0.coords t) 0 * 256 + 1 * (y 0).val = t.val * 256 + (y 0).val
      rw [h]; show t.val * 256 + 1 * (y 0).val = _; omega
    · show cc0_transform_10 (grid0.coords t) 1 * 512 + 1 * (y 1).val = (y 1).val
      rw [h]; show 0 * 512 + 1 * (y 1).val = _; omega
  rw [e]
  have a : (dats (F := Ideal) m 0 c).after 10 t = k0_pay9 (F := Ideal) (iblk (F := Ideal) m c 0 t) (iblk (F := Ideal) m c 1 t) (iblk (F := Ideal) m c 2 t) := by
    rw [after0_10]; frame_out
  show (dats (F := Ideal) m 0 c).after 10 t y = _
  rw [a]
  rw [show y = ix2 (y 0 : Fin 256) (y 1 : Fin 512) from by funext a; fin_cases a <;> rfl]
  refine (pay9_at _ _ _ _ _).trans ?_
  exact main_blk m c t (y 0) _

end Cert.Proof.In

end
-- ==== Proof.In.Ref.lean ====
/-
  The reference's projection at an entry: the stream's row normalised, times the weights' column.
-/
module

public import proofs.«01_k».proof.Proof.Norm
public import proofs.«01_k».proof.Proof.In.Common

@[expose] public section

set_option maxRecDepth 16384

noncomputable section

namespace Cert.Proof.In

open Idealize.ShloMosaic
open Cert.Reference2Ideal Cert.Reference2Ideal.Gen Cert.Reference2Ideal.Read
open scoped BigOperators

variable (x : FVec Ideal S16640x1024 .f32) (g : FVec Ideal S1x1024 .f32) (i : Fin 16640)

/-- The reference's rows, normalised. -/
theorem ref_norm (d : Fin 1024) :
    val_main_v11 (F := Ideal) x g (ix2 i d) = nrm (fun d => x (ix2 i d)) (fun d => g (ix2 (0 : Fin 1) d)) d := by
  pointwise [val_main_v11, val_main_v10, val_main_v9, val_main_v8, val_main_v7, val_main_v6, val_main_v5, val_main_cst_1,
    val_main_v4, val_main_v3, val_main_cst_0, val_main_v2, val_main_v1, val_main_cst, val_main_v0]
  rfl

/-- Their product with the main weights, -/
theorem ref_main (w : FVec Ideal S1024x3072 .bf16) (j : Fin 3072) :
    val_main_v13 (F := Ideal) x g w (ix2 i j)
      = lin (fun d => x (ix2 i d)) (fun d => g (ix2 (0 : Fin 1) d)) (fun k => w (ix2 k j)) := by
  pointwise [val_main_v13, val_main_v12]
  exact Finset.sum_congr rfl fun k _ => congrArg (· * w (ix2 k j)) (ref_norm x g i k)

/-- and with the gates'. -/
theorem ref_gate (w : FVec Ideal S1024x128 .bf16) (j : Fin 128) :
    val_main_v21 (F := Ideal) x g w (ix2 i j)
      = lin (fun d => x (ix2 i d)) (fun d => g (ix2 (0 : Fin 1) d)) (fun k => w (ix2 k j)) := by
  pointwise [val_main_v21, val_main_v20]
  exact Finset.sum_congr rfl fun k _ => congrArg (· * w (ix2 k j)) (ref_norm x g i k)

end Cert.Proof.In

end
-- ==== Proof.In.Whole.lean ====
/-
  The reference's seven results as functions of its arguments, whole arrays.
-/
module

public import proofs.«01_k».proof.Proof.In.Ref

@[expose] public section

set_option maxRecDepth 16384

noncomputable section

namespace Cert.Proof.In

open Idealize.ShloMosaic
open Cert.Reference2Ideal Cert.Reference2Ideal.Gen Cert.Reference2Ideal.Read

variable (x : FVec Ideal S16640x1024 .f32) (g : FVec Ideal S1x1024 .f32)

/-- The group of 512 columns from `o` on, of rows, gains and weights. -/
def partOf (w : FVec Ideal S1024x3072 .bf16) (o : ℕ) (ho : o + 512 ≤ 3072) : S16640x512.Idx → EReal := fun i =>
  lin (fun d => x (ix2 (i 0) d)) (fun d => g (ix2 (0 : Fin 1) d)) (fun k => w (ix2 k (⟨o + (i 1).val, by have : (i 1).val < 512 := (i 1).isLt; omega⟩ : Fin 3072)))

/-- The gates of rows, gains and weights. -/
def gatesOf (w : FVec Ideal S1024x128 .bf16) : S16640x128.Idx → EReal := fun i =>
  lin (fun d => x (ix2 (i 0) d)) (fun d => g (ix2 (0 : Fin 1) d)) (fun k => w (ix2 k (i 1)))

/-- The first group is the columns from 0 on, -/
theorem ref14 (w : FVec Ideal S1024x3072 .bf16) : val_main_v14 (F := Ideal) x g w = partOf x g w 0 (by decide) := by
  funext i
  have e : idx_main_v14 i = ix2 (i 0 : Fin 16640) (⟨0 + (i 1).val, by have : (i 1).val < 512 := (i 1).isLt; omega⟩ : Fin 3072) := by
    funext a
    refine Fin.ext ?_
    fin_cases a
    · show (i 0).val = (i 0).val
      rfl
    · show (i 1).val = 0 + (i 1).val
      omega
  rw [val_main_v14_apply, e]
  exact ref_main x g (i 0) w _

/-- the second's, from 512, -/
theorem ref15 (w : FVec Ideal S1024x3072 .bf16) : val_main_v15 (F := Ideal) x g w = partOf x g w 512 (by decide) := by
  funext i
  have e : idx_main_v15 i = ix2 (i 0 : Fin 16640) (⟨512 + (i 1).val, by have : (i 1).val < 512 := (i 1).isLt; omega⟩ : Fin 3072) := by
    funext a
    refine Fin.ext ?_
    fin_cases a
    · show (i 0).val = (i 0).val
      rfl
    · show 512 + (i 1).val = 512 + (i 1).val
      omega
  rw [val_main_v15_apply, e]
  exact ref_main x g (i 0) w _

/-- the third's, from 1024, -/
theorem ref16 (w : FVec Ideal S1024x3072 .bf16) : val_main_v16 (F := Ideal) x g w = partOf x g w 1024 (by decide) := by
  funext i
  have e : idx_main_v16 i = ix2 (i 0 : Fin 16640) (⟨1024 + (i 1).val, by have : (i 1).val < 512 := (i 1).isLt; omega⟩ : Fin 3072) := by
    funext a
    refine Fin.ext ?_
    fin_cases a
    · show (i 0).val = (i 0).val
      rfl
    · show 1024 + (i 1).val = 1024 + (i 1).val
      omega
  rw [val_main_v16_apply, e]
  exact ref_main x g (i 0) w _

/-- the fourth's, from 1536, -/
theorem ref22 (w : FVec Ideal S1024x3072 .bf16) : val_main_v22 (F := Ideal) x g w = partOf x g w 1536 (by decide) := by
  funext i
  have e : idx_main_v17 i = ix2 (i 0 : Fin 16640) (⟨1536 + (i 1).val, by have : (i 1).val < 512 := (i 1).isLt; omega⟩ : Fin 3072) := by
    funext a
    refine Fin.ext ?_
    fin_cases a
    · show (i 0).val = (i 0).val
      rfl
    · show 1536 + (i 1).val = 1536 + (i 1).val
      omega
  show val_main_v17 (F := Ideal) x g w i = _
  rw [val_main_v17_apply, e]
  exact ref_main x g (i 0) w _

/-- the fifth's, from 2048, -/
theorem ref23 (w : FVec Ideal S1024x3072 .bf16) : val_main_v23 (F := Ideal) x g w = partOf x g w 2048 (by decide) := by
  funext i
  have e : idx_main_v18 i = ix2 (i 0 : Fin 16640) (⟨2048 + (i 1).val, by have : (i 1).val < 512 := (i 1).isLt; omega⟩ : Fin 3072) := by
    funext a
    refine Fin.ext ?_
    fin_cases a
    · show (i 0).val = (i 0).val
      rfl
    · show 2048 + (i 1).val = 2048 + (i 1).val
      omega
  show val_main_v18 (F := Ideal) x g w i = _
  rw [val_main_v18_apply, e]
  exact ref_main x g (i 0) w _

/-- and the sixth's, from 2560. -/
theorem ref24 (w : FVec Ideal S1024x3072 .bf16) : val_main_v24 (F := Ideal) x g w = partOf x g w 2560 (by decide) := by
  funext i
  have e : idx_main_v19 i = ix2 (i 0 : Fin 16640) (⟨2560 + (i 1).val, by have : (i 1).val < 512 := (i 1).isLt; omega⟩ : Fin 3072) := by
    funext a
    refine Fin.ext ?_
    fin_cases a
    · show (i 0).val = (i 0).val
      rfl
    · show 2560 + (i 1).val = 2560 + (i 1).val
      omega
  show val_main_v19 (F := Ideal) x g w i = _
  rw [val_main_v19_apply, e]
  exact ref_main x g (i 0) w _

/-- The gates' are the gates. -/
theorem ref21 (w : FVec Ideal S1024x128 .bf16) : val_main_v21 (F := Ideal) x g w = gatesOf x g w := by
  funext i
  have e : i = ix2 (i 0 : Fin 16640) (i 1 : Fin 128) := by
    funext a
    fin_cases a <;> rfl
  exact (congrArg (val_main_v21 (F := Ideal) x g w) e).trans (ref_gate x g (i 0) w (i 1))

end Cert.Proof.In

end
-- ==== Proof.In.Algebraic.lean ====
/-
  The input projection's claims: the frames, and that over the extended reals its seven results are the reference's.
-/
module

public import proofs.«01_k».proof.Defs
public import proofs.«01_k».proof.Proof.In.Blocks
public import proofs.«01_k».proof.Proof.In.Whole
public import Idealize.ShloMosaic.Lib.Quiescent

@[expose] public section

set_option maxRecDepth 16384

noncomputable section

namespace Cert.Proof.In

open Idealize.ShloMosaic Idealize.ShloMosaic.TcCoe Idealize.SL.Sem

/-- The kernel as measured ends with its arguments unchanged and its counters at zero. -/
theorem frame_p : Cert.quiescent_Kernel2 := fun m ρ _ => Cert.Kernel2.Gen.frame (F := Bits) m ρ

/-- So does the kernel over the extended reals, -/
theorem frame_pi : Cert.quiescent_Kernel2Ideal := fun m ρ _ => Cert.Kernel2Ideal.Gen.frame (F := Ideal) m ρ

/-- and the reference. -/
theorem frame_ri : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- The groups of the same arguments are the same, -/
theorem part_eq (o : ℕ) (ho : o + 512 ≤ 3072)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    partOf (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) o ho = part m c o ho := by
  rw [h0, h1, h2]
  rfl

/-- and so are the gates. -/
theorem gates_eq
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    gatesOf (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) = gates m c := by
  rw [h0, h1, h3]
  rfl

end

/-- Each of the kernel's seven results is the reference's. -/
theorem algebraic : Cert.algebraic_Kernel2Ideal_Reference2Ideal
    (hKernel2Ideal := Cert.Kernel2Ideal.Gen.facts) (hReference2Ideal := Cert.Reference2Ideal.Gen.facts) := by
  intro m g m' g' _ hagree
  refine ⟨fun c => part m c 0 (by decide), fun c => part m c 512 (by decide), fun c => part m c 1024 (by decide), fun c => gates m c,
    fun c => part m c 1536 (by decide), fun c => part m c 2048 (by decide), fun c => part m c 2560 (by decide), ?_, ?_⟩
  · refine (θ_run Cert.Kernel2Ideal.defs _ _).mono (fun _ h c => ?_) (Cert.Kernel2Ideal.Value.run_blocks (F := Ideal) m g)
    obtain ⟨a0, a1, a2, a3, a4, a5, a6, a⟩ := h c
    exact ⟨a0.trans (final4 m c), a1.trans (final5 m c), a2.trans (final6 m c), a3.trans (final7 m c), a4.trans (final8 m c),
      a5.trans (final9 m c), a6.trans (final10 m c), a⟩
  · refine (θ_run Cert.Reference2Ideal.defs _ _).mono (fun _ h c => ?_) (Cert.Reference2Ideal.Value.run (F := Ideal) m' g')
    obtain ⟨h0, h1, h2, h3⟩ := hagree c
    obtain ⟨a0, a1, a2, a3, a4, a5, a6, a⟩ := h c
    refine ⟨a0.trans ?_, a1.trans ?_, a2.trans ?_, a3.trans ?_, a4.trans ?_, a5.trans ?_, a6.trans ?_, a⟩
    · exact ((Cert.Reference2Ideal.Read.val_main_v14_eq (F := Ideal) _ _ _).trans (ref14 _ _ _)).trans (part_eq m m' c _ _ h0 h1 h2)
    · exact ((Cert.Reference2Ideal.Read.val_main_v15_eq (F := Ideal) _ _ _).trans (ref15 _ _ _)).trans (part_eq m m' c _ _ h0 h1 h2)
    · exact ((Cert.Reference2Ideal.Read.val_main_v16_eq (F := Ideal) _ _ _).trans (ref16 _ _ _)).trans (part_eq m m' c _ _ h0 h1 h2)
    · exact ((Cert.Reference2Ideal.Read.val_main_v21_eq (F := Ideal) _ _ _).trans (ref21 _ _ _)).trans (gates_eq m m' c h0 h1 h3)
    · exact ((Cert.Reference2Ideal.Read.val_main_v22_eq (F := Ideal) _ _ _).trans (ref22 _ _ _)).trans (part_eq m m' c _ _ h0 h1 h2)
    · exact ((Cert.Reference2Ideal.Read.val_main_v23_eq (F := Ideal) _ _ _).trans (ref23 _ _ _)).trans (part_eq m m' c _ _ h0 h1 h2)
    · exact ((Cert.Reference2Ideal.Read.val_main_v24_eq (F := Ideal) _ _ _).trans (ref24 _ _ _)).trans (part_eq m m' c _ _ h0 h1 h2)

end Cert.Proof.In

end
-- ==== Proof.Ot.Common.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
-- ==== Proof.Ot.Kernel.lean ====
/-
  What a point of the output projection computes, at an entry: its rows' residual, and the residual normalised with the
  features first.
-/
module

public import proofs.«01_k».proof.Proof.Norm
public import proofs.«01_k».proof.Proof.Ot.Common

@[expose] public section

set_option maxRecDepth 16384

noncomputable section

namespace Cert.Proof.Ot

open Idealize.ShloMosaic
open Cert.Kernel3Ideal Cert.Kernel3Ideal.Gen
open scoped BigOperators

/-- The residual of the row `x` with the two mixers' rows `a` and `b` through their weights, at entry `j`. -/
def res (x : Fin 1024 → EReal) (a b : Fin 512 → EReal) (wa wb : Fin 512 → Fin 1024 → EReal) (j : Fin 1024) : EReal :=
  x j + ∑ k, a k * wa k j + ∑ k, b k * wb k j

variable (x : FVec Ideal S1x512x1024 .f32) (a b : FVec Ideal S1x512x512 .f32) (wa wb : FVec Ideal S512x1024 .bf16)
  (g : FVec Ideal S1x1024 .f32) (r : Fin 512) (j : Fin 1024)

/-- The residual of row `r` of a block. -/
abbrev resB : Fin 1024 → EReal :=
  res (fun d => x (ix3 (0 : Fin 1) r d)) (fun k => a (ix3 (0 : Fin 1) r k)) (fun k => b (ix3 (0 : Fin 1) r k))
    (fun k d => wa (ix2 k d)) (fun k d => wb (ix2 k d))

/-- The body computes it, -/
theorem pay1_at : k0_pay1 (F := Ideal) x a wa b wb (ix2 r j) = resB x a b wa wb r j := by
  pointwise [k0_pay1]
  rfl

/-- leaves it in the first output -/
theorem pay2_at : k0_pay2 (F := Ideal) x a wa b wb (ix3 (0 : Fin 1) r j) = resB x a b wa wb r j := by
  pointwise [k0_pay2]
  exact pay1_at x a b wa wb r j

/-- and, normalised, in the second. -/
theorem pay3_at : k0_pay3 (F := Ideal) x a wa b wb g (ix2 j r) = nrm (resB x a b wa wb r) (fun d => g (ix2 (0 : Fin 1) d)) j := by
  have e : resB x a b wa wb r = fun d => k0_pay1 (F := Ideal) x a wa b wb (ix2 r d) := funext fun d => (pay1_at x a b wa wb r d).symm
  rw [e]
  pointwise [k0_pay3]
  rfl

end Cert.Proof.Ot

end
-- ==== Proof.Ot.Blocks.lean ====
/-
  The output projection's arrays at the end of its run: every block a point leaves is its rows' of one function of the
  arguments, and the blocks cover the arrays.
-/
module

public import proofs.«01_k».proof.Proof.Ot.Kernel
public import Idealize.ShloMosaic.Lib.Pipeline.ValueKit

@[expose] public section

set_option maxRecDepth 16384

noncomputable section

namespace Cert.Proof.Ot

open Idealize.ShloMosaic Idealize.ShloMosaic.TcCoe
open Cert.Kernel3Ideal Cert.Kernel3Ideal.Gen
open scoped BigOperators

variable (m : (ℓ : Loc nD τ sig) → Buf (Elt Ideal) ℓ) (c : Dev nD)

/-- The blocks' places at point `t`. -/
theorem idx_at : ∀ t : Fin cfg0.N,
    cc0_transform_0 (grid0.coords t) = ![t.val / 16, t.val % 16, 0]
    ∧ cc0_transform_1 (grid0.coords t) = ![t.val / 16, t.val % 16, 0]
    ∧ cc0_transform_2 (grid0.coords t) = ![t.val / 16, t.val % 16, 0]
    ∧ cc0_transform_3 (grid0.coords t) = ![0, 0]
    ∧ cc0_transform_4 (grid0.coords t) = ![0, 0]
    ∧ cc0_transform_5 (grid0.coords t) = ![0, 0]
    ∧ cc0_transform_6 (grid0.coords t) = ![t.val / 16, t.val % 16, 0]
    ∧ cc0_transform_7 (grid0.coords t) = ![0, t.val] :=
  (by decide +kernel : ∀ t : Fin grid0.N,
    cc0_transform_0 (grid0.coords t) = ![t.val / 16, t.val % 16, 0]
    ∧ cc0_transform_1 (grid0.coords t) = ![t.val / 16, t.val % 16, 0]
    ∧ cc0_transform_2 (grid0.coords t) = ![t.val / 16, t.val % 16, 0]
    ∧ cc0_transform_3 (grid0.coords t) = ![0, 0]
    ∧ cc0_transform_4 (grid0.coords t) = ![0, 0]
    ∧ cc0_transform_5 (grid0.coords t) = ![0, 0]
    ∧ cc0_transform_6 (grid0.coords t) = ![t.val / 16, t.val % 16, 0]
    ∧ cc0_transform_7 (grid0.coords t) = ![0, t.val])

theorem N_32 (t : Fin cfg0.N) : t.val < 32 := t.isLt

/-- The sequence of point `t`, -/
abbrev sq (t : Fin cfg0.N) : Fin 2 := ⟨t.val / 16, by have := N_32 t; omega⟩

/-- row `r` of its block in that sequence -/
abbrev row (t : Fin cfg0.N) (r : Fin 512) : Fin 8192 := ⟨t.val % 16 * 512 + r.val, by omega⟩

/-- and among the rows of both. -/
abbrev tok (t : Fin cfg0.N) (r : Fin 512) : Fin 16384 := ⟨t.val * 512 + r.val, by have := N_32 t; omega⟩

/-- The stream's block, -/
theorem b0_at (t : Fin cfg0.N) (r : Fin 512) (d : Fin 1024) :
    iblk (F := Ideal) m c 0 t (ix3 (0 : Fin 1) r d) = m ((c : Thread nD τ).loc main_arg0) (ix3 (sq t) (row t r) d) := by
  have h := (idx_at t).1
  show m ((c : Thread nD τ).loc main_arg0) ((win0_0.rect t).emb (ix3 (0 : Fin 1) r d)) = _
  refine congrArg (m ((c : Thread nD τ).loc main_arg0)) (funext fun a => Fin.ext ?_)
  fin_cases a
  · show cc0_transform_0 (grid0.coords t) 0 * 1 + 1 * 0 = t.val / 16
    rw [h]; show t.val / 16 * 1 + 1 * 0 = _; omega
  · show cc0_transform_0 (grid0.coords t) 1 * 512 + 1 * r.val = t.val % 16 * 512 + r.val
    rw [h]; show t.val % 16 * 512 + 1 * r.val = _; omega
  · show cc0_transform_0 (grid0.coords t) 2 * 1024 + 1 * d.val = d.val
    rw [h]; show 0 * 1024 + 1 * d.val = _; omega

/-- the first mixer's, -/
theorem b1_at (t : Fin cfg0.N) (r : Fin 512) (d : Fin 512) :
    iblk (F := Ideal) m c 1 t (ix3 (0 : Fin 1) r d) = m ((c : Thread nD τ).loc main_arg1) (ix3 (sq t) (row t r) d) := by
  have h := (idx_at t).2.1
  show m ((c : Thread nD τ).loc main_arg1) ((win0_1.rect t).emb (ix3 (0 : Fin 1) r d)) = _
  refine congrArg (m ((c : Thread nD τ).loc main_arg1)) (funext fun a => Fin.ext ?_)
  fin_cases a
  · show cc0_transform_1 (grid0.coords t) 0 * 1 + 1 * 0 = t.val / 16
    rw [h]; show t.val / 16 * 1 + 1 * 0 = _; omega
  · show cc0_transform_1 (grid0.coords t) 1 * 512 + 1 * r.val = t.val % 16 * 512 + r.val
    rw [h]; show t.val % 16 * 512 + 1 * r.val = _; omega
  · show cc0_transform_1 (grid0.coords t) 2 * 512 + 1 * d.val = d.val
    rw [h]; show 0 * 512 + 1 * d.val = _; omega

/-- the second's, -/
theorem b2_at (t : Fin cfg0.N) (r : Fin 512) (d : Fin 512) :
    iblk (F := Ideal) m c 2 t (ix3 (0 : Fin 1) r d) = m ((c : Thread nD τ).loc main_arg2) (ix3 (sq t) (row t r) d) := by
  have h := (idx_at t).2.2.1
  show m ((c : Thread nD τ).loc main_arg2) ((win0_2.rect t).emb (ix3 (0 : Fin 1) r d)) = _
  refine congrArg (m ((c : Thread nD τ).loc main_arg2)) (funext fun a => Fin.ext ?_)
  fin_cases a
  · show cc0_transform_2 (grid0.coords t) 0 * 1 + 1 * 0 = t.val / 16
    rw [h]; show t.val / 16 * 1 + 1 * 0 = _; omega
  · show cc0_transform_2 (grid0.coords t) 1 * 512 + 1 * r.val = t.val % 16 * 512 + r.val
    rw [h]; show t.val % 16 * 512 + 1 * r.val = _; omega
  · show cc0_transform_2 (grid0.coords t) 2 * 512 + 1 * d.val = d.val
    rw [h]; show 0 * 512 + 1 * d.val = _; omega

/-- the first mixer's weights', -/
theorem b3_at (t : Fin cfg0.N) (k : Fin 512) (d : Fin 1024) :
    iblk (F := Ideal) m c 3 t (ix2 k d) = m ((c : Thread nD τ).loc main_arg3) (ix2 k d) := by
  have h := (idx_at t).2.2.2.1
  show m ((c : Thread nD τ).loc main_arg3) ((win0_3.rect t).emb (ix2 k d)) = _
  refine congrArg (m ((c : Thread nD τ).loc main_arg3)) (funext fun a => Fin.ext ?_)
  fin_cases a
  · show cc0_transform_3 (grid0.coords t) 0 * 512 + 1 * k.val = k.val
    rw [h]; show 0 * 512 + 1 * k.val = _; omega
  · show cc0_transform_3 (grid0.coords t) 1 * 1024 + 1 * d.val = d.val
    rw [h]; show 0 * 1024 + 1 * d.val = _; omega

/-- the second's -/
theorem b4_at (t : Fin cfg0.N) (k : Fin 512) (d : Fin 1024) :
    iblk (F := Ideal) m c 4 t (ix2 k d) = m ((c : Thread nD τ).loc main_arg4) (ix2 k d) := by
  have h := (idx_at t).2.2.2.2.1
  show m ((c : Thread nD τ).loc main_arg4) ((win0_4.rect t).emb (ix2 k d)) = _
  refine congrArg (m ((c : Thread nD τ).loc main_arg4)) (funext fun a => Fin.ext ?_)
  fin_cases a
  · show cc0_transform_4 (grid0.coords t) 0 * 512 + 1 * k.val = k.val
    rw [h]; show 0 * 512 + 1 * k.val = _; omega
  · show cc0_transform_4 (grid0.coords t) 1 * 1024 + 1 * d.val = d.val
    rw [h]; show 0 * 1024 + 1 * d.val = _; omega

/-- and the gains'. -/
theorem b5_at (t : Fin cfg0.N) (k : Fin 1) (d : Fin 1024) :
    iblk (F := Ideal) m c 5 t (ix2 k d) = m ((c : Thread nD τ).loc main_arg5) (ix2 k d) := by
  have h := (idx_at t).2.2.2.2.2.1
  show m ((c : Thread nD τ).loc main_arg5) ((win0_5.rect t).emb (ix2 k d)) = _
  refine congrArg (m ((c : Thread nD τ).loc main_arg5)) (funext fun a => Fin.ext ?_)
  fin_cases a
  · show cc0_transform_5 (grid0.coords t) 0 * 1 + 1 * k.val = k.val
    rw [h]; show 0 * 1 + 1 * k.val = _; omega
  · show cc0_transform_5 (grid0.coords t) 1 * 1024 + 1 * d.val = d.val
    rw [h]; show 0 * 1024 + 1 * d.val = _; omega

/-- The residual of row `i` of sequence `n`, and the gains. -/
def resM (n : Fin 2) (i : Fin 8192) : Fin 1024 → EReal :=
  res (fun d => m ((c : Thread nD τ).loc main_arg0) (ix3 n i d)) (fun k => m ((c : Thread nD τ).loc main_arg1) (ix3 n i k))
    (fun k => m ((c : Thread nD τ).loc main_arg2) (ix3 n i k)) (fun k d => m ((c : Thread nD τ).loc main_arg3) (ix2 k d))
    (fun k d => m ((c : Thread nD τ).loc main_arg4) (ix2 k d))
abbrev gs : Fin 1024 → EReal := fun d => m ((c : Thread nD τ).loc main_arg5) (ix2 (0 : Fin 1) d)

/-- A point's residual is its rows'. -/
theorem res_blk (t : Fin cfg0.N) (r : Fin 512) :
    resB (iblk (F := Ideal) m c 0 t) (iblk (F := Ideal) m c 1 t) (iblk (F := Ideal) m c 2 t) (iblk (F := Ideal) m c 3 t) (iblk (F := Ideal) m c 4 t) r = resM m c (sq t) (row t r) := by
  unfold resB resM
  congr 1
  · exact funext fun d => b0_at m c t r d
  · exact funext fun k => b1_at m c t r k
  · exact funext fun k => b2_at m c t r k
  · exact funext fun k => funext fun d => b3_at m c t k d
  · exact funext fun k => funext fun d => b4_at m c t k d

/-- The residual, the whole array. -/
def resid : S2x8192x1024.Idx → EReal := fun i => resM m c (i 0) (i 1) (i 2)

/-- Its normalisation, the whole array, features first. -/
def normT : S1024x16384.Idx → EReal := fun i =>
  nrm (resM m c ⟨(i 1).val / 8192, by have : (i 1).val < 16384 := (i 1).isLt; omega⟩ ⟨(i 1).val % 8192, Nat.mod_lt _ (by decide)⟩) (gs m c) (i 0)

/-- The first output ends as the residual. -/
theorem final6 : (dats (F := Ideal) m 0 c).arrAt 6 cfg0.N = resid m c := by
  refine (dats (F := Ideal) m 0 c).arrAt_eq_of_covers 6 _ (by decide +kernel) fun t hf y => ?_
  have h : cc0_transform_6 (grid0.coords t) = ![t.val / 16, t.val % 16, 0] := (idx_at t).2.2.2.2.2.2.1
  have y0 : (y 0).val < 1 := (y 0).isLt
  have e : ((cfg0.win 6).blk t).view.emb y = ix3 (sq t) (row t (y 1)) (y 2) := by
    funext a
    refine Fin.ext ?_
    fin_cases a
    · show cc0_transform_6 (grid0.coords t) 0 * 1 + 1 * (y 0).val = t.val / 16
      rw [h]; show t.val / 16 * 1 + 1 * (y 0).val = _; omega
    · show cc0_transform_6 (grid0.coords t) 1 * 512 + 1 * (y 1).val = t.val % 16 * 512 + (y 1).val
      rw [h]; show t.val % 16 * 512 + 1 * (y 1).val = _; omega
    · show cc0_transform_6 (grid0.coords t) 2 * 1024 + 1 * (y 2).val = (y 2).val
      rw [h]; show 0 * 1024 + 1 * (y 2).val = _; omega
  rw [e]
  have a : (dats (F := Ideal) m 0 c).after 6 t = k0_pay2 (F := Ideal) (iblk (F := Ideal) m c 0 t) (iblk (F := Ideal) m c 1 t) (iblk (F := Ideal) m c 3 t) (iblk (F := Ideal) m c 2 t) (iblk (F := Ideal) m c 4 t) := by
    rw [after0_6]; frame_out
  show (dats (F := Ideal) m 0 c).after 6 t y = _
  rw [a]
  rw [show y = ix3 (0 : Fin 1) (y 1 : Fin 512) (y 2 : Fin 1024) from by
    funext a; fin_cases a <;> first | rfl | exact Fin.ext (by show (y 0).val = 0; omega)]
  exact (pay2_at _ _ _ _ _ _ _).trans (congrFun (res_blk m c t (y 1)) (y 2))

/-- The second ends as its normalisation. -/
theorem final7 : (dats (F := Ideal) m 0 c).arrAt 7 cfg0.N = normT m c := by
  refine (dats (F := Ideal) m 0 c).arrAt_eq_of_covers 7 _ (by decide +kernel) fun t hf y => ?_
  have h : cc0_transform_7 (grid0.coords t) = ![0, t.val] := (idx_at t).2.2.2.2.2.2.2
  have y1 : (y 1).val < 512 := (y 1).isLt
  have e : ((cfg0.win 7).blk t).view.emb y = ix2 (y 0) (tok t (y 1)) := by
    funext a
    refine Fin.ext ?_
    fin_cases a
    · show cc0_transform_7 (grid0.coords t) 0 * 1024 + 1 * (y 0).val = (y 0).val
      rw [h]; show 0 * 1024 + 1 * (y 0).val = _; omega
    · show cc0_transform_7 (grid0.coords t) 1 * 512 + 1 * (y 1).val = t.val * 512 + (y 1).val
      rw [h]; show t.val * 512 + 1 * (y 1).val = _; omega
  rw [e]
  have a : (dats (F := Ideal) m 0 c).after 7 t = k0_pay3 (F := Ideal) (iblk (F := Ideal) m c 0 t) (iblk (F := Ideal) m c 1 t) (iblk (F := Ideal) m c 3 t) (iblk (F := Ideal) m c 2 t) (iblk (F := Ideal) m c 4 t) (iblk (F := Ideal) m c 5 t) := by
    rw [after0_7]; frame_out
  show (dats (F := Ideal) m 0 c).after 7 t y = _
  rw [a]
  rw [show y = ix2 (y 0 : Fin 1024) (y 1 : Fin 512) from by funext a; fin_cases a <;> rfl]
  refine (pay3_at _ _ _ _ _ _ _ _).trans ?_
  refine (congrArg (fun f => nrm f _ (y 0)) (res_blk m c t (y 1))).trans ?_
  show nrm (resM m c (sq t) (row t (y 1))) _ (y 0) = nrm (resM m c ⟨(t.val * 512 + (y 1).val) / 8192, _⟩ ⟨(t.val * 512 + (y 1).val) % 8192, _⟩) (gs m c) (y 0)
  have e0 : sq t = ⟨(t.val * 512 + (y 1).val) / 8192, by have := N_32 t; omega⟩ := Fin.ext (by show t.val / 16 = (t.val * 512 + (y 1).val) / 8192; omega)
  have e1 : row t (y 1) = ⟨(t.val * 512 + (y 1).val) % 8192, Nat.mod_lt _ (by decide)⟩ := Fin.ext (by show t.val % 16 * 512 + (y 1).val = (t.val * 512 + (y 1).val) % 8192; omega)
  refine (congrArg₂ (fun a b => nrm (resM m c a b) _ (y 0)) e0 e1).trans ?_
  exact congrArg (fun g => nrm _ g (y 0)) (funext fun d => b5_at m c t 0 d)

end Cert.Proof.Ot

end
-- ==== Proof.Ot.Ref.lean ====
/-
  The reference's residual and its normalisation at an entry.
-/
module

public import proofs.«01_k».proof.Proof.Ot.Kernel

@[expose] public section

set_option maxRecDepth 16384

noncomputable section

namespace Cert.Proof.Ot

open Idealize.ShloMosaic
open Cert.Reference3Ideal Cert.Reference3Ideal.Gen Cert.Reference3Ideal.Read
open scoped BigOperators

variable (x : FVec Ideal S2x8192x1024 .f32) (a b : FVec Ideal S2x8192x512 .f32) (wa wb : FVec Ideal S512x1024 .bf16)
  (g : FVec Ideal S1x1024 .f32) (n : Fin 2) (i : Fin 8192)

/-- The two mixers' rows side by side: the first half, -/
theorem cat_fst (k : Fin 512) : val_main_v0 (F := Ideal) a b (ix3 n i (⟨k.val, by omega⟩ : Fin 1024)) = a (ix3 n i k) := by
  pointwise [val_main_v0]

/-- and the second. -/
theorem cat_snd (k : Fin 512) : val_main_v0 (F := Ideal) a b (ix3 n i (⟨512 + k.val, by omega⟩ : Fin 1024)) = b (ix3 n i k) := by
  pointwise [val_main_v0]

/-- Their weights one above the other: the first half, -/
theorem wcat_fst (k : Fin 512) (j : Fin 1024) : val_main_v2 (F := Ideal) wa wb (ix2 (⟨k.val, by omega⟩ : Fin 1024) j) = wa (ix2 k j) := by
  pointwise [val_main_v2, val_main_v1]

/-- and the second. -/
theorem wcat_snd (k : Fin 512) (j : Fin 1024) : val_main_v2 (F := Ideal) wa wb (ix2 (⟨512 + k.val, by omega⟩ : Fin 1024) j) = wb (ix2 k j) := by
  pointwise [val_main_v2, val_main_v1]

/-- The residual of row `i` of sequence `n`. -/
abbrev resR : Fin 1024 → EReal :=
  res (fun d => x (ix3 n i d)) (fun k => a (ix3 n i k)) (fun k => b (ix3 n i k)) (fun k d => wa (ix2 k d)) (fun k d => wb (ix2 k d))

/-- The product with the joined weights is the sum of the two products. -/
theorem ref_res (j : Fin 1024) : val_main_v4 (F := Ideal) x a b wa wb (ix3 n i j) = resR x a b wa wb n i j := by
  have e : val_main_v3 (F := Ideal) a b wa wb (ix3 n i j)
      = ∑ k : Fin (512 + 512), val_main_v0 (F := Ideal) a b (ix3 n i (k : Fin 1024)) * val_main_v2 (F := Ideal) wa wb (ix2 (k : Fin 1024) j) := by
    pointwise [val_main_v3]
  show x (ix3 n i j) + val_main_v3 (F := Ideal) a b wa wb (ix3 n i j) = _
  rw [e, Fin.sum_univ_add, ← add_assoc]
  unfold resR res
  congr 1
  · refine congrArg (x (ix3 n i j) + ·) (Finset.sum_congr rfl fun k _ => congrArg₂ (· * ·) (cat_fst a b n i k) (wcat_fst wa wb k j))
  · exact Finset.sum_congr rfl fun k _ => congrArg₂ (· * ·) (cat_snd a b n i k) (wcat_snd wa wb k j)

/-- The normalised residual, rows first, -/
theorem ref_norm (d : Fin 1024) :
    val_main_v17 (F := Ideal) x a b wa wb g (ix3 n i d) = nrm (resR x a b wa wb n i) (fun d => g (ix2 (0 : Fin 1) d)) d := by
  have e : resR x a b wa wb n i = fun d => val_main_v4 (F := Ideal) x a b wa wb (ix3 n i d) := funext fun d => (ref_res x a b wa wb n i d).symm
  rw [e]
  pointwise [val_main_v17, val_main_v16, val_main_v15, val_main_v14, val_main_v13, val_main_v12, val_main_v11, val_main_v10,
    val_main_cst_1, val_main_v9, val_main_v8, val_main_cst_0, val_main_v7, val_main_v6, val_main_cst, val_main_v5]
  rfl

/-- and features first, the two sequences one after the other. -/
theorem ref_normT (d : Fin 1024) (q : Fin 16384) (hq : q.val = n.val * 8192 + i.val) :
    val_main_v20 (F := Ideal) x a b wa wb g (ix2 d q) = nrm (resR x a b wa wb n i) (fun d => g (ix2 (0 : Fin 1) d)) d := by
  have e : idx_main_v18 (idx_main_v19 (ix2 d q)) = ix3 n i d := by
    funext c
    refine Fin.ext ?_
    have hd := d.isLt
    have hi := i.isLt
    fin_cases c
    · show (q.val * 1024 + d.val) / 8388608 = n.val
      omega
    · show (q.val * 1024 + d.val) / 1024 % 8192 = i.val
      omega
    · show (q.val * 1024 + d.val) % 1024 = d.val
      omega
  rw [val_main_v20_apply, val_main_v19_apply, val_main_v18_apply, e]
  exact ref_norm x a b wa wb g n i d

end Cert.Proof.Ot

end
-- ==== Proof.Ot.Whole.lean ====
/-
  The reference's two results as functions of its arguments, whole arrays.
-/
module

public import proofs.«01_k».proof.Proof.Ot.Ref

@[expose] public section

set_option maxRecDepth 16384

noncomputable section

namespace Cert.Proof.Ot

open Idealize.ShloMosaic
open Cert.Reference3Ideal Cert.Reference3Ideal.Gen Cert.Reference3Ideal.Read

variable (x : FVec Ideal S2x8192x1024 .f32) (a b : FVec Ideal S2x8192x512 .f32) (wa wb : FVec Ideal S512x1024 .bf16)
  (g : FVec Ideal S1x1024 .f32)

/-- The residual of stream, mixers and weights. -/
def residOf : S2x8192x1024.Idx → EReal := fun i => resR x a b wa wb (i 0) (i 1) (i 2)

/-- Its normalisation, features first. -/
def normTOf : S1024x16384.Idx → EReal := fun i =>
  nrm (resR x a b wa wb ⟨(i 1).val / 8192, by have : (i 1).val < 16384 := (i 1).isLt; omega⟩ ⟨(i 1).val % 8192, Nat.mod_lt _ (by decide)⟩)
    (fun d => g (ix2 (0 : Fin 1) d)) (i 0)

/-- The first result is the residual, -/
theorem ref4 : val_main_v4 (F := Ideal) x a b wa wb = residOf x a b wa wb := by
  funext i
  have e : i = ix3 (i 0 : Fin 2) (i 1 : Fin 8192) (i 2 : Fin 1024) := by
    funext a
    fin_cases a <;> rfl
  exact (congrArg (val_main_v4 (F := Ideal) x a b wa wb) e).trans (ref_res x a b wa wb (i 0) (i 1) (i 2))

/-- and the second its normalisation. -/
theorem ref20 : val_main_v20 (F := Ideal) x a b wa wb g = normTOf x a b wa wb g := by
  funext i
  have e : i = ix2 (i 0 : Fin 1024) (i 1 : Fin 16384) := by
    funext a
    fin_cases a <;> rfl
  refine (congrArg (val_main_v20 (F := Ideal) x a b wa wb g) e).trans
    (ref_normT x a b wa wb g ⟨(i 1).val / 8192, by have : (i 1).val < 16384 := (i 1).isLt; omega⟩ ⟨(i 1).val % 8192, Nat.mod_lt _ (by decide)⟩ (i 0) (i 1) ?_)
  show (i 1).val = (i 1).val / 8192 * 8192 + (i 1).val % 8192
  omega

end Cert.Proof.Ot

end
-- ==== Proof.Ot.Algebraic.lean ====
/-
  The output projection's claims: the frames, and that over the extended reals its two results are the reference's.
-/
module

public import proofs.«01_k».proof.Defs
public import proofs.«01_k».proof.Proof.Ot.Blocks
public import proofs.«01_k».proof.Proof.Ot.Whole
public import Idealize.ShloMosaic.Lib.Quiescent

@[expose] public section

set_option maxRecDepth 16384

noncomputable section

namespace Cert.Proof.Ot

open Idealize.ShloMosaic Idealize.ShloMosaic.TcCoe Idealize.SL.Sem

/-- The kernel as measured ends with its arguments unchanged and its counters at zero. -/
theorem frame_p : Cert.quiescent_Kernel3 := fun m ρ _ => Cert.Kernel3.Gen.frame (F := Bits) m ρ

/-- So does the kernel over the extended reals, -/
theorem frame_pi : Cert.quiescent_Kernel3Ideal := fun m ρ _ => Cert.Kernel3Ideal.Gen.frame (F := Ideal) m ρ

/-- and the reference. -/
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- The residuals of the same arguments are the same, -/
theorem resid_eq
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    residOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = resid m c := by
  rw [h0, h1, h2, h3, h4]
  rfl

/-- and so are the normalisations. -/
theorem normT_eq
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    normTOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = normT m c := by
  rw [h0, h1, h2, h3, h4, h5]
  rfl

end

/-- Both of the kernel's results are the reference's. -/
theorem algebraic : Cert.algebraic_Kernel3Ideal_Reference3Ideal
    (hKernel3Ideal := Cert.Kernel3Ideal.Gen.facts) (hReference3Ideal := Cert.Reference3Ideal.Gen.facts) := by
  intro m g m' g' _ hagree
  refine ⟨fun c => resid m c, fun c => normT m c, ?_, ?_⟩
  · refine (θ_run Cert.Kernel3Ideal.defs _ _).mono (fun _ h c => ?_) (Cert.Kernel3Ideal.Value.run_blocks (F := Ideal) m g)
    obtain ⟨a0, a1, a⟩ := h c
    exact ⟨a0.trans (final6 m c), a1.trans (final7 m c), a⟩
  · refine (θ_run Cert.Reference3Ideal.defs _ _).mono (fun _ h c => ?_) (Cert.Reference3Ideal.Value.run (F := Ideal) m' g')
    obtain ⟨h0, h1, h2, h3, h4, h5⟩ := hagree c
    obtain ⟨a0, a1, a⟩ := h c
    refine ⟨a0.trans ?_, a1.trans ?_, a⟩
    · exact ((Cert.Reference3Ideal.Read.val_main_v4_eq (F := Ideal) _ _ _ _ _).trans (ref4 _ _ _ _ _)).trans (resid_eq m m' c h0 h1 h2 h3 h4)
    · exact ((Cert.Reference3Ideal.Read.val_main_v20_eq (F := Ideal) _ _ _ _ _ _).trans (ref20 _ _ _ _ _ _)).trans (normT_eq m m' c h0 h1 h2 h3 h4 h5)

end Cert.Proof.Ot

end
-- ==== Proof.Ex.Common.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
-- ==== Proof.Ex.Tiles.lean ====
/-
  What the tiles of the experts' kernel hold, at an entry: the activations of a block of experts on a block of tokens,
  the gates, and their product.
-/
module

public import proofs.«01_k».proof.Proof.Norm
public import proofs.«01_k».proof.Proof.Ex.Common

@[expose] public section

set_option maxRecDepth 16384

noncomputable section

namespace Cert.Proof.Ex

open Idealize.ShloMosaic Idealize.ShloMosaic.TcCoe
open Cert.Kernel4Ideal Cert.Kernel4Ideal.Gen
open scoped BigOperators

/-- The activation of the product `a`. -/
def gelu (a : EReal) : EReal :=
  Ideal.ofBits .f32 0x3F000000#32 * a * (1 + Ideal.erf (a * Ideal.ofBits .f32 0x3F3504F3#32))

/-- The activation of the expert's row `u` on the token's row `n`. -/
def act (u n : Fin 1024 → EReal) : EReal := gelu (∑ k, u k * n k)

/-- One head's gate: the power of two of the pair's score, where it reaches the threshold. -/
def wgt (a b t : EReal) : EReal := if t ≤ a + b then Ideal.exp2 (a + b) else 0

/-- The gate over the eight heads. -/
def gate (a b t : Fin 8 → EReal) : EReal := ∑ h, wgt (a h) (b h) (t h)

variable (x0 : Vec Ideal S1024x512 .bf16) (x1 : Vec Ideal S2048x1024 .bf16) (x3 : Vec Ideal S8x16x512 .f32)
  (x4 : Vec Ideal S8x128x512 .f32) (x5 : Vec Ideal S8x1x512 .f32)

/-- The activations of a block. -/
def actB (y : S2048x512.Idx) : EReal := act (fun k => x1 (ix2 (y 0) k)) (fun k => x0 (ix2 k (y 1)))

/-- The gates of a block. -/
def gateB (y : S2048x512.Idx) : EReal :=
  gate (fun h => x3 (ix3 h (⟨(y 0).val / 128, by have := (y 0).isLt; change (y 0).val < 2048 at this; omega⟩ : Fin 16) (y 1)))
    (fun h => x4 (ix3 h (⟨(y 0).val % 128, Nat.mod_lt _ (by decide)⟩ : Fin 128) (y 1))) (fun h => x5 (ix3 h (0 : Fin 1) (y 1)))

/-- The gated activations of a block. -/
def actW (y : S2048x512.Idx) : EReal := gateB x3 x4 x5 y * actB x0 x1 y

/-- The activations' tile, at an entry. -/
theorem pay2_at (u : Vec Ideal S256x1024 .bf16) (n : Vec Ideal S1024x256 .bf16) (i j : Fin 256) :
    k0_pay2 (F := Ideal) u n (ix2 i j) = act (fun k => u (ix2 i k)) (fun k => n (ix2 k j)) := by
  pointwise [k0_pay2]
  rfl

/-- One head's gates of a tile. -/
def wgtT (a : Vec Ideal S1x1x128 .f32) (b : Vec Ideal S1x128x128 .f32) (t : Vec Ideal S1x1x128 .f32) : FVec Ideal S128x128 .f32 :=
  have p : FVec Ideal S128x128 .f32 := addf (broadcastTo S128x128 (shapeCast S1x128 (α := Ideal .f32) a shapeCasts_S1x1x128_S1x128 : FVec Ideal S1x128 .f32) broadcasts_S1x128_S128x128)
    (shapeCast S128x128 (α := Ideal .f32) b shapeCasts_S1x128x128_S128x128)
  have q : FVec Ideal S128x128 .f32 := broadcastTo S128x128 (shapeCast S1x128 (α := Ideal .f32) t shapeCasts_S1x1x128_S1x128 : FVec Ideal S1x128 .f32) broadcasts_S1x128_S128x128
  have z : FVec Ideal S128x128 .f32 := broadcast S128x128 (Scalar.ofBits .f32 0x00000000#32 : Ideal .f32)
  select (cmpf .oge p q) (exp2 p) z

/-- They are the gates at every entry. -/
theorem wgtT_at (a : Vec Ideal S1x1x128 .f32) (b : Vec Ideal S1x128x128 .f32) (t : Vec Ideal S1x1x128 .f32) (i j : Fin 128) :
    wgtT a b t (ix2 i j) = wgt (a (ix3 (0 : Fin 1) (0 : Fin 1) j)) (b (ix3 (0 : Fin 1) i j)) (t (ix3 (0 : Fin 1) (0 : Fin 1) j)) := by
  pointwise [wgtT]
  rfl

/-- A tile of the gated activations. -/
def gateT (a : Fin 8 → Vec Ideal S1x1x128 .f32) (b : Fin 8 → Vec Ideal S1x128x128 .f32) (t : Fin 8 → Vec Ideal S1x1x128 .f32)
    (v : Vec Ideal S128x128 .f32) : FVec Ideal S128x128 .bf16 :=
  shapeCast S128x128 (truncf .bf16 (mulf (addf (addf (addf (addf (addf (addf (addf (wgtT (a 0) (b 0) (t 0)) (wgtT (a 1) (b 1) (t 1)))
    (wgtT (a 2) (b 2) (t 2))) (wgtT (a 3) (b 3) (t 3))) (wgtT (a 4) (b 4) (t 4))) (wgtT (a 5) (b 5) (t 5))) (wgtT (a 6) (b 6) (t 6)))
    (wgtT (a 7) (b 7) (t 7))) v) bitsLt_bf16_f32) shapeCasts_S128x128_S128x128

/-- It is the gate times the activation at every entry. -/
theorem gateT_at (a : Fin 8 → Vec Ideal S1x1x128 .f32) (b : Fin 8 → Vec Ideal S1x128x128 .f32) (t : Fin 8 → Vec Ideal S1x1x128 .f32)
    (v : Vec Ideal S128x128 .f32) (i j : Fin 128) :
    gateT a b t v (ix2 i j) = gate (fun h => a h (ix3 (0 : Fin 1) (0 : Fin 1) j)) (fun h => b h (ix3 (0 : Fin 1) i j))
      (fun h => t h (ix3 (0 : Fin 1) (0 : Fin 1) j)) * v (ix2 i j) := by
  pointwise [gateT]
  simp only [wgtT_at]
  unfold gate
  rw [Fin.sum_univ_eight]

/-- The experts' product with the gated activations, at an entry. -/
theorem pay103_at (o : Vec Ideal S512x512 .f32) (w : Vec Ideal S256x512 .bf16) (v : Vec Ideal S256x512 .bf16) (i j : Fin 512) :
    k0_pay103 (F := Ideal) o w v (ix2 i j) = o (ix2 i j) + ∑ k : Fin 256, w (ix2 k i) * v (ix2 k j) := by
  pointwise [k0_pay103]

/-- The residual and its normalisation, at an entry. -/
theorem pay548_at (h a : Vec Ideal S512x1024 .f32) (g : Vec Ideal S1x1024 .f32) (i : Fin 512) (d : Fin 1024) :
    k0_pay548 (F := Ideal) h a g (ix2 i d) = nrm (fun e => h (ix2 i e) + a (ix2 i e)) (fun e => g (ix2 (0 : Fin 1) e)) d := by
  pointwise [k0_pay548]
  rfl

end Cert.Proof.Ex

end
-- ==== Proof.Ex.Reads.lean ====
/-
  How the tiles of the experts' kernel read the buffers they are stored in: a tile of the activations, of the gated
  activations and of the experts' product agrees with one function of the place in the block.
-/
module

public import proofs.«01_k».proof.Proof.Ex.Tiles

@[expose] public section

set_option maxRecDepth 16384

noncomputable section

namespace Cert.Proof.Ex

open Idealize.ShloMosaic Idealize.ShloMosaic.TcCoe
open Cert.Kernel4Ideal Cert.Kernel4Ideal.Gen
open scoped BigOperators

/-- Every piece of the list holds the values of one function. -/
def Agree {s : Shape} {e : EltTy} (L : List (View.Piece (Elt Ideal) s e)) (G : s.Idx → Elt Ideal e) : Prop :=
  ∀ p ∈ L, ∀ x : p.1.shape.Idx, p.2 x = G (p.1.emb x)

/-- A list with one more piece. -/
theorem Agree.cons {s : Shape} {e : EltTy} {r : Rect s} {w : r.shape.Idx → Elt Ideal e} {L : List (View.Piece (Elt Ideal) s e)}
    {G : s.Idx → Elt Ideal e} (h : ∀ x, w x = G (r.emb x)) (hL : Agree L G) : Agree (⟨r, w⟩ :: L) G :=
  List.forall_mem_cons.2 ⟨h, hL⟩

/-- The empty list. -/
theorem Agree.nil {s : Shape} {e : EltTy} {G : s.Idx → Elt Ideal e} : Agree [] G := fun _ h => absurd h List.not_mem_nil

/-- A load of a box that the pieces cover reads that function. -/
theorem Agree.read {sig : RefSig} {κ : Kind} {sp : Space} {s : Shape} {e : EltTy} {v : View sig κ sp s e}
    {L : List (View.Piece (Elt Ideal) s e)} {G : s.Idx → Elt Ideal e} (h : Agree L G) (B : LoadRect s) (t : LoadRect.Cov)
    (hc : LoadRect.covChk (L.map Sigma.fst) B t = true) (j : B.shape.Idx) : v.readCov L B j = G (B.idx j) := by
  rw [View.readCov_eq_canon']
  exact View.canon_apply_of_pieces G L h _ (LoadRect.cover_of_covChk L B t hc j)

/-- The left or right half of the accumulator. -/
abbrev halfR (H : ℕ) (hH : H + 512 ≤ 1024) : Rect S512x1024 :=
  Rect.unit (s := S512x1024) ![0, H] S512x512.size (fun a => match a with | 0 => (by decide : 0 + 512 ≤ 512) | 1 => hH)

/-- The left half lies inside. -/
theorem le0 : 0 + 512 ≤ 1024 := by decide
/-- The right half lies inside. -/
theorem le1 : 512 + 512 ≤ 1024 := by decide

/-- The two halves do not meet. -/
theorem half_disj (H H' : ℕ) (hH : H + 512 ≤ 1024) (hH' : H' + 512 ≤ 1024) (h : H + 512 ≤ H' ∨ H' + 512 ≤ H) :
    Disjoint (halfR H hH).set (halfR H' hH').set := by
  rw [Finset.disjoint_left]
  intro y h1 h2
  rw [Rect.mem_set_unit] at h1 h2
  have a := h1 1
  have b := h2 1
  change H ≤ (y 1).val ∧ (y 1).val < H + 512 at a
  change H' ≤ (y 1).val ∧ (y 1).val < H' + 512 at b
  omega

/-- A load of a half whose store is the last but one, the last being of the other half. -/
theorem read_half {sig : RefSig} {κ : Kind} {sp : Space} {v : View sig κ sp S512x1024 .f32} (H H' : ℕ) (hH : H + 512 ≤ 1024) (hH' : H' + 512 ≤ 1024)
    (h : H' + 512 ≤ H ∨ H + 512 ≤ H') {w' : (halfR H' hH').shape.Idx → Elt Ideal .f32} {w : (halfR H hH).shape.Idx → Elt Ideal .f32}
    {L : List (View.Piece (Elt Ideal) S512x1024 .f32)} {G : S512x1024.Idx → Elt Ideal .f32} (hw : ∀ x, w x = G ((halfR H hH).emb x))
    (x : (halfR H hH).shape.Idx) : v.readCov (Val := Elt Ideal) (⟨halfR H' hH', w'⟩ :: ⟨halfR H hH, w⟩ :: L) (halfR H hH).toLoadRect x = G ((halfR H hH).emb x) := by
  rw [View.readCov_cons_of_disjoint v ⟨halfR H' hH', w'⟩ (⟨halfR H hH, w⟩ :: L) (halfR H hH).toLoadRect (half_disj H' H hH' hH h), View.readCov_cons_toLoadRect]
  exact hw x

/-- The two last stores fill the accumulator. -/
theorem canon_halves {w' : (halfR 512 le1).shape.Idx → Elt Ideal .f32} {w : (halfR 0 le0).shape.Idx → Elt Ideal .f32}
    {L : List (View.Piece (Elt Ideal) S512x1024 .f32)} {G : S512x1024.Idx → Elt Ideal .f32} (hw : ∀ x, w x = G ((halfR 0 le0).emb x))
    (hw' : ∀ x, w' x = G ((halfR 512 le1).emb x)) (y : S512x1024.Idx) :
    View.canon (Val := Elt Ideal) (⟨halfR 512 le1, w'⟩ :: ⟨halfR 0 le0, w⟩ :: L) y = G y := by
  by_cases h : y ∈ (halfR 512 le1).set
  · obtain ⟨x, rfl⟩ := (halfR 512 le1).exists_idx_of_mem h
    exact (View.canon_cons_emb _ _ _ x).trans (hw' x)
  · rw [View.canon_cons_of_not_mem (Val := Elt Ideal) ⟨halfR 512 le1, w'⟩ (⟨halfR 0 le0, w⟩ :: L) h]
    have h0 : y ∈ (halfR 0 le0).set := by
      rw [Rect.mem_set_unit] at h ⊢
      intro a
      have y0 : (y 0).val < 512 := (y 0).isLt
      have y1 : (y 1).val < 1024 := (y 1).isLt
      fin_cases a
      · show 0 ≤ (y 0).val ∧ (y 0).val < 0 + 512
        omega
      · show 0 ≤ (y 1).val ∧ (y 1).val < 0 + 512
        refine ⟨Nat.zero_le _, ?_⟩
        by_contra hc
        refine h fun a => ?_
        fin_cases a
        · show 0 ≤ (y 0).val ∧ (y 0).val < 0 + 512
          omega
        · show 512 ≤ (y 1).val ∧ (y 1).val < 512 + 512
          omega
    obtain ⟨x, rfl⟩ := (halfR 0 le0).exists_idx_of_mem h0
    exact (View.canon_cons_emb _ _ _ x).trans (hw x)

/-- The accumulator's zeros. -/
theorem pay1_at (y : S512x1024.Idx) : k0_pay1 (F := Ideal) y = 0 := by
  unfold k0_pay1
  pointwise

/-- The accumulator filled with zeros. -/
theorem zeros {h : ∀ a, ![0, 0] a + S512x1024.size a ≤ S512x1024.size a} :
    Agree (e := .f32) [⟨Rect.unit (s := S512x1024) ![0, 0] S512x1024.size h, k0_pay1 (F := Ideal)⟩] (fun _ => (0 : EReal)) :=
  Agree.cons (fun x => pay1_at x) Agree.nil

/-- A load of a half after a store of the other half. -/
theorem read_skip {sig : RefSig} {κ : Kind} {sp : Space} {v : View sig κ sp S512x1024 .f32} (H H' : ℕ) (hH : H + 512 ≤ 1024) (hH' : H' + 512 ≤ 1024)
    (h : H' + 512 ≤ H ∨ H + 512 ≤ H') {w' : (halfR H' hH').shape.Idx → Elt Ideal .f32}
    {L : List (View.Piece (Elt Ideal) S512x1024 .f32)} {G : S512x1024.Idx → Elt Ideal .f32} (hL : Agree L G) (t : LoadRect.Cov)
    (hc : LoadRect.covChk (L.map Sigma.fst) (halfR H hH).toLoadRect t = true)
    (x : (halfR H hH).shape.Idx) : v.readCov (Val := Elt Ideal) (⟨halfR H' hH', w'⟩ :: L) (halfR H hH).toLoadRect x = G ((halfR H hH).emb x) := by
  rw [View.readCov_cons_of_disjoint v ⟨halfR H' hH', w'⟩ L (halfR H hH).toLoadRect (half_disj H' H hH' hH h)]
  exact hL.read _ t hc x

variable {arg2 : Memref sig .tc .vmem S1024x512 .bf16} {harg2 : arg2.IsWhole} {arg3 : Memref sig .tc .vmem S2048x1024 .bf16} {harg3 : arg3.IsWhole}
  {arg4 : Memref sig .tc .vmem S2048x1024 .bf16} {harg4 : arg4.IsWhole} {arg5 : Memref sig .tc .vmem S8x16x512 .f32} {harg5 : arg5.IsWhole}
  {arg6 : Memref sig .tc .vmem S8x128x512 .f32} {harg6 : arg6.IsWhole} {arg7 : Memref sig .tc .vmem S8x1x512 .f32} {harg7 : arg7.IsWhole}
  {x0 : Vec Ideal S1024x512 .bf16} {x1 x2 : Vec Ideal S2048x1024 .bf16} {x3 : Vec Ideal S8x16x512 .f32}
  {x4 : Vec Ideal S8x128x512 .f32} {x5 : Vec Ideal S8x1x512 .f32} {xs : S512x1024.Idx → EReal}

/-- A tile of the activations agrees with the block's. -/
theorem act_tile (R C : ℕ) (hR : R + 256 ≤ 2048) (hC : C + 256 ≤ 512) (h3 : ∀ a, ![R, 0] a + S256x1024.size a ≤ S2048x1024.size a)
    (h2 : ∀ a, ![0, C] a + S1024x256.size a ≤ S1024x512.size a) (h : ∀ a, ![R, C] a + S256x256.size a ≤ S2048x512.size a)
    (x : S256x256.Idx) :
    k0_pay2 (F := Ideal) (View.readAt (Elt Ideal) arg3.view (Rect.unit (s := S2048x1024) ![R, 0] S256x1024.size h3).toLoadRect (harg3.unread x1))
      (View.readAt (Elt Ideal) arg2.view (Rect.unit (s := S1024x512) ![0, C] S1024x256.size h2).toLoadRect (harg2.unread x0)) x
    = actB x0 x1 ((Rect.unit (s := S2048x512) ![R, C] S256x256.size h).emb x) := by
  obtain ⟨i, j, rfl⟩ : ∃ (i : Fin 256) (j : Fin 256), x = ix2 i j := ⟨x 0, x 1, eq_ix2 x⟩
  rw [pay2_at]
  simp only [View.readAt_eq_ld, harg3.read_unread, harg2.read_unread]
  unfold actB
  congr 1
  · funext k
    refine congrArg x1 (funext fun a => Fin.ext ?_)
    fin_cases a
    · rfl
    · show 0 + 1 * k.val = k.val
      omega
  · funext k
    refine congrArg x0 (funext fun a => Fin.ext ?_)
    fin_cases a
    · show 0 + 1 * k.val = k.val
      omega
    · rfl

/-- The row of the first scores lies inside. -/
theorem in5 {R T : ℕ} (hR : R < 16) (hT : T + 128 ≤ 512) (h : Fin 8) : ∀ a, ![h.val, R, T] a + S1x1x128.size a ≤ S8x16x512.size a
  | 0 => h.isLt
  | 1 => hR
  | 2 => hT

/-- The rows of the second scores lie inside. -/
theorem in6 {T : ℕ} (hT : T + 128 ≤ 512) (h : Fin 8) : ∀ a, ![h.val, 0, T] a + S1x128x128.size a ≤ S8x128x512.size a
  | 0 => h.isLt
  | 1 => (by decide : 0 + 128 ≤ 128)
  | 2 => hT

/-- The row of the thresholds lies inside. -/
theorem in7 {T : ℕ} (hT : T + 128 ≤ 512) (h : Fin 8) : ∀ a, ![h.val, 0, T] a + S1x1x128.size a ≤ S8x1x512.size a
  | 0 => h.isLt
  | 1 => (by decide : 0 + 1 ≤ 1)
  | 2 => hT

/-- The tile lies inside. -/
theorem inr {R T : ℕ} (hR : R < 16) (hT : T + 128 ≤ 512) : ∀ a, ![128 * R, T] a + S128x128.size a ≤ S2048x512.size a
  | 0 => (by omega : 128 * R + 128 ≤ 2048)
  | 1 => hT

/-- A tile of the gated activations agrees with the block's. -/
theorem gate_tile (R T : ℕ) (hR : R < 16) (hT : T + 128 ≤ 512) {v : Vec Ideal S128x128 .f32}
    (hv : ∀ x : S128x128.Idx, v x = actB x0 x1 ((Rect.unit (s := S2048x512) ![128 * R, T] S128x128.size (inr hR hT)).emb x)) (x : S128x128.Idx) :
    gateT (fun h => View.readAt (Elt Ideal) arg5.view (Rect.unit (s := S8x16x512) ![h.val, R, T] S1x1x128.size (in5 hR hT h)).toLoadRect (harg5.unread x3))
      (fun h => View.readAt (Elt Ideal) arg6.view (Rect.unit (s := S8x128x512) ![h.val, 0, T] S1x128x128.size (in6 hT h)).toLoadRect (harg6.unread x4))
      (fun h => View.readAt (Elt Ideal) arg7.view (Rect.unit (s := S8x1x512) ![h.val, 0, T] S1x1x128.size (in7 hT h)).toLoadRect (harg7.unread x5)) v x
    = actW x0 x1 x3 x4 x5 ((Rect.unit (s := S2048x512) ![128 * R, T] S128x128.size (inr hR hT)).emb x) := by
  obtain ⟨i, j, rfl⟩ : ∃ (i : Fin 128) (j : Fin 128), x = ix2 i j := ⟨x 0, x 1, eq_ix2 x⟩
  rw [gateT_at, hv]
  simp only [View.readAt_eq_ld, harg5.read_unread, harg6.read_unread, harg7.read_unread]
  unfold actW gateB
  have b0 : i.val < 128 := i.isLt
  refine congrArg (· * _) ?_
  congr 1
  · funext k
    refine congrArg x3 (funext fun a => Fin.ext ?_)
    fin_cases a
    · show k.val + 1 * 0 = k.val
      omega
    · show R + 1 * 0 = (128 * R + 1 * i.val) / 128
      omega
    · rfl
  · funext k
    refine congrArg x4 (funext fun a => Fin.ext ?_)
    fin_cases a
    · show k.val + 1 * 0 = k.val
      omega
    · show 0 + 1 * i.val = (128 * R + 1 * i.val) % 128
      omega
    · rfl
  · funext k
    refine congrArg x5 (funext fun a => Fin.ext ?_)
    fin_cases a
    · show k.val + 1 * 0 = k.val
      omega
    · rfl
    · rfl

variable (x0 x1 x2 x3 x4 x5 xs)

/-- What expert `r` of a block adds to the accumulator. -/
def term (r : ℕ) (y : S512x1024.Idx) : EReal :=
  if h : r < 2048 then actW x0 x1 x3 x4 x5 (ix2 (⟨r, h⟩ : Fin 2048) (y 0)) * x2 (ix2 (⟨r, h⟩ : Fin 2048) (y 1)) else 0

/-- The accumulator after `n` runs of 256 experts. -/
def accB : ℕ → S512x1024.Idx → EReal
  | 0, y => xs y
  | n + 1, y => accB n y + ∑ k : Fin 256, term x0 x1 x2 x3 x4 x5 (256 * n + k.val) y

variable {x0 x1 x2 x3 x4 x5 xs}

/-- A half of what the accumulator came with. -/
theorem read_came {arg11 : Memref sig .tc .vmem S512x1024 .f32} {harg11 : arg11.IsWhole} {xs0 : Vec Ideal S512x1024 .f32} (H : ℕ) (hH : H + 512 ≤ 1024)
    (x : S512x512.Idx) : View.readAt (Elt Ideal) arg11.view (halfR H hH).toLoadRect (harg11.unread xs0) x
    = accB x0 x1 x2 x3 x4 x5 xs0 0 ((halfR H hH).emb x) := by
  rw [View.readAt_eq_ld, harg11.read_unread]
  rfl

/-- A half of the accumulator, 256 experts on. -/
theorem out_tile (n H : ℕ) (hn : n < 8) (hH : H + 512 ≤ 1024) (h4 : ∀ a, ![256 * n, H] a + S256x512.size a ≤ S2048x1024.size a)
    (hw : ∀ a, ![256 * n, 0] a + S256x512.size a ≤ S2048x512.size a)
    {o : Vec Ideal S512x512 .f32} {w : Vec Ideal S256x512 .bf16}
    (ho : ∀ x : S512x512.Idx, o x = accB x0 x1 x2 x3 x4 x5 xs n ((halfR H hH).emb x))
    (hw' : ∀ x : S256x512.Idx, w x = actW x0 x1 x3 x4 x5 ((Rect.unit (s := S2048x512) ![256 * n, 0] S256x512.size hw).emb x)) (x : S512x512.Idx) :
    k0_pay103 (F := Ideal) o w (View.readAt (Elt Ideal) arg4.view (Rect.unit (s := S2048x1024) ![256 * n, H] S256x512.size h4).toLoadRect (harg4.unread x2)) x
    = accB x0 x1 x2 x3 x4 x5 xs (n + 1) ((halfR H hH).emb x) := by
  obtain ⟨i, j, rfl⟩ : ∃ (i : Fin 512) (j : Fin 512), x = ix2 i j := ⟨x 0, x 1, eq_ix2 x⟩
  rw [pay103_at, ho]
  simp only [View.readAt_eq_ld, harg4.read_unread, hw']
  show _ = _ + _
  refine congrArg (_ + ·) (Finset.sum_congr rfl fun k _ => ?_)
  have hk := k.isLt
  have hl : 256 * n + k.val < 2048 := by omega
  unfold term
  rw [dif_pos hl]
  refine congrArg₂ (· * ·) (congrArg (actW x0 x1 x3 x4 x5) (funext fun a => Fin.ext ?_)) (congrArg x2 (funext fun a => Fin.ext ?_))
  · fin_cases a
    · show 256 * n + 1 * k.val = 256 * n + k.val
      omega
    · rfl
  · fin_cases a
    · show 256 * n + 1 * k.val = 256 * n + k.val
      omega
    · rfl

end Cert.Proof.Ex

end
-- ==== Proof.Ex.PiecesB.lean ====
/-
  The tiles of the activations and of the gated activations a grid point of the case B stores.
-/
module

public import proofs.«01_k».proof.Proof.Ex.Reads

@[expose] public section

set_option maxRecDepth 16384

noncomputable section

namespace Cert.Proof.Ex.B

open Idealize.ShloMosaic Idealize.ShloMosaic.TcCoe
open Cert.Kernel4Ideal Cert.Kernel4Ideal.Gen
open scoped BigOperators

variable {c : Dev nD} {arg2 : Memref sig .tc .vmem S1024x512 .bf16} {harg2 : arg2.IsWhole} {arg3 : Memref sig .tc .vmem S2048x1024 .bf16} {harg3 : arg3.IsWhole}
  {arg4 : Memref sig .tc .vmem S2048x1024 .bf16} {harg4 : arg4.IsWhole} {arg5 : Memref sig .tc .vmem S8x16x512 .f32} {harg5 : arg5.IsWhole}
  {arg6 : Memref sig .tc .vmem S8x128x512 .f32} {harg6 : arg6.IsWhole} {arg7 : Memref sig .tc .vmem S8x1x512 .f32} {harg7 : arg7.IsWhole}
  {arg11 : Memref sig .tc .vmem S512x1024 .f32} {harg11 : arg11.IsWhole} {arg12 : Memref sig .tc .vmem S2048x512 .f32}
  {arg13 : Memref sig .tc .vmem S2048x512 .bf16}
  {x0 : Vec Ideal S1024x512 .bf16} {x1 x2 : Vec Ideal S2048x1024 .bf16} {x3 : Vec Ideal S8x16x512 .f32}
  {x4 : Vec Ideal S8x128x512 .f32} {x5 : Vec Ideal S8x1x512 .f32} {xs0 : Vec Ideal S512x1024 .f32}

/-- The first 2 tiles of the activations. -/
theorem agree1_2 : Agree (kernelRun0_B.sl.HS1_2 (F := Ideal) c arg2 harg2 arg3 harg3 x0 x1) (actB x0 x1) :=
  Agree.cons (act_tile 0 256 (by decide) (by decide) _ _ _) (Agree.cons (act_tile 0 0 (by decide) (by decide) _ _ _) Agree.nil)

/-- The first 3 tiles of the activations. -/
theorem agree1_3 : Agree (kernelRun0_B.sl.HS1_3 (F := Ideal) c arg2 harg2 arg3 harg3 x0 x1) (actB x0 x1) :=
  Agree.cons (act_tile 256 0 (by decide) (by decide) _ _ _) agree1_2

/-- The first 4 tiles of the activations. -/
theorem agree1_4 : Agree (kernelRun0_B.sl.HS1_4 (F := Ideal) c arg2 harg2 arg3 harg3 x0 x1) (actB x0 x1) :=
  Agree.cons (act_tile 256 256 (by decide) (by decide) _ _ _) agree1_3

/-- The first 5 tiles of the activations. -/
theorem agree1_5 : Agree (kernelRun0_B.sl.HS1_5 (F := Ideal) c arg2 harg2 arg3 harg3 x0 x1) (actB x0 x1) :=
  Agree.cons (act_tile 512 0 (by decide) (by decide) _ _ _) agree1_4

/-- The first 6 tiles of the activations. -/
theorem agree1_6 : Agree (kernelRun0_B.sl.HS1_6 (F := Ideal) c arg2 harg2 arg3 harg3 x0 x1) (actB x0 x1) :=
  Agree.cons (act_tile 512 256 (by decide) (by decide) _ _ _) agree1_5

/-- The first 7 tiles of the activations. -/
theorem agree1_7 : Agree (kernelRun0_B.sl.HS1_7 (F := Ideal) c arg2 harg2 arg3 harg3 x0 x1) (actB x0 x1) :=
  Agree.cons (act_tile 768 0 (by decide) (by decide) _ _ _) agree1_6

/-- The first 8 tiles of the activations. -/
theorem agree1_8 : Agree (kernelRun0_B.sl.HS1_8 (F := Ideal) c arg2 harg2 arg3 harg3 x0 x1) (actB x0 x1) :=
  Agree.cons (act_tile 768 256 (by decide) (by decide) _ _ _) agree1_7

/-- The first 9 tiles of the activations. -/
theorem agree1_9 : Agree (kernelRun0_B.sl.HS1_9 (F := Ideal) c arg2 harg2 arg3 harg3 x0 x1) (actB x0 x1) :=
  Agree.cons (act_tile 1024 0 (by decide) (by decide) _ _ _) agree1_8

/-- The first 10 tiles of the activations. -/
theorem agree1_10 : Agree (kernelRun0_B.sl.HS1_10 (F := Ideal) c arg2 harg2 arg3 harg3 x0 x1) (actB x0 x1) :=
  Agree.cons (act_tile 1024 256 (by decide) (by decide) _ _ _) agree1_9

/-- The first 11 tiles of the activations. -/
theorem agree1_11 : Agree (kernelRun0_B.sl.HS1_11 (F := Ideal) c arg2 harg2 arg3 harg3 x0 x1) (actB x0 x1) :=
  Agree.cons (act_tile 1280 0 (by decide) (by decide) _ _ _) agree1_10

/-- The first 12 tiles of the activations. -/
theorem agree1_12 : Agree (kernelRun0_B.sl.HS1_12 (F := Ideal) c arg2 harg2 arg3 harg3 x0 x1) (actB x0 x1) :=
  Agree.cons (act_tile 1280 256 (by decide) (by decide) _ _ _) agree1_11

/-- The first 13 tiles of the activations. -/
theorem agree1_13 : Agree (kernelRun0_B.sl.HS1_13 (F := Ideal) c arg2 harg2 arg3 harg3 x0 x1) (actB x0 x1) :=
  Agree.cons (act_tile 1536 0 (by decide) (by decide) _ _ _) agree1_12

/-- The first 14 tiles of the activations. -/
theorem agree1_14 : Agree (kernelRun0_B.sl.HS1_14 (F := Ideal) c arg2 harg2 arg3 harg3 x0 x1) (actB x0 x1) :=
  Agree.cons (act_tile 1536 256 (by decide) (by decide) _ _ _) agree1_13

/-- The first 15 tiles of the activations. -/
theorem agree1_15 : Agree (kernelRun0_B.sl.HS1_15 (F := Ideal) c arg2 harg2 arg3 harg3 x0 x1) (actB x0 x1) :=
  Agree.cons (act_tile 1792 0 (by decide) (by decide) _ _ _) agree1_14

/-- The first 16 tiles of the activations. -/
theorem agree1_16 : Agree (kernelRun0_B.sl.HS1_16 (F := Ideal) c arg2 harg2 arg3 harg3 x0 x1) (actB x0 x1) :=
  Agree.cons (act_tile 1792 256 (by decide) (by decide) _ _ _) agree1_15

/-- The first 11 tiles of the gated activations. -/
theorem agree2_11 : Agree (kernelRun0_B.sl.HS2_11 (F := Ideal) c arg2 harg2 arg3 harg3 arg5 harg5 arg6 harg6 arg7 harg7 arg12 x0 x1 x3 x4 x5) (actW x0 x1 x3 x4 x5) :=
  Agree.cons (gate_tile 2 256 (by decide) (by decide) ((agree1_6 (arg2 := arg2) (arg3 := arg3)).read (v := arg12.view) (Rect.unit (s := S2048x512) ![256, 256] S128x128.size (inr (R := 2) (T := 256) (by decide) (by decide))).toLoadRect (.leaf 2) (by sl_kernel_rfl)))
    (Agree.cons (gate_tile 2 128 (by decide) (by decide) ((agree1_5 (arg2 := arg2) (arg3 := arg3)).read (v := arg12.view) (Rect.unit (s := S2048x512) ![256, 128] S128x128.size (inr (R := 2) (T := 128) (by decide) (by decide))).toLoadRect (.leaf 2) (by sl_kernel_rfl)))
    (Agree.cons (gate_tile 2 0 (by decide) (by decide) ((agree1_4 (arg2 := arg2) (arg3 := arg3)).read (v := arg12.view) (Rect.unit (s := S2048x512) ![256, 0] S128x128.size (inr (R := 2) (T := 0) (by decide) (by decide))).toLoadRect (.leaf 1) (by sl_kernel_rfl)))
    (Agree.cons (gate_tile 1 384 (by decide) (by decide) ((agree1_4 (arg2 := arg2) (arg3 := arg3)).read (v := arg12.view) (Rect.unit (s := S2048x512) ![128, 384] S128x128.size (inr (R := 1) (T := 384) (by decide) (by decide))).toLoadRect (.leaf 2) (by sl_kernel_rfl)))
    (Agree.cons (gate_tile 1 256 (by decide) (by decide) ((agree1_4 (arg2 := arg2) (arg3 := arg3)).read (v := arg12.view) (Rect.unit (s := S2048x512) ![128, 256] S128x128.size (inr (R := 1) (T := 256) (by decide) (by decide))).toLoadRect (.leaf 2) (by sl_kernel_rfl)))
    (Agree.cons (gate_tile 1 128 (by decide) (by decide) ((agree1_4 (arg2 := arg2) (arg3 := arg3)).read (v := arg12.view) (Rect.unit (s := S2048x512) ![128, 128] S128x128.size (inr (R := 1) (T := 128) (by decide) (by decide))).toLoadRect (.leaf 3) (by sl_kernel_rfl)))
    (Agree.cons (gate_tile 1 0 (by decide) (by decide) ((agree1_4 (arg2 := arg2) (arg3 := arg3)).read (v := arg12.view) (Rect.unit (s := S2048x512) ![128, 0] S128x128.size (inr (R := 1) (T := 0) (by decide) (by decide))).toLoadRect (.leaf 3) (by sl_kernel_rfl)))
    (Agree.cons (gate_tile 0 384 (by decide) (by decide) ((agree1_4 (arg2 := arg2) (arg3 := arg3)).read (v := arg12.view) (Rect.unit (s := S2048x512) ![0, 384] S128x128.size (inr (R := 0) (T := 384) (by decide) (by decide))).toLoadRect (.leaf 2) (by sl_kernel_rfl)))
    (Agree.cons (gate_tile 0 256 (by decide) (by decide) ((agree1_4 (arg2 := arg2) (arg3 := arg3)).read (v := arg12.view) (Rect.unit (s := S2048x512) ![0, 256] S128x128.size (inr (R := 0) (T := 256) (by decide) (by decide))).toLoadRect (.leaf 2) (by sl_kernel_rfl)))
    (Agree.cons (gate_tile 0 128 (by decide) (by decide) ((agree1_3 (arg2 := arg2) (arg3 := arg3)).read (v := arg12.view) (Rect.unit (s := S2048x512) ![0, 128] S128x128.size (inr (R := 0) (T := 128) (by decide) (by decide))).toLoadRect (.leaf 2) (by sl_kernel_rfl)))
    (Agree.cons (gate_tile 0 0 (by decide) (by decide) ((agree1_2 (arg2 := arg2) (arg3 := arg3)).read (v := arg12.view) (Rect.unit (s := S2048x512) ![0, 0] S128x128.size (inr (R := 0) (T := 0) (by decide) (by decide))).toLoadRect (.leaf 1) (by sl_kernel_rfl)))
    (Agree.nil)))))))))))

/-- The first 12 tiles of the gated activations. -/
theorem agree2_12 : Agree (kernelRun0_B.sl.HS2_12 (F := Ideal) c arg2 harg2 arg3 harg3 arg5 harg5 arg6 harg6 arg7 harg7 arg12 x0 x1 x3 x4 x5) (actW x0 x1 x3 x4 x5) :=
  Agree.cons (gate_tile 2 384 (by decide) (by decide) ((agree1_6 (arg2 := arg2) (arg3 := arg3)).read (v := arg12.view) (Rect.unit (s := S2048x512) ![256, 384] S128x128.size (inr (R := 2) (T := 384) (by decide) (by decide))).toLoadRect (.leaf 2) (by sl_kernel_rfl)))
    (agree2_11)

/-- The first 19 tiles of the gated activations. -/
theorem agree2_19 : Agree (kernelRun0_B.sl.HS2_19 (F := Ideal) c arg2 harg2 arg3 harg3 arg5 harg5 arg6 harg6 arg7 harg7 arg12 x0 x1 x3 x4 x5) (actW x0 x1 x3 x4 x5) :=
  Agree.cons (gate_tile 4 256 (by decide) (by decide) ((agree1_8 (arg2 := arg2) (arg3 := arg3)).read (v := arg12.view) (Rect.unit (s := S2048x512) ![512, 256] S128x128.size (inr (R := 4) (T := 256) (by decide) (by decide))).toLoadRect (.leaf 2) (by sl_kernel_rfl)))
    (Agree.cons (gate_tile 4 128 (by decide) (by decide) ((agree1_7 (arg2 := arg2) (arg3 := arg3)).read (v := arg12.view) (Rect.unit (s := S2048x512) ![512, 128] S128x128.size (inr (R := 4) (T := 128) (by decide) (by decide))).toLoadRect (.leaf 2) (by sl_kernel_rfl)))
    (Agree.cons (gate_tile 4 0 (by decide) (by decide) ((agree1_6 (arg2 := arg2) (arg3 := arg3)).read (v := arg12.view) (Rect.unit (s := S2048x512) ![512, 0] S128x128.size (inr (R := 4) (T := 0) (by decide) (by decide))).toLoadRect (.leaf 1) (by sl_kernel_rfl)))
    (Agree.cons (gate_tile 3 384 (by decide) (by decide) ((agree1_6 (arg2 := arg2) (arg3 := arg3)).read (v := arg12.view) (Rect.unit (s := S2048x512) ![384, 384] S128x128.size (inr (R := 3) (T := 384) (by decide) (by decide))).toLoadRect (.leaf 2) (by sl_kernel_rfl)))
    (Agree.cons (gate_tile 3 256 (by decide) (by decide) ((agree1_6 (arg2 := arg2) (arg3 := arg3)).read (v := arg12.view) (Rect.unit (s := S2048x512) ![384, 256] S128x128.size (inr (R := 3) (T := 256) (by decide) (by decide))).toLoadRect (.leaf 2) (by sl_kernel_rfl)))
    (Agree.cons (gate_tile 3 128 (by decide) (by decide) ((agree1_6 (arg2 := arg2) (arg3 := arg3)).read (v := arg12.view) (Rect.unit (s := S2048x512) ![384, 128] S128x128.size (inr (R := 3) (T := 128) (by decide) (by decide))).toLoadRect (.leaf 3) (by sl_kernel_rfl)))
    (Agree.cons (gate_tile 3 0 (by decide) (by decide) ((agree1_6 (arg2 := arg2) (arg3 := arg3)).read (v := arg12.view) (Rect.unit (s := S2048x512) ![384, 0] S128x128.size (inr (R := 3) (T := 0) (by decide) (by decide))).toLoadRect (.leaf 3) (by sl_kernel_rfl)))
    (agree2_12)))))))

/-- The first 20 tiles of the gated activations. -/
theorem agree2_20 : Agree (kernelRun0_B.sl.HS2_20 (F := Ideal) c arg2 harg2 arg3 harg3 arg5 harg5 arg6 harg6 arg7 harg7 arg12 x0 x1 x3 x4 x5) (actW x0 x1 x3 x4 x5) :=
  Agree.cons (gate_tile 4 384 (by decide) (by decide) ((agree1_8 (arg2 := arg2) (arg3 := arg3)).read (v := arg12.view) (Rect.unit (s := S2048x512) ![512, 384] S128x128.size (inr (R := 4) (T := 384) (by decide) (by decide))).toLoadRect (.leaf 2) (by sl_kernel_rfl)))
    (agree2_19)

/-- The first 27 tiles of the gated activations. -/
theorem agree2_27 : Agree (kernelRun0_B.sl.HS2_27 (F := Ideal) c arg2 harg2 arg3 harg3 arg5 harg5 arg6 harg6 arg7 harg7 arg12 x0 x1 x3 x4 x5) (actW x0 x1 x3 x4 x5) :=
  Agree.cons (gate_tile 6 256 (by decide) (by decide) ((agree1_10 (arg2 := arg2) (arg3 := arg3)).read (v := arg12.view) (Rect.unit (s := S2048x512) ![768, 256] S128x128.size (inr (R := 6) (T := 256) (by decide) (by decide))).toLoadRect (.leaf 2) (by sl_kernel_rfl)))
    (Agree.cons (gate_tile 6 128 (by decide) (by decide) ((agree1_9 (arg2 := arg2) (arg3 := arg3)).read (v := arg12.view) (Rect.unit (s := S2048x512) ![768, 128] S128x128.size (inr (R := 6) (T := 128) (by decide) (by decide))).toLoadRect (.leaf 2) (by sl_kernel_rfl)))
    (Agree.cons (gate_tile 6 0 (by decide) (by decide) ((agree1_8 (arg2 := arg2) (arg3 := arg3)).read (v := arg12.view) (Rect.unit (s := S2048x512) ![768, 0] S128x128.size (inr (R := 6) (T := 0) (by decide) (by decide))).toLoadRect (.leaf 1) (by sl_kernel_rfl)))
    (Agree.cons (gate_tile 5 384 (by decide) (by decide) ((agree1_8 (arg2 := arg2) (arg3 := arg3)).read (v := arg12.view) (Rect.unit (s := S2048x512) ![640, 384] S128x128.size (inr (R := 5) (T := 384) (by decide) (by decide))).toLoadRect (.leaf 2) (by sl_kernel_rfl)))
    (Agree.cons (gate_tile 5 256 (by decide) (by decide) ((agree1_8 (arg2 := arg2) (arg3 := arg3)).read (v := arg12.view) (Rect.unit (s := S2048x512) ![640, 256] S128x128.size (inr (R := 5) (T := 256) (by decide) (by decide))).toLoadRect (.leaf 2) (by sl_kernel_rfl)))
    (Agree.cons (gate_tile 5 128 (by decide) (by decide) ((agree1_8 (arg2 := arg2) (arg3 := arg3)).read (v := arg12.view) (Rect.unit (s := S2048x512) ![640, 128] S128x128.size (inr (R := 5) (T := 128) (by decide) (by decide))).toLoadRect (.leaf 3) (by sl_kernel_rfl)))
    (Agree.cons (gate_tile 5 0 (by decide) (by decide) ((agree1_8 (arg2 := arg2) (arg3 := arg3)).read (v := arg12.view) (Rect.unit (s := S2048x512) ![640, 0] S128x128.size (inr (R := 5) (T := 0) (by decide) (by decide))).toLoadRect (.leaf 3) (by sl_kernel_rfl)))
    (agree2_20)))))))

/-- The first 28 tiles of the gated activations. -/
theorem agree2_28 : Agree (kernelRun0_B.sl.HS2_28 (F := Ideal) c arg2 harg2 arg3 harg3 arg5 harg5 arg6 harg6 arg7 harg7 arg12 x0 x1 x3 x4 x5) (actW x0 x1 x3 x4 x5) :=
  Agree.cons (gate_tile 6 384 (by decide) (by decide) ((agree1_10 (arg2 := arg2) (arg3 := arg3)).read (v := arg12.view) (Rect.unit (s := S2048x512) ![768, 384] S128x128.size (inr (R := 6) (T := 384) (by decide) (by decide))).toLoadRect (.leaf 2) (by sl_kernel_rfl)))
    (agree2_27)

/-- The first 35 tiles of the gated activations. -/
theorem agree2_35 : Agree (kernelRun0_B.sl.HS2_35 (F := Ideal) c arg2 harg2 arg3 harg3 arg5 harg5 arg6 harg6 arg7 harg7 arg12 x0 x1 x3 x4 x5) (actW x0 x1 x3 x4 x5) :=
  Agree.cons (gate_tile 8 256 (by decide) (by decide) ((agree1_12 (arg2 := arg2) (arg3 := arg3)).read (v := arg12.view) (Rect.unit (s := S2048x512) ![1024, 256] S128x128.size (inr (R := 8) (T := 256) (by decide) (by decide))).toLoadRect (.leaf 2) (by sl_kernel_rfl)))
    (Agree.cons (gate_tile 8 128 (by decide) (by decide) ((agree1_11 (arg2 := arg2) (arg3 := arg3)).read (v := arg12.view) (Rect.unit (s := S2048x512) ![1024, 128] S128x128.size (inr (R := 8) (T := 128) (by decide) (by decide))).toLoadRect (.leaf 2) (by sl_kernel_rfl)))
    (Agree.cons (gate_tile 8 0 (by decide) (by decide) ((agree1_10 (arg2 := arg2) (arg3 := arg3)).read (v := arg12.view) (Rect.unit (s := S2048x512) ![1024, 0] S128x128.size (inr (R := 8) (T := 0) (by decide) (by decide))).toLoadRect (.leaf 1) (by sl_kernel_rfl)))
    (Agree.cons (gate_tile 7 384 (by decide) (by decide) ((agree1_10 (arg2 := arg2) (arg3 := arg3)).read (v := arg12.view) (Rect.unit (s := S2048x512) ![896, 384] S128x128.size (inr (R := 7) (T := 384) (by decide) (by decide))).toLoadRect (.leaf 2) (by sl_kernel_rfl)))
    (Agree.cons (gate_tile 7 256 (by decide) (by decide) ((agree1_10 (arg2 := arg2) (arg3 := arg3)).read (v := arg12.view) (Rect.unit (s := S2048x512) ![896, 256] S128x128.size (inr (R := 7) (T := 256) (by decide) (by decide))).toLoadRect (.leaf 2) (by sl_kernel_rfl)))
    (Agree.cons (gate_tile 7 128 (by decide) (by decide) ((agree1_10 (arg2 := arg2) (arg3 := arg3)).read (v := arg12.view) (Rect.unit (s := S2048x512) ![896, 128] S128x128.size (inr (R := 7) (T := 128) (by decide) (by decide))).toLoadRect (.leaf 3) (by sl_kernel_rfl)))
    (Agree.cons (gate_tile 7 0 (by decide) (by decide) ((agree1_10 (arg2 := arg2) (arg3 := arg3)).read (v := arg12.view) (Rect.unit (s := S2048x512) ![896, 0] S128x128.size (inr (R := 7) (T := 0) (by decide) (by decide))).toLoadRect (.leaf 3) (by sl_kernel_rfl)))
    (agree2_28)))))))

/-- The first 36 tiles of the gated activations. -/
theorem agree2_36 : Agree (kernelRun0_B.sl.HS2_36 (F := Ideal) c arg2 harg2 arg3 harg3 arg5 harg5 arg6 harg6 arg7 harg7 arg12 x0 x1 x3 x4 x5) (actW x0 x1 x3 x4 x5) :=
  Agree.cons (gate_tile 8 384 (by decide) (by decide) ((agree1_12 (arg2 := arg2) (arg3 := arg3)).read (v := arg12.view) (Rect.unit (s := S2048x512) ![1024, 384] S128x128.size (inr (R := 8) (T := 384) (by decide) (by decide))).toLoadRect (.leaf 2) (by sl_kernel_rfl)))
    (agree2_35)

/-- The first 43 tiles of the gated activations. -/
theorem agree2_43 : Agree (kernelRun0_B.sl.HS2_43 (F := Ideal) c arg2 harg2 arg3 harg3 arg5 harg5 arg6 harg6 arg7 harg7 arg12 x0 x1 x3 x4 x5) (actW x0 x1 x3 x4 x5) :=
  Agree.cons (gate_tile 10 256 (by decide) (by decide) ((agree1_14 (arg2 := arg2) (arg3 := arg3)).read (v := arg12.view) (Rect.unit (s := S2048x512) ![1280, 256] S128x128.size (inr (R := 10) (T := 256) (by decide) (by decide))).toLoadRect (.leaf 2) (by sl_kernel_rfl)))
    (Agree.cons (gate_tile 10 128 (by decide) (by decide) ((agree1_13 (arg2 := arg2) (arg3 := arg3)).read (v := arg12.view) (Rect.unit (s := S2048x512) ![1280, 128] S128x128.size (inr (R := 10) (T := 128) (by decide) (by decide))).toLoadRect (.leaf 2) (by sl_kernel_rfl)))
    (Agree.cons (gate_tile 10 0 (by decide) (by decide) ((agree1_12 (arg2 := arg2) (arg3 := arg3)).read (v := arg12.view) (Rect.unit (s := S2048x512) ![1280, 0] S128x128.size (inr (R := 10) (T := 0) (by decide) (by decide))).toLoadRect (.leaf 1) (by sl_kernel_rfl)))
    (Agree.cons (gate_tile 9 384 (by decide) (by decide) ((agree1_12 (arg2 := arg2) (arg3 := arg3)).read (v := arg12.view) (Rect.unit (s := S2048x512) ![1152, 384] S128x128.size (inr (R := 9) (T := 384) (by decide) (by decide))).toLoadRect (.leaf 2) (by sl_kernel_rfl)))
    (Agree.cons (gate_tile 9 256 (by decide) (by decide) ((agree1_12 (arg2 := arg2) (arg3 := arg3)).read (v := arg12.view) (Rect.unit (s := S2048x512) ![1152, 256] S128x128.size (inr (R := 9) (T := 256) (by decide) (by decide))).toLoadRect (.leaf 2) (by sl_kernel_rfl)))
    (Agree.cons (gate_tile 9 128 (by decide) (by decide) ((agree1_12 (arg2 := arg2) (arg3 := arg3)).read (v := arg12.view) (Rect.unit (s := S2048x512) ![1152, 128] S128x128.size (inr (R := 9) (T := 128) (by decide) (by decide))).toLoadRect (.leaf 3) (by sl_kernel_rfl)))
    (Agree.cons (gate_tile 9 0 (by decide) (by decide) ((agree1_12 (arg2 := arg2) (arg3 := arg3)).read (v := arg12.view) (Rect.unit (s := S2048x512) ![1152, 0] S128x128.size (inr (R := 9) (T := 0) (by decide) (by decide))).toLoadRect (.leaf 3) (by sl_kernel_rfl)))
    (agree2_36)))))))

/-- The first 44 tiles of the gated activations. -/
theorem agree2_44 : Agree (kernelRun0_B.sl.HS2_44 (F := Ideal) c arg2 harg2 arg3 harg3 arg5 harg5 arg6 harg6 arg7 harg7 arg12 x0 x1 x3 x4 x5) (actW x0 x1 x3 x4 x5) :=
  Agree.cons (gate_tile 10 384 (by decide) (by decide) ((agree1_14 (arg2 := arg2) (arg3 := arg3)).read (v := arg12.view) (Rect.unit (s := S2048x512) ![1280, 384] S128x128.size (inr (R := 10) (T := 384) (by decide) (by decide))).toLoadRect (.leaf 2) (by sl_kernel_rfl)))
    (agree2_43)

/-- The first 51 tiles of the gated activations. -/
theorem agree2_51 : Agree (kernelRun0_B.sl.HS2_51 (F := Ideal) c arg2 harg2 arg3 harg3 arg5 harg5 arg6 harg6 arg7 harg7 arg12 x0 x1 x3 x4 x5) (actW x0 x1 x3 x4 x5) :=
  Agree.cons (gate_tile 12 256 (by decide) (by decide) ((agree1_16 (arg2 := arg2) (arg3 := arg3)).read (v := arg12.view) (Rect.unit (s := S2048x512) ![1536, 256] S128x128.size (inr (R := 12) (T := 256) (by decide) (by decide))).toLoadRect (.leaf 2) (by sl_kernel_rfl)))
    (Agree.cons (gate_tile 12 128 (by decide) (by decide) ((agree1_15 (arg2 := arg2) (arg3 := arg3)).read (v := arg12.view) (Rect.unit (s := S2048x512) ![1536, 128] S128x128.size (inr (R := 12) (T := 128) (by decide) (by decide))).toLoadRect (.leaf 2) (by sl_kernel_rfl)))
    (Agree.cons (gate_tile 12 0 (by decide) (by decide) ((agree1_14 (arg2 := arg2) (arg3 := arg3)).read (v := arg12.view) (Rect.unit (s := S2048x512) ![1536, 0] S128x128.size (inr (R := 12) (T := 0) (by decide) (by decide))).toLoadRect (.leaf 1) (by sl_kernel_rfl)))
    (Agree.cons (gate_tile 11 384 (by decide) (by decide) ((agree1_14 (arg2 := arg2) (arg3 := arg3)).read (v := arg12.view) (Rect.unit (s := S2048x512) ![1408, 384] S128x128.size (inr (R := 11) (T := 384) (by decide) (by decide))).toLoadRect (.leaf 2) (by sl_kernel_rfl)))
    (Agree.cons (gate_tile 11 256 (by decide) (by decide) ((agree1_14 (arg2 := arg2) (arg3 := arg3)).read (v := arg12.view) (Rect.unit (s := S2048x512) ![1408, 256] S128x128.size (inr (R := 11) (T := 256) (by decide) (by decide))).toLoadRect (.leaf 2) (by sl_kernel_rfl)))
    (Agree.cons (gate_tile 11 128 (by decide) (by decide) ((agree1_14 (arg2 := arg2) (arg3 := arg3)).read (v := arg12.view) (Rect.unit (s := S2048x512) ![1408, 128] S128x128.size (inr (R := 11) (T := 128) (by decide) (by decide))).toLoadRect (.leaf 3) (by sl_kernel_rfl)))
    (Agree.cons (gate_tile 11 0 (by decide) (by decide) ((agree1_14 (arg2 := arg2) (arg3 := arg3)).read (v := arg12.view) (Rect.unit (s := S2048x512) ![1408, 0] S128x128.size (inr (R := 11) (T := 0) (by decide) (by decide))).toLoadRect (.leaf 3) (by sl_kernel_rfl)))
    (agree2_44)))))))

/-- The first 52 tiles of the gated activations. -/
theorem agree2_52 : Agree (kernelRun0_B.sl.HS2_52 (F := Ideal) c arg2 harg2 arg3 harg3 arg5 harg5 arg6 harg6 arg7 harg7 arg12 x0 x1 x3 x4 x5) (actW x0 x1 x3 x4 x5) :=
  Agree.cons (gate_tile 12 384 (by decide) (by decide) ((agree1_16 (arg2 := arg2) (arg3 := arg3)).read (v := arg12.view) (Rect.unit (s := S2048x512) ![1536, 384] S128x128.size (inr (R := 12) (T := 384) (by decide) (by decide))).toLoadRect (.leaf 2) (by sl_kernel_rfl)))
    (agree2_51)

/-- The first 57 tiles of the gated activations. -/
theorem agree2_57 : Agree (kernelRun0_B.sl.HS2_57 (F := Ideal) c arg2 harg2 arg3 harg3 arg5 harg5 arg6 harg6 arg7 harg7 arg12 x0 x1 x3 x4 x5) (actW x0 x1 x3 x4 x5) :=
  Agree.cons (gate_tile 14 0 (by decide) (by decide) ((agree1_16 (arg2 := arg2) (arg3 := arg3)).read (v := arg12.view) (Rect.unit (s := S2048x512) ![1792, 0] S128x128.size (inr (R := 14) (T := 0) (by decide) (by decide))).toLoadRect (.leaf 1) (by sl_kernel_rfl)))
    (Agree.cons (gate_tile 13 384 (by decide) (by decide) ((agree1_16 (arg2 := arg2) (arg3 := arg3)).read (v := arg12.view) (Rect.unit (s := S2048x512) ![1664, 384] S128x128.size (inr (R := 13) (T := 384) (by decide) (by decide))).toLoadRect (.leaf 2) (by sl_kernel_rfl)))
    (Agree.cons (gate_tile 13 256 (by decide) (by decide) ((agree1_16 (arg2 := arg2) (arg3 := arg3)).read (v := arg12.view) (Rect.unit (s := S2048x512) ![1664, 256] S128x128.size (inr (R := 13) (T := 256) (by decide) (by decide))).toLoadRect (.leaf 2) (by sl_kernel_rfl)))
    (Agree.cons (gate_tile 13 128 (by decide) (by decide) ((agree1_16 (arg2 := arg2) (arg3 := arg3)).read (v := arg12.view) (Rect.unit (s := S2048x512) ![1664, 128] S128x128.size (inr (R := 13) (T := 128) (by decide) (by decide))).toLoadRect (.leaf 3) (by sl_kernel_rfl)))
    (Agree.cons (gate_tile 13 0 (by decide) (by decide) ((agree1_16 (arg2 := arg2) (arg3 := arg3)).read (v := arg12.view) (Rect.unit (s := S2048x512) ![1664, 0] S128x128.size (inr (R := 13) (T := 0) (by decide) (by decide))).toLoadRect (.leaf 3) (by sl_kernel_rfl)))
    (agree2_52)))))

/-- The first 58 tiles of the gated activations. -/
theorem agree2_58 : Agree (kernelRun0_B.sl.HS2_58 (F := Ideal) c arg2 harg2 arg3 harg3 arg5 harg5 arg6 harg6 arg7 harg7 arg12 x0 x1 x3 x4 x5) (actW x0 x1 x3 x4 x5) :=
  Agree.cons (gate_tile 14 128 (by decide) (by decide) ((agree1_16 (arg2 := arg2) (arg3 := arg3)).read (v := arg12.view) (Rect.unit (s := S2048x512) ![1792, 128] S128x128.size (inr (R := 14) (T := 128) (by decide) (by decide))).toLoadRect (.leaf 1) (by sl_kernel_rfl)))
    (agree2_57)

/-- The first 64 tiles of the gated activations. -/
theorem agree2_64 : Agree (kernelRun0_B.sl.HS2_64 (F := Ideal) c arg2 harg2 arg3 harg3 arg5 harg5 arg6 harg6 arg7 harg7 arg12 x0 x1 x3 x4 x5) (actW x0 x1 x3 x4 x5) :=
  Agree.cons (gate_tile 15 384 (by decide) (by decide) ((agree1_16 (arg2 := arg2) (arg3 := arg3)).read (v := arg12.view) (Rect.unit (s := S2048x512) ![1920, 384] S128x128.size (inr (R := 15) (T := 384) (by decide) (by decide))).toLoadRect (.leaf 0) (by sl_kernel_rfl)))
    (Agree.cons (gate_tile 15 256 (by decide) (by decide) ((agree1_16 (arg2 := arg2) (arg3 := arg3)).read (v := arg12.view) (Rect.unit (s := S2048x512) ![1920, 256] S128x128.size (inr (R := 15) (T := 256) (by decide) (by decide))).toLoadRect (.leaf 0) (by sl_kernel_rfl)))
    (Agree.cons (gate_tile 15 128 (by decide) (by decide) ((agree1_16 (arg2 := arg2) (arg3 := arg3)).read (v := arg12.view) (Rect.unit (s := S2048x512) ![1920, 128] S128x128.size (inr (R := 15) (T := 128) (by decide) (by decide))).toLoadRect (.leaf 1) (by sl_kernel_rfl)))
    (Agree.cons (gate_tile 15 0 (by decide) (by decide) ((agree1_16 (arg2 := arg2) (arg3 := arg3)).read (v := arg12.view) (Rect.unit (s := S2048x512) ![1920, 0] S128x128.size (inr (R := 15) (T := 0) (by decide) (by decide))).toLoadRect (.leaf 1) (by sl_kernel_rfl)))
    (Agree.cons (gate_tile 14 384 (by decide) (by decide) ((agree1_16 (arg2 := arg2) (arg3 := arg3)).read (v := arg12.view) (Rect.unit (s := S2048x512) ![1792, 384] S128x128.size (inr (R := 14) (T := 384) (by decide) (by decide))).toLoadRect (.leaf 0) (by sl_kernel_rfl)))
    (Agree.cons (gate_tile 14 256 (by decide) (by decide) ((agree1_16 (arg2 := arg2) (arg3 := arg3)).read (v := arg12.view) (Rect.unit (s := S2048x512) ![1792, 256] S128x128.size (inr (R := 14) (T := 256) (by decide) (by decide))).toLoadRect (.leaf 0) (by sl_kernel_rfl)))
    (agree2_58))))))

/-- The gated activations of run 0, read for half 0. -/
theorem wr_0_0 (x : S256x512.Idx) : kernelRun0_B.sl.v1375 (F := Ideal) c arg2 harg2 arg3 harg3 arg5 harg5 arg6 harg6 arg7 harg7 arg12 arg13 x0 x1 x3 x4 x5 x
    = actW x0 x1 x3 x4 x5 ((Rect.unit (s := S2048x512) ![0, 0] S256x512.size inb_S2048x512_S256x512_0_0).emb x) :=
  (agree2_11 (arg2 := arg2) (arg3 := arg3) (arg12 := arg12)).read (v := arg13.view) (Rect.unit (s := S2048x512) ![0, 0] S256x512.size inb_S2048x512_S256x512_0_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 0, read for half 1. -/
theorem wr_0_1 (x : S256x512.Idx) : kernelRun0_B.sl.v1500 (F := Ideal) c arg2 harg2 arg3 harg3 arg5 harg5 arg6 harg6 arg7 harg7 arg12 arg13 x0 x1 x3 x4 x5 x
    = actW x0 x1 x3 x4 x5 ((Rect.unit (s := S2048x512) ![0, 0] S256x512.size inb_S2048x512_S256x512_0_0).emb x) :=
  (agree2_12 (arg2 := arg2) (arg3 := arg3) (arg12 := arg12)).read (v := arg13.view) (Rect.unit (s := S2048x512) ![0, 0] S256x512.size inb_S2048x512_S256x512_0_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 1, read for half 0. -/
theorem wr_1_0 (x : S256x512.Idx) : kernelRun0_B.sl.v2355 (F := Ideal) c arg2 harg2 arg3 harg3 arg5 harg5 arg6 harg6 arg7 harg7 arg12 arg13 x0 x1 x3 x4 x5 x
    = actW x0 x1 x3 x4 x5 ((Rect.unit (s := S2048x512) ![256, 0] S256x512.size inb_S2048x512_S256x512_256_0).emb x) :=
  (agree2_19 (arg2 := arg2) (arg3 := arg3) (arg12 := arg12)).read (v := arg13.view) (Rect.unit (s := S2048x512) ![256, 0] S256x512.size inb_S2048x512_S256x512_256_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 1, read for half 1. -/
theorem wr_1_1 (x : S256x512.Idx) : kernelRun0_B.sl.v2480 (F := Ideal) c arg2 harg2 arg3 harg3 arg5 harg5 arg6 harg6 arg7 harg7 arg12 arg13 x0 x1 x3 x4 x5 x
    = actW x0 x1 x3 x4 x5 ((Rect.unit (s := S2048x512) ![256, 0] S256x512.size inb_S2048x512_S256x512_256_0).emb x) :=
  (agree2_20 (arg2 := arg2) (arg3 := arg3) (arg12 := arg12)).read (v := arg13.view) (Rect.unit (s := S2048x512) ![256, 0] S256x512.size inb_S2048x512_S256x512_256_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 2, read for half 0. -/
theorem wr_2_0 (x : S256x512.Idx) : kernelRun0_B.sl.v3335 (F := Ideal) c arg2 harg2 arg3 harg3 arg5 harg5 arg6 harg6 arg7 harg7 arg12 arg13 x0 x1 x3 x4 x5 x
    = actW x0 x1 x3 x4 x5 ((Rect.unit (s := S2048x512) ![512, 0] S256x512.size inb_S2048x512_S256x512_512_0).emb x) :=
  (agree2_27 (arg2 := arg2) (arg3 := arg3) (arg12 := arg12)).read (v := arg13.view) (Rect.unit (s := S2048x512) ![512, 0] S256x512.size inb_S2048x512_S256x512_512_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 2, read for half 1. -/
theorem wr_2_1 (x : S256x512.Idx) : kernelRun0_B.sl.v3460 (F := Ideal) c arg2 harg2 arg3 harg3 arg5 harg5 arg6 harg6 arg7 harg7 arg12 arg13 x0 x1 x3 x4 x5 x
    = actW x0 x1 x3 x4 x5 ((Rect.unit (s := S2048x512) ![512, 0] S256x512.size inb_S2048x512_S256x512_512_0).emb x) :=
  (agree2_28 (arg2 := arg2) (arg3 := arg3) (arg12 := arg12)).read (v := arg13.view) (Rect.unit (s := S2048x512) ![512, 0] S256x512.size inb_S2048x512_S256x512_512_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 3, read for half 0. -/
theorem wr_3_0 (x : S256x512.Idx) : kernelRun0_B.sl.v4315 (F := Ideal) c arg2 harg2 arg3 harg3 arg5 harg5 arg6 harg6 arg7 harg7 arg12 arg13 x0 x1 x3 x4 x5 x
    = actW x0 x1 x3 x4 x5 ((Rect.unit (s := S2048x512) ![768, 0] S256x512.size inb_S2048x512_S256x512_768_0).emb x) :=
  (agree2_35 (arg2 := arg2) (arg3 := arg3) (arg12 := arg12)).read (v := arg13.view) (Rect.unit (s := S2048x512) ![768, 0] S256x512.size inb_S2048x512_S256x512_768_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 3, read for half 1. -/
theorem wr_3_1 (x : S256x512.Idx) : kernelRun0_B.sl.v4440 (F := Ideal) c arg2 harg2 arg3 harg3 arg5 harg5 arg6 harg6 arg7 harg7 arg12 arg13 x0 x1 x3 x4 x5 x
    = actW x0 x1 x3 x4 x5 ((Rect.unit (s := S2048x512) ![768, 0] S256x512.size inb_S2048x512_S256x512_768_0).emb x) :=
  (agree2_36 (arg2 := arg2) (arg3 := arg3) (arg12 := arg12)).read (v := arg13.view) (Rect.unit (s := S2048x512) ![768, 0] S256x512.size inb_S2048x512_S256x512_768_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 4, read for half 0. -/
theorem wr_4_0 (x : S256x512.Idx) : kernelRun0_B.sl.v5295 (F := Ideal) c arg2 harg2 arg3 harg3 arg5 harg5 arg6 harg6 arg7 harg7 arg12 arg13 x0 x1 x3 x4 x5 x
    = actW x0 x1 x3 x4 x5 ((Rect.unit (s := S2048x512) ![1024, 0] S256x512.size inb_S2048x512_S256x512_1024_0).emb x) :=
  (agree2_43 (arg2 := arg2) (arg3 := arg3) (arg12 := arg12)).read (v := arg13.view) (Rect.unit (s := S2048x512) ![1024, 0] S256x512.size inb_S2048x512_S256x512_1024_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 4, read for half 1. -/
theorem wr_4_1 (x : S256x512.Idx) : kernelRun0_B.sl.v5420 (F := Ideal) c arg2 harg2 arg3 harg3 arg5 harg5 arg6 harg6 arg7 harg7 arg12 arg13 x0 x1 x3 x4 x5 x
    = actW x0 x1 x3 x4 x5 ((Rect.unit (s := S2048x512) ![1024, 0] S256x512.size inb_S2048x512_S256x512_1024_0).emb x) :=
  (agree2_44 (arg2 := arg2) (arg3 := arg3) (arg12 := arg12)).read (v := arg13.view) (Rect.unit (s := S2048x512) ![1024, 0] S256x512.size inb_S2048x512_S256x512_1024_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 5, read for half 0. -/
theorem wr_5_0 (x : S256x512.Idx) : kernelRun0_B.sl.v6275 (F := Ideal) c arg2 harg2 arg3 harg3 arg5 harg5 arg6 harg6 arg7 harg7 arg12 arg13 x0 x1 x3 x4 x5 x
    = actW x0 x1 x3 x4 x5 ((Rect.unit (s := S2048x512) ![1280, 0] S256x512.size inb_S2048x512_S256x512_1280_0).emb x) :=
  (agree2_51 (arg2 := arg2) (arg3 := arg3) (arg12 := arg12)).read (v := arg13.view) (Rect.unit (s := S2048x512) ![1280, 0] S256x512.size inb_S2048x512_S256x512_1280_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 5, read for half 1. -/
theorem wr_5_1 (x : S256x512.Idx) : kernelRun0_B.sl.v6400 (F := Ideal) c arg2 harg2 arg3 harg3 arg5 harg5 arg6 harg6 arg7 harg7 arg12 arg13 x0 x1 x3 x4 x5 x
    = actW x0 x1 x3 x4 x5 ((Rect.unit (s := S2048x512) ![1280, 0] S256x512.size inb_S2048x512_S256x512_1280_0).emb x) :=
  (agree2_52 (arg2 := arg2) (arg3 := arg3) (arg12 := arg12)).read (v := arg13.view) (Rect.unit (s := S2048x512) ![1280, 0] S256x512.size inb_S2048x512_S256x512_1280_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 6, read for half 0. -/
theorem wr_6_0 (x : S256x512.Idx) : kernelRun0_B.sl.v6993 (F := Ideal) c arg2 harg2 arg3 harg3 arg5 harg5 arg6 harg6 arg7 harg7 arg12 arg13 x0 x1 x3 x4 x5 x
    = actW x0 x1 x3 x4 x5 ((Rect.unit (s := S2048x512) ![1536, 0] S256x512.size inb_S2048x512_S256x512_1536_0).emb x) :=
  (agree2_57 (arg2 := arg2) (arg3 := arg3) (arg12 := arg12)).read (v := arg13.view) (Rect.unit (s := S2048x512) ![1536, 0] S256x512.size inb_S2048x512_S256x512_1536_0).toLoadRect (.split 0 128 (.split 1 128 (.leaf 8) (.split 1 128 (.leaf 7) (.split 1 128 (.leaf 6) (.leaf 5)))) (.split 1 128 (.leaf 4) (.split 1 128 (.leaf 3) (.split 1 128 (.leaf 2) (.leaf 1))))) (by sl_kernel_rfl) x

/-- The gated activations of run 6, read for half 1. -/
theorem wr_6_1 (x : S256x512.Idx) : kernelRun0_B.sl.v7118 (F := Ideal) c arg2 harg2 arg3 harg3 arg5 harg5 arg6 harg6 arg7 harg7 arg12 arg13 x0 x1 x3 x4 x5 x
    = actW x0 x1 x3 x4 x5 ((Rect.unit (s := S2048x512) ![1536, 0] S256x512.size inb_S2048x512_S256x512_1536_0).emb x) :=
  (agree2_58 (arg2 := arg2) (arg3 := arg3) (arg12 := arg12)).read (v := arg13.view) (Rect.unit (s := S2048x512) ![1536, 0] S256x512.size inb_S2048x512_S256x512_1536_0).toLoadRect (.split 0 128 (.split 1 128 (.leaf 9) (.split 1 128 (.leaf 8) (.split 1 128 (.leaf 7) (.leaf 6)))) (.split 1 128 (.leaf 5) (.split 1 128 (.leaf 4) (.split 1 128 (.leaf 3) (.leaf 2))))) (by sl_kernel_rfl) x

/-- The gated activations of run 7, read for half 0. -/
theorem wr_7_0 (x : S256x512.Idx) : kernelRun0_B.sl.v7828 (F := Ideal) c arg2 harg2 arg3 harg3 arg5 harg5 arg6 harg6 arg7 harg7 arg12 arg13 x0 x1 x3 x4 x5 x
    = actW x0 x1 x3 x4 x5 ((Rect.unit (s := S2048x512) ![1792, 0] S256x512.size inb_S2048x512_S256x512_1792_0).emb x) :=
  (agree2_64 (arg2 := arg2) (arg3 := arg3) (arg12 := arg12)).read (v := arg13.view) (Rect.unit (s := S2048x512) ![1792, 0] S256x512.size inb_S2048x512_S256x512_1792_0).toLoadRect (.split 0 128 (.split 1 128 (.leaf 7) (.split 1 128 (.leaf 6) (.split 1 128 (.leaf 5) (.leaf 4)))) (.split 1 128 (.leaf 3) (.split 1 128 (.leaf 2) (.split 1 128 (.leaf 1) (.leaf 0))))) (by sl_kernel_rfl) x

/-- Half 0 of the accumulator after run 0. -/
theorem acc_0_0 (x : S512x512.Idx) : k0_pay103 (F := Ideal) (View.readAt (Elt Ideal) arg11.view (halfR 0 le0).toLoadRect (harg11.unread xs0)) (kernelRun0_B.sl.v1375 (F := Ideal) c arg2 harg2 arg3 harg3 arg5 harg5 arg6 harg6 arg7 harg7 arg12 arg13 x0 x1 x3 x4 x5)
      (View.readAt (Elt Ideal) arg4.view (Rect.unit (s := S2048x1024) ![0, 0] S256x512.size inb_S2048x1024_S256x512_0_0).toLoadRect (harg4.unread x2)) x
    = accB x0 x1 x2 x3 x4 x5 xs0 1 ((halfR 0 le0).emb x) :=
  out_tile 0 0 (by decide) le0 _ inb_S2048x512_S256x512_0_0 (read_came 0 le0) wr_0_0 x

/-- Half 1 of the accumulator after run 0. -/
theorem acc_0_1 (x : S512x512.Idx) : k0_pay103 (F := Ideal) (View.readAt (Elt Ideal) arg11.view (halfR 512 le1).toLoadRect (harg11.unread xs0)) (kernelRun0_B.sl.v1500 (F := Ideal) c arg2 harg2 arg3 harg3 arg5 harg5 arg6 harg6 arg7 harg7 arg12 arg13 x0 x1 x3 x4 x5)
      (View.readAt (Elt Ideal) arg4.view (Rect.unit (s := S2048x1024) ![0, 512] S256x512.size inb_S2048x1024_S256x512_0_512).toLoadRect (harg4.unread x2)) x
    = accB x0 x1 x2 x3 x4 x5 xs0 1 ((halfR 512 le1).emb x) :=
  out_tile 0 512 (by decide) le1 _ inb_S2048x512_S256x512_0_0 (read_came 512 le1) wr_0_1 x

/-- Half 0 of the accumulator after run 1. -/
theorem acc_1_0 (x : S512x512.Idx) : k0_pay103 (F := Ideal) (kernelRun0_B.sl.v2354 (F := Ideal) c arg2 harg2 arg3 harg3 arg4 harg4 arg5 harg5 arg6 harg6 arg7 harg7 arg11 harg11 arg12 arg13 x0 x1 x2 x3 x4 x5 xs0) (kernelRun0_B.sl.v2355 (F := Ideal) c arg2 harg2 arg3 harg3 arg5 harg5 arg6 harg6 arg7 harg7 arg12 arg13 x0 x1 x3 x4 x5)
      (View.readAt (Elt Ideal) arg4.view (Rect.unit (s := S2048x1024) ![256, 0] S256x512.size inb_S2048x1024_S256x512_256_0).toLoadRect (harg4.unread x2)) x
    = accB x0 x1 x2 x3 x4 x5 xs0 2 ((halfR 0 le0).emb x) :=
  out_tile 1 0 (by decide) le0 _ inb_S2048x512_S256x512_256_0 (fun x => read_half (v := arg11.view) 0 512 le0 le1 (Or.inr (by decide)) (acc_0_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_1_0 x

/-- Half 1 of the accumulator after run 1. -/
theorem acc_1_1 (x : S512x512.Idx) : k0_pay103 (F := Ideal) (kernelRun0_B.sl.v2479 (F := Ideal) c arg2 harg2 arg3 harg3 arg4 harg4 arg5 harg5 arg6 harg6 arg7 harg7 arg11 harg11 arg12 arg13 x0 x1 x2 x3 x4 x5 xs0) (kernelRun0_B.sl.v2480 (F := Ideal) c arg2 harg2 arg3 harg3 arg5 harg5 arg6 harg6 arg7 harg7 arg12 arg13 x0 x1 x3 x4 x5)
      (View.readAt (Elt Ideal) arg4.view (Rect.unit (s := S2048x1024) ![256, 512] S256x512.size inb_S2048x1024_S256x512_256_512).toLoadRect (harg4.unread x2)) x
    = accB x0 x1 x2 x3 x4 x5 xs0 2 ((halfR 512 le1).emb x) :=
  out_tile 1 512 (by decide) le1 _ inb_S2048x512_S256x512_256_0 (fun x => read_half (v := arg11.view) 512 0 le1 le0 (Or.inl (by decide)) (acc_0_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_1_1 x

/-- Half 0 of the accumulator after run 2. -/
theorem acc_2_0 (x : S512x512.Idx) : k0_pay103 (F := Ideal) (kernelRun0_B.sl.v3334 (F := Ideal) c arg2 harg2 arg3 harg3 arg4 harg4 arg5 harg5 arg6 harg6 arg7 harg7 arg11 harg11 arg12 arg13 x0 x1 x2 x3 x4 x5 xs0) (kernelRun0_B.sl.v3335 (F := Ideal) c arg2 harg2 arg3 harg3 arg5 harg5 arg6 harg6 arg7 harg7 arg12 arg13 x0 x1 x3 x4 x5)
      (View.readAt (Elt Ideal) arg4.view (Rect.unit (s := S2048x1024) ![512, 0] S256x512.size inb_S2048x1024_S256x512_512_0).toLoadRect (harg4.unread x2)) x
    = accB x0 x1 x2 x3 x4 x5 xs0 3 ((halfR 0 le0).emb x) :=
  out_tile 2 0 (by decide) le0 _ inb_S2048x512_S256x512_512_0 (fun x => read_half (v := arg11.view) 0 512 le0 le1 (Or.inr (by decide)) (acc_1_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_2_0 x

/-- Half 1 of the accumulator after run 2. -/
theorem acc_2_1 (x : S512x512.Idx) : k0_pay103 (F := Ideal) (kernelRun0_B.sl.v3459 (F := Ideal) c arg2 harg2 arg3 harg3 arg4 harg4 arg5 harg5 arg6 harg6 arg7 harg7 arg11 harg11 arg12 arg13 x0 x1 x2 x3 x4 x5 xs0) (kernelRun0_B.sl.v3460 (F := Ideal) c arg2 harg2 arg3 harg3 arg5 harg5 arg6 harg6 arg7 harg7 arg12 arg13 x0 x1 x3 x4 x5)
      (View.readAt (Elt Ideal) arg4.view (Rect.unit (s := S2048x1024) ![512, 512] S256x512.size inb_S2048x1024_S256x512_512_512).toLoadRect (harg4.unread x2)) x
    = accB x0 x1 x2 x3 x4 x5 xs0 3 ((halfR 512 le1).emb x) :=
  out_tile 2 512 (by decide) le1 _ inb_S2048x512_S256x512_512_0 (fun x => read_half (v := arg11.view) 512 0 le1 le0 (Or.inl (by decide)) (acc_1_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_2_1 x

/-- Half 0 of the accumulator after run 3. -/
theorem acc_3_0 (x : S512x512.Idx) : k0_pay103 (F := Ideal) (kernelRun0_B.sl.v4314 (F := Ideal) c arg2 harg2 arg3 harg3 arg4 harg4 arg5 harg5 arg6 harg6 arg7 harg7 arg11 harg11 arg12 arg13 x0 x1 x2 x3 x4 x5 xs0) (kernelRun0_B.sl.v4315 (F := Ideal) c arg2 harg2 arg3 harg3 arg5 harg5 arg6 harg6 arg7 harg7 arg12 arg13 x0 x1 x3 x4 x5)
      (View.readAt (Elt Ideal) arg4.view (Rect.unit (s := S2048x1024) ![768, 0] S256x512.size inb_S2048x1024_S256x512_768_0).toLoadRect (harg4.unread x2)) x
    = accB x0 x1 x2 x3 x4 x5 xs0 4 ((halfR 0 le0).emb x) :=
  out_tile 3 0 (by decide) le0 _ inb_S2048x512_S256x512_768_0 (fun x => read_half (v := arg11.view) 0 512 le0 le1 (Or.inr (by decide)) (acc_2_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_3_0 x

/-- Half 1 of the accumulator after run 3. -/
theorem acc_3_1 (x : S512x512.Idx) : k0_pay103 (F := Ideal) (kernelRun0_B.sl.v4439 (F := Ideal) c arg2 harg2 arg3 harg3 arg4 harg4 arg5 harg5 arg6 harg6 arg7 harg7 arg11 harg11 arg12 arg13 x0 x1 x2 x3 x4 x5 xs0) (kernelRun0_B.sl.v4440 (F := Ideal) c arg2 harg2 arg3 harg3 arg5 harg5 arg6 harg6 arg7 harg7 arg12 arg13 x0 x1 x3 x4 x5)
      (View.readAt (Elt Ideal) arg4.view (Rect.unit (s := S2048x1024) ![768, 512] S256x512.size inb_S2048x1024_S256x512_768_512).toLoadRect (harg4.unread x2)) x
    = accB x0 x1 x2 x3 x4 x5 xs0 4 ((halfR 512 le1).emb x) :=
  out_tile 3 512 (by decide) le1 _ inb_S2048x512_S256x512_768_0 (fun x => read_half (v := arg11.view) 512 0 le1 le0 (Or.inl (by decide)) (acc_2_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_3_1 x

/-- Half 0 of the accumulator after run 4. -/
theorem acc_4_0 (x : S512x512.Idx) : k0_pay103 (F := Ideal) (kernelRun0_B.sl.v5294 (F := Ideal) c arg2 harg2 arg3 harg3 arg4 harg4 arg5 harg5 arg6 harg6 arg7 harg7 arg11 harg11 arg12 arg13 x0 x1 x2 x3 x4 x5 xs0) (kernelRun0_B.sl.v5295 (F := Ideal) c arg2 harg2 arg3 harg3 arg5 harg5 arg6 harg6 arg7 harg7 arg12 arg13 x0 x1 x3 x4 x5)
      (View.readAt (Elt Ideal) arg4.view (Rect.unit (s := S2048x1024) ![1024, 0] S256x512.size inb_S2048x1024_S256x512_1024_0).toLoadRect (harg4.unread x2)) x
    = accB x0 x1 x2 x3 x4 x5 xs0 5 ((halfR 0 le0).emb x) :=
  out_tile 4 0 (by decide) le0 _ inb_S2048x512_S256x512_1024_0 (fun x => read_half (v := arg11.view) 0 512 le0 le1 (Or.inr (by decide)) (acc_3_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_4_0 x

/-- Half 1 of the accumulator after run 4. -/
theorem acc_4_1 (x : S512x512.Idx) : k0_pay103 (F := Ideal) (kernelRun0_B.sl.v5419 (F := Ideal) c arg2 harg2 arg3 harg3 arg4 harg4 arg5 harg5 arg6 harg6 arg7 harg7 arg11 harg11 arg12 arg13 x0 x1 x2 x3 x4 x5 xs0) (kernelRun0_B.sl.v5420 (F := Ideal) c arg2 harg2 arg3 harg3 arg5 harg5 arg6 harg6 arg7 harg7 arg12 arg13 x0 x1 x3 x4 x5)
      (View.readAt (Elt Ideal) arg4.view (Rect.unit (s := S2048x1024) ![1024, 512] S256x512.size inb_S2048x1024_S256x512_1024_512).toLoadRect (harg4.unread x2)) x
    = accB x0 x1 x2 x3 x4 x5 xs0 5 ((halfR 512 le1).emb x) :=
  out_tile 4 512 (by decide) le1 _ inb_S2048x512_S256x512_1024_0 (fun x => read_half (v := arg11.view) 512 0 le1 le0 (Or.inl (by decide)) (acc_3_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_4_1 x

/-- Half 0 of the accumulator after run 5. -/
theorem acc_5_0 (x : S512x512.Idx) : k0_pay103 (F := Ideal) (kernelRun0_B.sl.v6274 (F := Ideal) c arg2 harg2 arg3 harg3 arg4 harg4 arg5 harg5 arg6 harg6 arg7 harg7 arg11 harg11 arg12 arg13 x0 x1 x2 x3 x4 x5 xs0) (kernelRun0_B.sl.v6275 (F := Ideal) c arg2 harg2 arg3 harg3 arg5 harg5 arg6 harg6 arg7 harg7 arg12 arg13 x0 x1 x3 x4 x5)
      (View.readAt (Elt Ideal) arg4.view (Rect.unit (s := S2048x1024) ![1280, 0] S256x512.size inb_S2048x1024_S256x512_1280_0).toLoadRect (harg4.unread x2)) x
    = accB x0 x1 x2 x3 x4 x5 xs0 6 ((halfR 0 le0).emb x) :=
  out_tile 5 0 (by decide) le0 _ inb_S2048x512_S256x512_1280_0 (fun x => read_half (v := arg11.view) 0 512 le0 le1 (Or.inr (by decide)) (acc_4_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_5_0 x

/-- Half 1 of the accumulator after run 5. -/
theorem acc_5_1 (x : S512x512.Idx) : k0_pay103 (F := Ideal) (kernelRun0_B.sl.v6399 (F := Ideal) c arg2 harg2 arg3 harg3 arg4 harg4 arg5 harg5 arg6 harg6 arg7 harg7 arg11 harg11 arg12 arg13 x0 x1 x2 x3 x4 x5 xs0) (kernelRun0_B.sl.v6400 (F := Ideal) c arg2 harg2 arg3 harg3 arg5 harg5 arg6 harg6 arg7 harg7 arg12 arg13 x0 x1 x3 x4 x5)
      (View.readAt (Elt Ideal) arg4.view (Rect.unit (s := S2048x1024) ![1280, 512] S256x512.size inb_S2048x1024_S256x512_1280_512).toLoadRect (harg4.unread x2)) x
    = accB x0 x1 x2 x3 x4 x5 xs0 6 ((halfR 512 le1).emb x) :=
  out_tile 5 512 (by decide) le1 _ inb_S2048x512_S256x512_1280_0 (fun x => read_half (v := arg11.view) 512 0 le1 le0 (Or.inl (by decide)) (acc_4_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_5_1 x

/-- Half 0 of the accumulator after run 6. -/
theorem acc_6_0 (x : S512x512.Idx) : k0_pay103 (F := Ideal) (kernelRun0_B.sl.v6992 (F := Ideal) c arg2 harg2 arg3 harg3 arg4 harg4 arg5 harg5 arg6 harg6 arg7 harg7 arg11 harg11 arg12 arg13 x0 x1 x2 x3 x4 x5 xs0) (kernelRun0_B.sl.v6993 (F := Ideal) c arg2 harg2 arg3 harg3 arg5 harg5 arg6 harg6 arg7 harg7 arg12 arg13 x0 x1 x3 x4 x5)
      (View.readAt (Elt Ideal) arg4.view (Rect.unit (s := S2048x1024) ![1536, 0] S256x512.size inb_S2048x1024_S256x512_1536_0).toLoadRect (harg4.unread x2)) x
    = accB x0 x1 x2 x3 x4 x5 xs0 7 ((halfR 0 le0).emb x) :=
  out_tile 6 0 (by decide) le0 _ inb_S2048x512_S256x512_1536_0 (fun x => read_half (v := arg11.view) 0 512 le0 le1 (Or.inr (by decide)) (acc_5_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_6_0 x

/-- Half 1 of the accumulator after run 6. -/
theorem acc_6_1 (x : S512x512.Idx) : k0_pay103 (F := Ideal) (kernelRun0_B.sl.v7117 (F := Ideal) c arg2 harg2 arg3 harg3 arg4 harg4 arg5 harg5 arg6 harg6 arg7 harg7 arg11 harg11 arg12 arg13 x0 x1 x2 x3 x4 x5 xs0) (kernelRun0_B.sl.v7118 (F := Ideal) c arg2 harg2 arg3 harg3 arg5 harg5 arg6 harg6 arg7 harg7 arg12 arg13 x0 x1 x3 x4 x5)
      (View.readAt (Elt Ideal) arg4.view (Rect.unit (s := S2048x1024) ![1536, 512] S256x512.size inb_S2048x1024_S256x512_1536_512).toLoadRect (harg4.unread x2)) x
    = accB x0 x1 x2 x3 x4 x5 xs0 7 ((halfR 512 le1).emb x) :=
  out_tile 6 512 (by decide) le1 _ inb_S2048x512_S256x512_1536_0 (fun x => read_half (v := arg11.view) 512 0 le1 le0 (Or.inl (by decide)) (acc_5_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_6_1 x

/-- Half 0 of the accumulator after run 7. -/
theorem acc_7_0 (x : S512x512.Idx) : k0_pay103 (F := Ideal) (kernelRun0_B.sl.v7827 (F := Ideal) c arg2 harg2 arg3 harg3 arg4 harg4 arg5 harg5 arg6 harg6 arg7 harg7 arg11 harg11 arg12 arg13 x0 x1 x2 x3 x4 x5 xs0) (kernelRun0_B.sl.v7828 (F := Ideal) c arg2 harg2 arg3 harg3 arg5 harg5 arg6 harg6 arg7 harg7 arg12 arg13 x0 x1 x3 x4 x5)
      (View.readAt (Elt Ideal) arg4.view (Rect.unit (s := S2048x1024) ![1792, 0] S256x512.size inb_S2048x1024_S256x512_1792_0).toLoadRect (harg4.unread x2)) x
    = accB x0 x1 x2 x3 x4 x5 xs0 8 ((halfR 0 le0).emb x) :=
  out_tile 7 0 (by decide) le0 _ inb_S2048x512_S256x512_1792_0 (fun x => read_half (v := arg11.view) 0 512 le0 le1 (Or.inr (by decide)) (acc_6_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_7_0 x

/-- Half 1 of the accumulator after run 7. -/
theorem acc_7_1 (x : S512x512.Idx) : k0_pay103 (F := Ideal) (kernelRun0_B.sl.v7835 (F := Ideal) c arg2 harg2 arg3 harg3 arg4 harg4 arg5 harg5 arg6 harg6 arg7 harg7 arg11 harg11 arg12 arg13 x0 x1 x2 x3 x4 x5 xs0) (kernelRun0_B.sl.v7828 (F := Ideal) c arg2 harg2 arg3 harg3 arg5 harg5 arg6 harg6 arg7 harg7 arg12 arg13 x0 x1 x3 x4 x5)
      (View.readAt (Elt Ideal) arg4.view (Rect.unit (s := S2048x1024) ![1792, 512] S256x512.size inb_S2048x1024_S256x512_1792_512).toLoadRect (harg4.unread x2)) x
    = accB x0 x1 x2 x3 x4 x5 xs0 8 ((halfR 512 le1).emb x) :=
  out_tile 7 512 (by decide) le1 _ inb_S2048x512_S256x512_1792_0 (fun x => read_half (v := arg11.view) 512 0 le1 le0 (Or.inl (by decide)) (acc_6_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) x) wr_7_0 x

/-- The accumulator after all the runs of a grid point. -/
theorem acc_all (y : S512x1024.Idx) :
    View.canon (Val := Elt Ideal) (⟨halfR 512 le1, k0_pay547 (kernelRun0_B.sl.r_448 (F := Ideal) c arg2 harg2 arg3 harg3 arg4 harg4 arg5 harg5 arg6 harg6 arg7 harg7 arg11 harg11 arg12 arg13 x0 x1 x2 x3 x4 x5 xs0)⟩ :: kernelRun0_B.sl.HS0_15 (F := Ideal) c arg2 harg2 arg3 harg3 arg4 harg4 arg5 harg5 arg6 harg6 arg7 harg7 arg11 harg11 arg12 arg13 x0 x1 x2 x3 x4 x5 xs0) y
    = accB x0 x1 x2 x3 x4 x5 xs0 8 y :=
  canon_halves (acc_7_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) (acc_7_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13)) y

end Cert.Proof.Ex.B

end
-- ==== Proof.Ex.PiecesA.lean ====
/-
  The first grid point of a run stores the same tiles as one in the middle, over an accumulator of zeros.
-/
module

public import proofs.«01_k».proof.Proof.Ex.PiecesB

@[expose] public section

set_option maxRecDepth 16384

noncomputable section

namespace Cert.Proof.Ex.A

open Idealize.ShloMosaic Idealize.ShloMosaic.TcCoe
open Cert.Kernel4Ideal Cert.Kernel4Ideal.Gen
open scoped BigOperators

variable {c : Dev nD} {arg2 : Memref sig .tc .vmem S1024x512 .bf16} {harg2 : arg2.IsWhole} {arg3 : Memref sig .tc .vmem S2048x1024 .bf16} {harg3 : arg3.IsWhole}
  {arg4 : Memref sig .tc .vmem S2048x1024 .bf16} {harg4 : arg4.IsWhole} {arg5 : Memref sig .tc .vmem S8x16x512 .f32} {harg5 : arg5.IsWhole}
  {arg6 : Memref sig .tc .vmem S8x128x512 .f32} {harg6 : arg6.IsWhole} {arg7 : Memref sig .tc .vmem S8x1x512 .f32} {harg7 : arg7.IsWhole}
  {arg11 : Memref sig .tc .vmem S512x1024 .f32} {harg11 : arg11.IsWhole} {arg12 : Memref sig .tc .vmem S2048x512 .f32}
  {arg13 : Memref sig .tc .vmem S2048x512 .bf16}
  {x0 : Vec Ideal S1024x512 .bf16} {x1 x2 : Vec Ideal S2048x1024 .bf16} {x3 : Vec Ideal S8x16x512 .f32}
  {x4 : Vec Ideal S8x128x512 .f32} {x5 : Vec Ideal S8x1x512 .f32} {xs0 : Vec Ideal S512x1024 .f32}

/-- The first 11 tiles of the gated activations. -/
theorem agree2_11 : Agree (kernelRun0_A.sl.HS2_11 (F := Ideal) c arg2 harg2 arg3 harg3 arg5 harg5 arg6 harg6 arg7 harg7 arg12 x0 x1 x3 x4 x5) (actW x0 x1 x3 x4 x5) :=
  B.agree2_11 (arg2 := arg2) (harg2 := harg2) (arg3 := arg3) (harg3 := harg3) (arg5 := arg5) (harg5 := harg5) (arg6 := arg6) (harg6 := harg6) (arg7 := arg7) (harg7 := harg7) (arg12 := arg12) (c := c)

/-- The first 12 tiles of the gated activations. -/
theorem agree2_12 : Agree (kernelRun0_A.sl.HS2_12 (F := Ideal) c arg2 harg2 arg3 harg3 arg5 harg5 arg6 harg6 arg7 harg7 arg12 x0 x1 x3 x4 x5) (actW x0 x1 x3 x4 x5) :=
  B.agree2_12 (arg2 := arg2) (harg2 := harg2) (arg3 := arg3) (harg3 := harg3) (arg5 := arg5) (harg5 := harg5) (arg6 := arg6) (harg6 := harg6) (arg7 := arg7) (harg7 := harg7) (arg12 := arg12) (c := c)

/-- The first 19 tiles of the gated activations. -/
theorem agree2_19 : Agree (kernelRun0_A.sl.HS2_19 (F := Ideal) c arg2 harg2 arg3 harg3 arg5 harg5 arg6 harg6 arg7 harg7 arg12 x0 x1 x3 x4 x5) (actW x0 x1 x3 x4 x5) :=
  B.agree2_19 (arg2 := arg2) (harg2 := harg2) (arg3 := arg3) (harg3 := harg3) (arg5 := arg5) (harg5 := harg5) (arg6 := arg6) (harg6 := harg6) (arg7 := arg7) (harg7 := harg7) (arg12 := arg12) (c := c)

/-- The first 20 tiles of the gated activations. -/
theorem agree2_20 : Agree (kernelRun0_A.sl.HS2_20 (F := Ideal) c arg2 harg2 arg3 harg3 arg5 harg5 arg6 harg6 arg7 harg7 arg12 x0 x1 x3 x4 x5) (actW x0 x1 x3 x4 x5) :=
  B.agree2_20 (arg2 := arg2) (harg2 := harg2) (arg3 := arg3) (harg3 := harg3) (arg5 := arg5) (harg5 := harg5) (arg6 := arg6) (harg6 := harg6) (arg7 := arg7) (harg7 := harg7) (arg12 := arg12) (c := c)

/-- The first 27 tiles of the gated activations. -/
theorem agree2_27 : Agree (kernelRun0_A.sl.HS2_27 (F := Ideal) c arg2 harg2 arg3 harg3 arg5 harg5 arg6 harg6 arg7 harg7 arg12 x0 x1 x3 x4 x5) (actW x0 x1 x3 x4 x5) :=
  B.agree2_27 (arg2 := arg2) (harg2 := harg2) (arg3 := arg3) (harg3 := harg3) (arg5 := arg5) (harg5 := harg5) (arg6 := arg6) (harg6 := harg6) (arg7 := arg7) (harg7 := harg7) (arg12 := arg12) (c := c)

/-- The first 28 tiles of the gated activations. -/
theorem agree2_28 : Agree (kernelRun0_A.sl.HS2_28 (F := Ideal) c arg2 harg2 arg3 harg3 arg5 harg5 arg6 harg6 arg7 harg7 arg12 x0 x1 x3 x4 x5) (actW x0 x1 x3 x4 x5) :=
  B.agree2_28 (arg2 := arg2) (harg2 := harg2) (arg3 := arg3) (harg3 := harg3) (arg5 := arg5) (harg5 := harg5) (arg6 := arg6) (harg6 := harg6) (arg7 := arg7) (harg7 := harg7) (arg12 := arg12) (c := c)

/-- The first 35 tiles of the gated activations. -/
theorem agree2_35 : Agree (kernelRun0_A.sl.HS2_35 (F := Ideal) c arg2 harg2 arg3 harg3 arg5 harg5 arg6 harg6 arg7 harg7 arg12 x0 x1 x3 x4 x5) (actW x0 x1 x3 x4 x5) :=
  B.agree2_35 (arg2 := arg2) (harg2 := harg2) (arg3 := arg3) (harg3 := harg3) (arg5 := arg5) (harg5 := harg5) (arg6 := arg6) (harg6 := harg6) (arg7 := arg7) (harg7 := harg7) (arg12 := arg12) (c := c)

/-- The first 36 tiles of the gated activations. -/
theorem agree2_36 : Agree (kernelRun0_A.sl.HS2_36 (F := Ideal) c arg2 harg2 arg3 harg3 arg5 harg5 arg6 harg6 arg7 harg7 arg12 x0 x1 x3 x4 x5) (actW x0 x1 x3 x4 x5) :=
  B.agree2_36 (arg2 := arg2) (harg2 := harg2) (arg3 := arg3) (harg3 := harg3) (arg5 := arg5) (harg5 := harg5) (arg6 := arg6) (harg6 := harg6) (arg7 := arg7) (harg7 := harg7) (arg12 := arg12) (c := c)

/-- The first 43 tiles of the gated activations. -/
theorem agree2_43 : Agree (kernelRun0_A.sl.HS2_43 (F := Ideal) c arg2 harg2 arg3 harg3 arg5 harg5 arg6 harg6 arg7 harg7 arg12 x0 x1 x3 x4 x5) (actW x0 x1 x3 x4 x5) :=
  B.agree2_43 (arg2 := arg2) (harg2 := harg2) (arg3 := arg3) (harg3 := harg3) (arg5 := arg5) (harg5 := harg5) (arg6 := arg6) (harg6 := harg6) (arg7 := arg7) (harg7 := harg7) (arg12 := arg12) (c := c)

/-- The first 44 tiles of the gated activations. -/
theorem agree2_44 : Agree (kernelRun0_A.sl.HS2_44 (F := Ideal) c arg2 harg2 arg3 harg3 arg5 harg5 arg6 harg6 arg7 harg7 arg12 x0 x1 x3 x4 x5) (actW x0 x1 x3 x4 x5) :=
  B.agree2_44 (arg2 := arg2) (harg2 := harg2) (arg3 := arg3) (harg3 := harg3) (arg5 := arg5) (harg5 := harg5) (arg6 := arg6) (harg6 := harg6) (arg7 := arg7) (harg7 := harg7) (arg12 := arg12) (c := c)

/-- The first 51 tiles of the gated activations. -/
theorem agree2_51 : Agree (kernelRun0_A.sl.HS2_51 (F := Ideal) c arg2 harg2 arg3 harg3 arg5 harg5 arg6 harg6 arg7 harg7 arg12 x0 x1 x3 x4 x5) (actW x0 x1 x3 x4 x5) :=
  B.agree2_51 (arg2 := arg2) (harg2 := harg2) (arg3 := arg3) (harg3 := harg3) (arg5 := arg5) (harg5 := harg5) (arg6 := arg6) (harg6 := harg6) (arg7 := arg7) (harg7 := harg7) (arg12 := arg12) (c := c)

/-- The first 52 tiles of the gated activations. -/
theorem agree2_52 : Agree (kernelRun0_A.sl.HS2_52 (F := Ideal) c arg2 harg2 arg3 harg3 arg5 harg5 arg6 harg6 arg7 harg7 arg12 x0 x1 x3 x4 x5) (actW x0 x1 x3 x4 x5) :=
  B.agree2_52 (arg2 := arg2) (harg2 := harg2) (arg3 := arg3) (harg3 := harg3) (arg5 := arg5) (harg5 := harg5) (arg6 := arg6) (harg6 := harg6) (arg7 := arg7) (harg7 := harg7) (arg12 := arg12) (c := c)

/-- The first 57 tiles of the gated activations. -/
theorem agree2_57 : Agree (kernelRun0_A.sl.HS2_57 (F := Ideal) c arg2 harg2 arg3 harg3 arg5 harg5 arg6 harg6 arg7 harg7 arg12 x0 x1 x3 x4 x5) (actW x0 x1 x3 x4 x5) :=
  B.agree2_57 (arg2 := arg2) (harg2 := harg2) (arg3 := arg3) (harg3 := harg3) (arg5 := arg5) (harg5 := harg5) (arg6 := arg6) (harg6 := harg6) (arg7 := arg7) (harg7 := harg7) (arg12 := arg12) (c := c)

/-- The first 58 tiles of the gated activations. -/
theorem agree2_58 : Agree (kernelRun0_A.sl.HS2_58 (F := Ideal) c arg2 harg2 arg3 harg3 arg5 harg5 arg6 harg6 arg7 harg7 arg12 x0 x1 x3 x4 x5) (actW x0 x1 x3 x4 x5) :=
  B.agree2_58 (arg2 := arg2) (harg2 := harg2) (arg3 := arg3) (harg3 := harg3) (arg5 := arg5) (harg5 := harg5) (arg6 := arg6) (harg6 := harg6) (arg7 := arg7) (harg7 := harg7) (arg12 := arg12) (c := c)

/-- The first 64 tiles of the gated activations. -/
theorem agree2_64 : Agree (kernelRun0_A.sl.HS2_64 (F := Ideal) c arg2 harg2 arg3 harg3 arg5 harg5 arg6 harg6 arg7 harg7 arg12 x0 x1 x3 x4 x5) (actW x0 x1 x3 x4 x5) :=
  B.agree2_64 (arg2 := arg2) (harg2 := harg2) (arg3 := arg3) (harg3 := harg3) (arg5 := arg5) (harg5 := harg5) (arg6 := arg6) (harg6 := harg6) (arg7 := arg7) (harg7 := harg7) (arg12 := arg12) (c := c)

/-- The gated activations of run 0, read for half 0. -/
theorem wr_0_0 (x : S256x512.Idx) : kernelRun0_A.sl.v1375 (F := Ideal) c arg2 harg2 arg3 harg3 arg5 harg5 arg6 harg6 arg7 harg7 arg12 arg13 x0 x1 x3 x4 x5 x
    = actW x0 x1 x3 x4 x5 ((Rect.unit (s := S2048x512) ![0, 0] S256x512.size inb_S2048x512_S256x512_0_0).emb x) :=
  (agree2_11 (arg2 := arg2) (arg3 := arg3) (arg12 := arg12)).read (v := arg13.view) (Rect.unit (s := S2048x512) ![0, 0] S256x512.size inb_S2048x512_S256x512_0_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 0, read for half 1. -/
theorem wr_0_1 (x : S256x512.Idx) : kernelRun0_A.sl.v1500 (F := Ideal) c arg2 harg2 arg3 harg3 arg5 harg5 arg6 harg6 arg7 harg7 arg12 arg13 x0 x1 x3 x4 x5 x
    = actW x0 x1 x3 x4 x5 ((Rect.unit (s := S2048x512) ![0, 0] S256x512.size inb_S2048x512_S256x512_0_0).emb x) :=
  (agree2_12 (arg2 := arg2) (arg3 := arg3) (arg12 := arg12)).read (v := arg13.view) (Rect.unit (s := S2048x512) ![0, 0] S256x512.size inb_S2048x512_S256x512_0_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 1, read for half 0. -/
theorem wr_1_0 (x : S256x512.Idx) : kernelRun0_A.sl.v2355 (F := Ideal) c arg2 harg2 arg3 harg3 arg5 harg5 arg6 harg6 arg7 harg7 arg12 arg13 x0 x1 x3 x4 x5 x
    = actW x0 x1 x3 x4 x5 ((Rect.unit (s := S2048x512) ![256, 0] S256x512.size inb_S2048x512_S256x512_256_0).emb x) :=
  (agree2_19 (arg2 := arg2) (arg3 := arg3) (arg12 := arg12)).read (v := arg13.view) (Rect.unit (s := S2048x512) ![256, 0] S256x512.size inb_S2048x512_S256x512_256_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 1, read for half 1. -/
theorem wr_1_1 (x : S256x512.Idx) : kernelRun0_A.sl.v2480 (F := Ideal) c arg2 harg2 arg3 harg3 arg5 harg5 arg6 harg6 arg7 harg7 arg12 arg13 x0 x1 x3 x4 x5 x
    = actW x0 x1 x3 x4 x5 ((Rect.unit (s := S2048x512) ![256, 0] S256x512.size inb_S2048x512_S256x512_256_0).emb x) :=
  (agree2_20 (arg2 := arg2) (arg3 := arg3) (arg12 := arg12)).read (v := arg13.view) (Rect.unit (s := S2048x512) ![256, 0] S256x512.size inb_S2048x512_S256x512_256_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 2, read for half 0. -/
theorem wr_2_0 (x : S256x512.Idx) : kernelRun0_A.sl.v3335 (F := Ideal) c arg2 harg2 arg3 harg3 arg5 harg5 arg6 harg6 arg7 harg7 arg12 arg13 x0 x1 x3 x4 x5 x
    = actW x0 x1 x3 x4 x5 ((Rect.unit (s := S2048x512) ![512, 0] S256x512.size inb_S2048x512_S256x512_512_0).emb x) :=
  (agree2_27 (arg2 := arg2) (arg3 := arg3) (arg12 := arg12)).read (v := arg13.view) (Rect.unit (s := S2048x512) ![512, 0] S256x512.size inb_S2048x512_S256x512_512_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 2, read for half 1. -/
theorem wr_2_1 (x : S256x512.Idx) : kernelRun0_A.sl.v3460 (F := Ideal) c arg2 harg2 arg3 harg3 arg5 harg5 arg6 harg6 arg7 harg7 arg12 arg13 x0 x1 x3 x4 x5 x
    = actW x0 x1 x3 x4 x5 ((Rect.unit (s := S2048x512) ![512, 0] S256x512.size inb_S2048x512_S256x512_512_0).emb x) :=
  (agree2_28 (arg2 := arg2) (arg3 := arg3) (arg12 := arg12)).read (v := arg13.view) (Rect.unit (s := S2048x512) ![512, 0] S256x512.size inb_S2048x512_S256x512_512_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 3, read for half 0. -/
theorem wr_3_0 (x : S256x512.Idx) : kernelRun0_A.sl.v4315 (F := Ideal) c arg2 harg2 arg3 harg3 arg5 harg5 arg6 harg6 arg7 harg7 arg12 arg13 x0 x1 x3 x4 x5 x
    = actW x0 x1 x3 x4 x5 ((Rect.unit (s := S2048x512) ![768, 0] S256x512.size inb_S2048x512_S256x512_768_0).emb x) :=
  (agree2_35 (arg2 := arg2) (arg3 := arg3) (arg12 := arg12)).read (v := arg13.view) (Rect.unit (s := S2048x512) ![768, 0] S256x512.size inb_S2048x512_S256x512_768_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 3, read for half 1. -/
theorem wr_3_1 (x : S256x512.Idx) : kernelRun0_A.sl.v4440 (F := Ideal) c arg2 harg2 arg3 harg3 arg5 harg5 arg6 harg6 arg7 harg7 arg12 arg13 x0 x1 x3 x4 x5 x
    = actW x0 x1 x3 x4 x5 ((Rect.unit (s := S2048x512) ![768, 0] S256x512.size inb_S2048x512_S256x512_768_0).emb x) :=
  (agree2_36 (arg2 := arg2) (arg3 := arg3) (arg12 := arg12)).read (v := arg13.view) (Rect.unit (s := S2048x512) ![768, 0] S256x512.size inb_S2048x512_S256x512_768_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 4, read for half 0. -/
theorem wr_4_0 (x : S256x512.Idx) : kernelRun0_A.sl.v5295 (F := Ideal) c arg2 harg2 arg3 harg3 arg5 harg5 arg6 harg6 arg7 harg7 arg12 arg13 x0 x1 x3 x4 x5 x
    = actW x0 x1 x3 x4 x5 ((Rect.unit (s := S2048x512) ![1024, 0] S256x512.size inb_S2048x512_S256x512_1024_0).emb x) :=
  (agree2_43 (arg2 := arg2) (arg3 := arg3) (arg12 := arg12)).read (v := arg13.view) (Rect.unit (s := S2048x512) ![1024, 0] S256x512.size inb_S2048x512_S256x512_1024_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 4, read for half 1. -/
theorem wr_4_1 (x : S256x512.Idx) : kernelRun0_A.sl.v5420 (F := Ideal) c arg2 harg2 arg3 harg3 arg5 harg5 arg6 harg6 arg7 harg7 arg12 arg13 x0 x1 x3 x4 x5 x
    = actW x0 x1 x3 x4 x5 ((Rect.unit (s := S2048x512) ![1024, 0] S256x512.size inb_S2048x512_S256x512_1024_0).emb x) :=
  (agree2_44 (arg2 := arg2) (arg3 := arg3) (arg12 := arg12)).read (v := arg13.view) (Rect.unit (s := S2048x512) ![1024, 0] S256x512.size inb_S2048x512_S256x512_1024_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 5, read for half 0. -/
theorem wr_5_0 (x : S256x512.Idx) : kernelRun0_A.sl.v6275 (F := Ideal) c arg2 harg2 arg3 harg3 arg5 harg5 arg6 harg6 arg7 harg7 arg12 arg13 x0 x1 x3 x4 x5 x
    = actW x0 x1 x3 x4 x5 ((Rect.unit (s := S2048x512) ![1280, 0] S256x512.size inb_S2048x512_S256x512_1280_0).emb x) :=
  (agree2_51 (arg2 := arg2) (arg3 := arg3) (arg12 := arg12)).read (v := arg13.view) (Rect.unit (s := S2048x512) ![1280, 0] S256x512.size inb_S2048x512_S256x512_1280_0).toLoadRect (.split 0 128 (.split 1 128 (.leaf 10) (.split 1 128 (.leaf 9) (.split 1 128 (.leaf 8) (.leaf 7)))) (.split 1 128 (.leaf 6) (.split 1 128 (.leaf 5) (.split 1 128 (.leaf 4) (.leaf 3))))) (by sl_kernel_rfl) x

/-- The gated activations of run 5, read for half 1. -/
theorem wr_5_1 (x : S256x512.Idx) : kernelRun0_A.sl.v6400 (F := Ideal) c arg2 harg2 arg3 harg3 arg5 harg5 arg6 harg6 arg7 harg7 arg12 arg13 x0 x1 x3 x4 x5 x
    = actW x0 x1 x3 x4 x5 ((Rect.unit (s := S2048x512) ![1280, 0] S256x512.size inb_S2048x512_S256x512_1280_0).emb x) :=
  (agree2_52 (arg2 := arg2) (arg3 := arg3) (arg12 := arg12)).read (v := arg13.view) (Rect.unit (s := S2048x512) ![1280, 0] S256x512.size inb_S2048x512_S256x512_1280_0).toLoadRect (.split 0 128 (.split 1 128 (.leaf 11) (.split 1 128 (.leaf 10) (.split 1 128 (.leaf 9) (.leaf 8)))) (.split 1 128 (.leaf 7) (.split 1 128 (.leaf 6) (.split 1 128 (.leaf 5) (.leaf 4))))) (by sl_kernel_rfl) x

/-- The gated activations of run 6, read for half 0. -/
theorem wr_6_0 (x : S256x512.Idx) : kernelRun0_A.sl.v6993 (F := Ideal) c arg2 harg2 arg3 harg3 arg5 harg5 arg6 harg6 arg7 harg7 arg12 arg13 x0 x1 x3 x4 x5 x
    = actW x0 x1 x3 x4 x5 ((Rect.unit (s := S2048x512) ![1536, 0] S256x512.size inb_S2048x512_S256x512_1536_0).emb x) :=
  (agree2_57 (arg2 := arg2) (arg3 := arg3) (arg12 := arg12)).read (v := arg13.view) (Rect.unit (s := S2048x512) ![1536, 0] S256x512.size inb_S2048x512_S256x512_1536_0).toLoadRect (.split 0 128 (.split 1 128 (.leaf 8) (.split 1 128 (.leaf 7) (.split 1 128 (.leaf 6) (.leaf 5)))) (.split 1 128 (.leaf 4) (.split 1 128 (.leaf 3) (.split 1 128 (.leaf 2) (.leaf 1))))) (by sl_kernel_rfl) x

/-- The gated activations of run 6, read for half 1. -/
theorem wr_6_1 (x : S256x512.Idx) : kernelRun0_A.sl.v7118 (F := Ideal) c arg2 harg2 arg3 harg3 arg5 harg5 arg6 harg6 arg7 harg7 arg12 arg13 x0 x1 x3 x4 x5 x
    = actW x0 x1 x3 x4 x5 ((Rect.unit (s := S2048x512) ![1536, 0] S256x512.size inb_S2048x512_S256x512_1536_0).emb x) :=
  (agree2_58 (arg2 := arg2) (arg3 := arg3) (arg12 := arg12)).read (v := arg13.view) (Rect.unit (s := S2048x512) ![1536, 0] S256x512.size inb_S2048x512_S256x512_1536_0).toLoadRect (.split 0 128 (.split 1 128 (.leaf 9) (.split 1 128 (.leaf 8) (.split 1 128 (.leaf 7) (.leaf 6)))) (.split 1 128 (.leaf 5) (.split 1 128 (.leaf 4) (.split 1 128 (.leaf 3) (.leaf 2))))) (by sl_kernel_rfl) x

/-- The gated activations of run 7, read for half 0. -/
theorem wr_7_0 (x : S256x512.Idx) : kernelRun0_A.sl.v7828 (F := Ideal) c arg2 harg2 arg3 harg3 arg5 harg5 arg6 harg6 arg7 harg7 arg12 arg13 x0 x1 x3 x4 x5 x
    = actW x0 x1 x3 x4 x5 ((Rect.unit (s := S2048x512) ![1792, 0] S256x512.size inb_S2048x512_S256x512_1792_0).emb x) :=
  (agree2_64 (arg2 := arg2) (arg3 := arg3) (arg12 := arg12)).read (v := arg13.view) (Rect.unit (s := S2048x512) ![1792, 0] S256x512.size inb_S2048x512_S256x512_1792_0).toLoadRect (.split 0 128 (.split 1 128 (.leaf 7) (.split 1 128 (.leaf 6) (.split 1 128 (.leaf 5) (.leaf 4)))) (.split 1 128 (.leaf 3) (.split 1 128 (.leaf 2) (.split 1 128 (.leaf 1) (.leaf 0))))) (by sl_kernel_rfl) x

/-- Half 0 of the accumulator after run 0. -/
theorem acc_0_0 (x : S512x512.Idx) : k0_pay103 (F := Ideal) (kernelRun0_A.sl.v1374 (F := Ideal) c arg11) (kernelRun0_A.sl.v1375 (F := Ideal) c arg2 harg2 arg3 harg3 arg5 harg5 arg6 harg6 arg7 harg7 arg12 arg13 x0 x1 x3 x4 x5)
      (View.readAt (Elt Ideal) arg4.view (Rect.unit (s := S2048x1024) ![0, 0] S256x512.size inb_S2048x1024_S256x512_0_0).toLoadRect (harg4.unread x2)) x
    = accB x0 x1 x2 x3 x4 x5 (fun _ => (0 : EReal)) 1 ((halfR 0 le0).emb x) :=
  out_tile 0 0 (by decide) le0 _ inb_S2048x512_S256x512_0_0 (fun x => zeros.read (v := arg11.view) (halfR 0 le0).toLoadRect (.leaf 0) (by sl_kernel_rfl) x) wr_0_0 x

/-- Half 1 of the accumulator after run 0. -/
theorem acc_0_1 (x : S512x512.Idx) : k0_pay103 (F := Ideal) (kernelRun0_A.sl.v1499 (F := Ideal) c arg2 harg2 arg3 harg3 arg4 harg4 arg5 harg5 arg6 harg6 arg7 harg7 arg11 arg12 arg13 x0 x1 x2 x3 x4 x5) (kernelRun0_A.sl.v1500 (F := Ideal) c arg2 harg2 arg3 harg3 arg5 harg5 arg6 harg6 arg7 harg7 arg12 arg13 x0 x1 x3 x4 x5)
      (View.readAt (Elt Ideal) arg4.view (Rect.unit (s := S2048x1024) ![0, 512] S256x512.size inb_S2048x1024_S256x512_0_512).toLoadRect (harg4.unread x2)) x
    = accB x0 x1 x2 x3 x4 x5 (fun _ => (0 : EReal)) 1 ((halfR 512 le1).emb x) :=
  out_tile 0 512 (by decide) le1 _ inb_S2048x512_S256x512_0_0 (fun x => read_skip (v := arg11.view) 512 0 le1 le0 (Or.inl (by decide)) zeros (.leaf 0) (by sl_kernel_rfl) x) wr_0_1 x

/-- Half 0 of the accumulator after run 1. -/
theorem acc_1_0 (x : S512x512.Idx) : k0_pay103 (F := Ideal) (kernelRun0_A.sl.v2354 (F := Ideal) c arg2 harg2 arg3 harg3 arg4 harg4 arg5 harg5 arg6 harg6 arg7 harg7 arg11 arg12 arg13 x0 x1 x2 x3 x4 x5) (kernelRun0_A.sl.v2355 (F := Ideal) c arg2 harg2 arg3 harg3 arg5 harg5 arg6 harg6 arg7 harg7 arg12 arg13 x0 x1 x3 x4 x5)
      (View.readAt (Elt Ideal) arg4.view (Rect.unit (s := S2048x1024) ![256, 0] S256x512.size inb_S2048x1024_S256x512_256_0).toLoadRect (harg4.unread x2)) x
    = accB x0 x1 x2 x3 x4 x5 (fun _ => (0 : EReal)) 2 ((halfR 0 le0).emb x) :=
  out_tile 1 0 (by decide) le0 _ inb_S2048x512_S256x512_256_0 (fun x => read_half (v := arg11.view) 0 512 le0 le1 (Or.inr (by decide)) (acc_0_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_1_0 x

/-- Half 1 of the accumulator after run 1. -/
theorem acc_1_1 (x : S512x512.Idx) : k0_pay103 (F := Ideal) (kernelRun0_A.sl.v2479 (F := Ideal) c arg2 harg2 arg3 harg3 arg4 harg4 arg5 harg5 arg6 harg6 arg7 harg7 arg11 arg12 arg13 x0 x1 x2 x3 x4 x5) (kernelRun0_A.sl.v2480 (F := Ideal) c arg2 harg2 arg3 harg3 arg5 harg5 arg6 harg6 arg7 harg7 arg12 arg13 x0 x1 x3 x4 x5)
      (View.readAt (Elt Ideal) arg4.view (Rect.unit (s := S2048x1024) ![256, 512] S256x512.size inb_S2048x1024_S256x512_256_512).toLoadRect (harg4.unread x2)) x
    = accB x0 x1 x2 x3 x4 x5 (fun _ => (0 : EReal)) 2 ((halfR 512 le1).emb x) :=
  out_tile 1 512 (by decide) le1 _ inb_S2048x512_S256x512_256_0 (fun x => read_half (v := arg11.view) 512 0 le1 le0 (Or.inl (by decide)) (acc_0_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_1_1 x

/-- Half 0 of the accumulator after run 2. -/
theorem acc_2_0 (x : S512x512.Idx) : k0_pay103 (F := Ideal) (kernelRun0_A.sl.v3334 (F := Ideal) c arg2 harg2 arg3 harg3 arg4 harg4 arg5 harg5 arg6 harg6 arg7 harg7 arg11 arg12 arg13 x0 x1 x2 x3 x4 x5) (kernelRun0_A.sl.v3335 (F := Ideal) c arg2 harg2 arg3 harg3 arg5 harg5 arg6 harg6 arg7 harg7 arg12 arg13 x0 x1 x3 x4 x5)
      (View.readAt (Elt Ideal) arg4.view (Rect.unit (s := S2048x1024) ![512, 0] S256x512.size inb_S2048x1024_S256x512_512_0).toLoadRect (harg4.unread x2)) x
    = accB x0 x1 x2 x3 x4 x5 (fun _ => (0 : EReal)) 3 ((halfR 0 le0).emb x) :=
  out_tile 2 0 (by decide) le0 _ inb_S2048x512_S256x512_512_0 (fun x => read_half (v := arg11.view) 0 512 le0 le1 (Or.inr (by decide)) (acc_1_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_2_0 x

/-- Half 1 of the accumulator after run 2. -/
theorem acc_2_1 (x : S512x512.Idx) : k0_pay103 (F := Ideal) (kernelRun0_A.sl.v3459 (F := Ideal) c arg2 harg2 arg3 harg3 arg4 harg4 arg5 harg5 arg6 harg6 arg7 harg7 arg11 arg12 arg13 x0 x1 x2 x3 x4 x5) (kernelRun0_A.sl.v3460 (F := Ideal) c arg2 harg2 arg3 harg3 arg5 harg5 arg6 harg6 arg7 harg7 arg12 arg13 x0 x1 x3 x4 x5)
      (View.readAt (Elt Ideal) arg4.view (Rect.unit (s := S2048x1024) ![512, 512] S256x512.size inb_S2048x1024_S256x512_512_512).toLoadRect (harg4.unread x2)) x
    = accB x0 x1 x2 x3 x4 x5 (fun _ => (0 : EReal)) 3 ((halfR 512 le1).emb x) :=
  out_tile 2 512 (by decide) le1 _ inb_S2048x512_S256x512_512_0 (fun x => read_half (v := arg11.view) 512 0 le1 le0 (Or.inl (by decide)) (acc_1_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_2_1 x

/-- Half 0 of the accumulator after run 3. -/
theorem acc_3_0 (x : S512x512.Idx) : k0_pay103 (F := Ideal) (kernelRun0_A.sl.v4314 (F := Ideal) c arg2 harg2 arg3 harg3 arg4 harg4 arg5 harg5 arg6 harg6 arg7 harg7 arg11 arg12 arg13 x0 x1 x2 x3 x4 x5) (kernelRun0_A.sl.v4315 (F := Ideal) c arg2 harg2 arg3 harg3 arg5 harg5 arg6 harg6 arg7 harg7 arg12 arg13 x0 x1 x3 x4 x5)
      (View.readAt (Elt Ideal) arg4.view (Rect.unit (s := S2048x1024) ![768, 0] S256x512.size inb_S2048x1024_S256x512_768_0).toLoadRect (harg4.unread x2)) x
    = accB x0 x1 x2 x3 x4 x5 (fun _ => (0 : EReal)) 4 ((halfR 0 le0).emb x) :=
  out_tile 3 0 (by decide) le0 _ inb_S2048x512_S256x512_768_0 (fun x => read_half (v := arg11.view) 0 512 le0 le1 (Or.inr (by decide)) (acc_2_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_3_0 x

/-- Half 1 of the accumulator after run 3. -/
theorem acc_3_1 (x : S512x512.Idx) : k0_pay103 (F := Ideal) (kernelRun0_A.sl.v4439 (F := Ideal) c arg2 harg2 arg3 harg3 arg4 harg4 arg5 harg5 arg6 harg6 arg7 harg7 arg11 arg12 arg13 x0 x1 x2 x3 x4 x5) (kernelRun0_A.sl.v4440 (F := Ideal) c arg2 harg2 arg3 harg3 arg5 harg5 arg6 harg6 arg7 harg7 arg12 arg13 x0 x1 x3 x4 x5)
      (View.readAt (Elt Ideal) arg4.view (Rect.unit (s := S2048x1024) ![768, 512] S256x512.size inb_S2048x1024_S256x512_768_512).toLoadRect (harg4.unread x2)) x
    = accB x0 x1 x2 x3 x4 x5 (fun _ => (0 : EReal)) 4 ((halfR 512 le1).emb x) :=
  out_tile 3 512 (by decide) le1 _ inb_S2048x512_S256x512_768_0 (fun x => read_half (v := arg11.view) 512 0 le1 le0 (Or.inl (by decide)) (acc_2_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_3_1 x

/-- Half 0 of the accumulator after run 4. -/
theorem acc_4_0 (x : S512x512.Idx) : k0_pay103 (F := Ideal) (kernelRun0_A.sl.v5294 (F := Ideal) c arg2 harg2 arg3 harg3 arg4 harg4 arg5 harg5 arg6 harg6 arg7 harg7 arg11 arg12 arg13 x0 x1 x2 x3 x4 x5) (kernelRun0_A.sl.v5295 (F := Ideal) c arg2 harg2 arg3 harg3 arg5 harg5 arg6 harg6 arg7 harg7 arg12 arg13 x0 x1 x3 x4 x5)
      (View.readAt (Elt Ideal) arg4.view (Rect.unit (s := S2048x1024) ![1024, 0] S256x512.size inb_S2048x1024_S256x512_1024_0).toLoadRect (harg4.unread x2)) x
    = accB x0 x1 x2 x3 x4 x5 (fun _ => (0 : EReal)) 5 ((halfR 0 le0).emb x) :=
  out_tile 4 0 (by decide) le0 _ inb_S2048x512_S256x512_1024_0 (fun x => read_half (v := arg11.view) 0 512 le0 le1 (Or.inr (by decide)) (acc_3_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_4_0 x

/-- Half 1 of the accumulator after run 4. -/
theorem acc_4_1 (x : S512x512.Idx) : k0_pay103 (F := Ideal) (kernelRun0_A.sl.v5419 (F := Ideal) c arg2 harg2 arg3 harg3 arg4 harg4 arg5 harg5 arg6 harg6 arg7 harg7 arg11 arg12 arg13 x0 x1 x2 x3 x4 x5) (kernelRun0_A.sl.v5420 (F := Ideal) c arg2 harg2 arg3 harg3 arg5 harg5 arg6 harg6 arg7 harg7 arg12 arg13 x0 x1 x3 x4 x5)
      (View.readAt (Elt Ideal) arg4.view (Rect.unit (s := S2048x1024) ![1024, 512] S256x512.size inb_S2048x1024_S256x512_1024_512).toLoadRect (harg4.unread x2)) x
    = accB x0 x1 x2 x3 x4 x5 (fun _ => (0 : EReal)) 5 ((halfR 512 le1).emb x) :=
  out_tile 4 512 (by decide) le1 _ inb_S2048x512_S256x512_1024_0 (fun x => read_half (v := arg11.view) 512 0 le1 le0 (Or.inl (by decide)) (acc_3_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_4_1 x

/-- Half 0 of the accumulator after run 5. -/
theorem acc_5_0 (x : S512x512.Idx) : k0_pay103 (F := Ideal) (kernelRun0_A.sl.v6274 (F := Ideal) c arg2 harg2 arg3 harg3 arg4 harg4 arg5 harg5 arg6 harg6 arg7 harg7 arg11 arg12 arg13 x0 x1 x2 x3 x4 x5) (kernelRun0_A.sl.v6275 (F := Ideal) c arg2 harg2 arg3 harg3 arg5 harg5 arg6 harg6 arg7 harg7 arg12 arg13 x0 x1 x3 x4 x5)
      (View.readAt (Elt Ideal) arg4.view (Rect.unit (s := S2048x1024) ![1280, 0] S256x512.size inb_S2048x1024_S256x512_1280_0).toLoadRect (harg4.unread x2)) x
    = accB x0 x1 x2 x3 x4 x5 (fun _ => (0 : EReal)) 6 ((halfR 0 le0).emb x) :=
  out_tile 5 0 (by decide) le0 _ inb_S2048x512_S256x512_1280_0 (fun x => read_half (v := arg11.view) 0 512 le0 le1 (Or.inr (by decide)) (acc_4_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_5_0 x

/-- Half 1 of the accumulator after run 5. -/
theorem acc_5_1 (x : S512x512.Idx) : k0_pay103 (F := Ideal) (kernelRun0_A.sl.v6399 (F := Ideal) c arg2 harg2 arg3 harg3 arg4 harg4 arg5 harg5 arg6 harg6 arg7 harg7 arg11 arg12 arg13 x0 x1 x2 x3 x4 x5) (kernelRun0_A.sl.v6400 (F := Ideal) c arg2 harg2 arg3 harg3 arg5 harg5 arg6 harg6 arg7 harg7 arg12 arg13 x0 x1 x3 x4 x5)
      (View.readAt (Elt Ideal) arg4.view (Rect.unit (s := S2048x1024) ![1280, 512] S256x512.size inb_S2048x1024_S256x512_1280_512).toLoadRect (harg4.unread x2)) x
    = accB x0 x1 x2 x3 x4 x5 (fun _ => (0 : EReal)) 6 ((halfR 512 le1).emb x) :=
  out_tile 5 512 (by decide) le1 _ inb_S2048x512_S256x512_1280_0 (fun x => read_half (v := arg11.view) 512 0 le1 le0 (Or.inl (by decide)) (acc_4_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_5_1 x

/-- Half 0 of the accumulator after run 6. -/
theorem acc_6_0 (x : S512x512.Idx) : k0_pay103 (F := Ideal) (kernelRun0_A.sl.v6992 (F := Ideal) c arg2 harg2 arg3 harg3 arg4 harg4 arg5 harg5 arg6 harg6 arg7 harg7 arg11 arg12 arg13 x0 x1 x2 x3 x4 x5) (kernelRun0_A.sl.v6993 (F := Ideal) c arg2 harg2 arg3 harg3 arg5 harg5 arg6 harg6 arg7 harg7 arg12 arg13 x0 x1 x3 x4 x5)
      (View.readAt (Elt Ideal) arg4.view (Rect.unit (s := S2048x1024) ![1536, 0] S256x512.size inb_S2048x1024_S256x512_1536_0).toLoadRect (harg4.unread x2)) x
    = accB x0 x1 x2 x3 x4 x5 (fun _ => (0 : EReal)) 7 ((halfR 0 le0).emb x) :=
  out_tile 6 0 (by decide) le0 _ inb_S2048x512_S256x512_1536_0 (fun x => read_half (v := arg11.view) 0 512 le0 le1 (Or.inr (by decide)) (acc_5_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_6_0 x

/-- Half 1 of the accumulator after run 6. -/
theorem acc_6_1 (x : S512x512.Idx) : k0_pay103 (F := Ideal) (kernelRun0_A.sl.v7117 (F := Ideal) c arg2 harg2 arg3 harg3 arg4 harg4 arg5 harg5 arg6 harg6 arg7 harg7 arg11 arg12 arg13 x0 x1 x2 x3 x4 x5) (kernelRun0_A.sl.v7118 (F := Ideal) c arg2 harg2 arg3 harg3 arg5 harg5 arg6 harg6 arg7 harg7 arg12 arg13 x0 x1 x3 x4 x5)
      (View.readAt (Elt Ideal) arg4.view (Rect.unit (s := S2048x1024) ![1536, 512] S256x512.size inb_S2048x1024_S256x512_1536_512).toLoadRect (harg4.unread x2)) x
    = accB x0 x1 x2 x3 x4 x5 (fun _ => (0 : EReal)) 7 ((halfR 512 le1).emb x) :=
  out_tile 6 512 (by decide) le1 _ inb_S2048x512_S256x512_1536_0 (fun x => read_half (v := arg11.view) 512 0 le1 le0 (Or.inl (by decide)) (acc_5_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_6_1 x

/-- Half 0 of the accumulator after run 7. -/
theorem acc_7_0 (x : S512x512.Idx) : k0_pay103 (F := Ideal) (kernelRun0_A.sl.v7827 (F := Ideal) c arg2 harg2 arg3 harg3 arg4 harg4 arg5 harg5 arg6 harg6 arg7 harg7 arg11 arg12 arg13 x0 x1 x2 x3 x4 x5) (kernelRun0_A.sl.v7828 (F := Ideal) c arg2 harg2 arg3 harg3 arg5 harg5 arg6 harg6 arg7 harg7 arg12 arg13 x0 x1 x3 x4 x5)
      (View.readAt (Elt Ideal) arg4.view (Rect.unit (s := S2048x1024) ![1792, 0] S256x512.size inb_S2048x1024_S256x512_1792_0).toLoadRect (harg4.unread x2)) x
    = accB x0 x1 x2 x3 x4 x5 (fun _ => (0 : EReal)) 8 ((halfR 0 le0).emb x) :=
  out_tile 7 0 (by decide) le0 _ inb_S2048x512_S256x512_1792_0 (fun x => read_half (v := arg11.view) 0 512 le0 le1 (Or.inr (by decide)) (acc_6_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_7_0 x

/-- Half 1 of the accumulator after run 7. -/
theorem acc_7_1 (x : S512x512.Idx) : k0_pay103 (F := Ideal) (kernelRun0_A.sl.v7835 (F := Ideal) c arg2 harg2 arg3 harg3 arg4 harg4 arg5 harg5 arg6 harg6 arg7 harg7 arg11 arg12 arg13 x0 x1 x2 x3 x4 x5) (kernelRun0_A.sl.v7828 (F := Ideal) c arg2 harg2 arg3 harg3 arg5 harg5 arg6 harg6 arg7 harg7 arg12 arg13 x0 x1 x3 x4 x5)
      (View.readAt (Elt Ideal) arg4.view (Rect.unit (s := S2048x1024) ![1792, 512] S256x512.size inb_S2048x1024_S256x512_1792_512).toLoadRect (harg4.unread x2)) x
    = accB x0 x1 x2 x3 x4 x5 (fun _ => (0 : EReal)) 8 ((halfR 512 le1).emb x) :=
  out_tile 7 512 (by decide) le1 _ inb_S2048x512_S256x512_1792_0 (fun x => read_half (v := arg11.view) 512 0 le1 le0 (Or.inl (by decide)) (acc_6_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) x) wr_7_0 x

/-- The accumulator after all the runs of a grid point. -/
theorem acc_all (y : S512x1024.Idx) :
    View.canon (Val := Elt Ideal) (⟨halfR 512 le1, k0_pay547 (kernelRun0_A.sl.r_448 (F := Ideal) c arg2 harg2 arg3 harg3 arg4 harg4 arg5 harg5 arg6 harg6 arg7 harg7 arg11 arg12 arg13 x0 x1 x2 x3 x4 x5)⟩ :: kernelRun0_A.sl.HS0_16 (F := Ideal) c arg2 harg2 arg3 harg3 arg4 harg4 arg5 harg5 arg6 harg6 arg7 harg7 arg11 arg12 arg13 x0 x1 x2 x3 x4 x5) y
    = accB x0 x1 x2 x3 x4 x5 (fun _ => (0 : EReal)) 8 y :=
  canon_halves (acc_7_0 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) (acc_7_1 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13)) y

end Cert.Proof.Ex.A

end
-- ==== Proof.Ex.PiecesC.lean ====
/-
  The last grid point of a run stores the same pieces as one in the middle.
-/
module

public import proofs.«01_k».proof.Proof.Ex.PiecesB

@[expose] public section

set_option maxRecDepth 16384

noncomputable section

namespace Cert.Proof.Ex.C

open Idealize.ShloMosaic Idealize.ShloMosaic.TcCoe
open Cert.Kernel4Ideal Cert.Kernel4Ideal.Gen
open scoped BigOperators

variable {c : Dev nD} {arg2 : Memref sig .tc .vmem S1024x512 .bf16} {harg2 : arg2.IsWhole} {arg3 : Memref sig .tc .vmem S2048x1024 .bf16} {harg3 : arg3.IsWhole}
  {arg4 : Memref sig .tc .vmem S2048x1024 .bf16} {harg4 : arg4.IsWhole} {arg5 : Memref sig .tc .vmem S8x16x512 .f32} {harg5 : arg5.IsWhole}
  {arg6 : Memref sig .tc .vmem S8x128x512 .f32} {harg6 : arg6.IsWhole} {arg7 : Memref sig .tc .vmem S8x1x512 .f32} {harg7 : arg7.IsWhole}
  {arg11 : Memref sig .tc .vmem S512x1024 .f32} {harg11 : arg11.IsWhole} {arg12 : Memref sig .tc .vmem S2048x512 .f32}
  {arg13 : Memref sig .tc .vmem S2048x512 .bf16}
  {x0 : Vec Ideal S1024x512 .bf16} {x1 x2 : Vec Ideal S2048x1024 .bf16} {x3 : Vec Ideal S8x16x512 .f32}
  {x4 : Vec Ideal S8x128x512 .f32} {x5 : Vec Ideal S8x1x512 .f32} {xs0 : Vec Ideal S512x1024 .f32}

/-- The accumulator after all the runs of a grid point. -/
theorem acc_all (y : S512x1024.Idx) :
    View.canon (Val := Elt Ideal) (⟨halfR 512 le1, k0_pay547 (kernelRun0_C.sl.r_448 (F := Ideal) c arg2 harg2 arg3 harg3 arg4 harg4 arg5 harg5 arg6 harg6 arg7 harg7 arg11 harg11 arg12 arg13 x0 x1 x2 x3 x4 x5 xs0)⟩ :: kernelRun0_C.sl.HS0_15 (F := Ideal) c arg2 harg2 arg3 harg3 arg4 harg4 arg5 harg5 arg6 harg6 arg7 harg7 arg11 harg11 arg12 arg13 x0 x1 x2 x3 x4 x5 xs0) y
    = accB x0 x1 x2 x3 x4 x5 xs0 8 y :=
  B.acc_all (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13) (c := c) y

end Cert.Proof.Ex.C

end
-- ==== Proof.Ex.Point.lean ====
/-
  What one grid point of the experts' kernel leaves in the accumulator and, at the last one of a run, in the output's block.
-/
module

public import proofs.«01_k».proof.Proof.Ex.PiecesA
public import proofs.«01_k».proof.Proof.Ex.PiecesC

@[expose] public section

set_option maxRecDepth 16384

noncomputable section

namespace Cert.Proof.Ex

open Idealize.ShloMosaic Idealize.ShloMosaic.TcCoe
open Cert.Kernel4Ideal Cert.Kernel4Ideal.Gen
open scoped BigOperators

/-- The whole accumulator. -/
abbrev wholeR : Rect S512x1024 := Rect.unit (s := S512x1024) ![0, 0] S512x1024.size inb_S512x1024_S512x1024_0_0

/-- Its entries are the accumulator's. -/
theorem whole_idx (j : S512x1024.Idx) : wholeR.toLoadRect.idx j = j := by
  funext a
  refine Fin.ext ?_
  fin_cases a
  · show 0 + 1 * (j 0).val = (j 0).val
    omega
  · show 0 + 1 * (j 1).val = (j 1).val
    omega

/-- The accumulator after a first point of a run. -/
theorem sout_A (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S8x16x512 .f32) (harg5 : arg5.IsWhole) (arg6 : Memref sig .tc .vmem S8x128x512 .f32) (harg6 : arg6.IsWhole) (arg7 : Memref sig .tc .vmem S8x1x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x512 .bf16) (harg13 : arg13.IsWhole) (hc0 : cond0_0 i) (hc1 : ¬cond0_1 i)
    (x0 : Vec Ideal S1024x512 .bf16) (x1 : Vec Ideal S2048x1024 .bf16) (x2 : Vec Ideal S2048x1024 .bf16) (x3 : Vec Ideal S8x16x512 .f32) (x4 : Vec Ideal S8x128x512 .f32) (x5 : Vec Ideal S8x1x512 .f32) (x6 : Vec Ideal S512x1024 .f32) (x7 : Vec Ideal S1x1024 .f32) (y : S512x1024.Idx) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 y = accB x0 x1 x2 x3 x4 x5 (fun _ => (0 : EReal)) 8 y := by
  unfold sout0_A_0
  rw [View.read_writes_junk_eq_canon]
  exact A.acc_all (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (arg12 := arg12) (arg13 := arg13) y

/-- The accumulator after a middle point of a run. -/
theorem sout_B (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S8x16x512 .f32) (harg5 : arg5.IsWhole) (arg6 : Memref sig .tc .vmem S8x128x512 .f32) (harg6 : arg6.IsWhole) (arg7 : Memref sig .tc .vmem S8x1x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x512 .bf16) (harg13 : arg13.IsWhole) (hc0 : ¬cond0_0 i) (hc1 : ¬cond0_1 i)
    (x0 : Vec Ideal S1024x512 .bf16) (x1 : Vec Ideal S2048x1024 .bf16) (x2 : Vec Ideal S2048x1024 .bf16) (x3 : Vec Ideal S8x16x512 .f32) (x4 : Vec Ideal S8x128x512 .f32) (x5 : Vec Ideal S8x1x512 .f32) (x6 : Vec Ideal S512x1024 .f32) (x7 : Vec Ideal S1x1024 .f32) (xs0 : Vec Ideal S512x1024 .f32) (y : S512x1024.Idx) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = accB x0 x1 x2 x3 x4 x5 xs0 8 y := by
  unfold sout0_B_0
  rw [View.read_writes_junk_eq_canon]
  exact B.acc_all (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13) y

/-- The accumulator after a last point of a run. -/
theorem sout_C (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S8x16x512 .f32) (harg5 : arg5.IsWhole) (arg6 : Memref sig .tc .vmem S8x128x512 .f32) (harg6 : arg6.IsWhole) (arg7 : Memref sig .tc .vmem S8x1x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x512 .bf16) (harg13 : arg13.IsWhole) (hc0 : ¬cond0_0 i) (hc1 : cond0_1 i)
    (x0 : Vec Ideal S1024x512 .bf16) (x1 : Vec Ideal S2048x1024 .bf16) (x2 : Vec Ideal S2048x1024 .bf16) (x3 : Vec Ideal S8x16x512 .f32) (x4 : Vec Ideal S8x128x512 .f32) (x5 : Vec Ideal S8x1x512 .f32) (x6 : Vec Ideal S512x1024 .f32) (x7 : Vec Ideal S1x1024 .f32) (xs0 : Vec Ideal S512x1024 .f32) (y : S512x1024.Idx) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = accB x0 x1 x2 x3 x4 x5 xs0 8 y := by
  unfold sout0_C_0
  rw [View.read_writes_junk_eq_canon]
  exact C.acc_all (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13) y

/-- The output's block after the last point of a run: the residual plus the accumulator, normalised. -/
theorem out_C (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S8x16x512 .f32) (harg5 : arg5.IsWhole) (arg6 : Memref sig .tc .vmem S8x128x512 .f32) (harg6 : arg6.IsWhole) (arg7 : Memref sig .tc .vmem S8x1x512 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x512 .bf16) (harg13 : arg13.IsWhole) (hc0 : ¬cond0_0 i) (hc1 : cond0_1 i)
    (x0 : Vec Ideal S1024x512 .bf16) (x1 : Vec Ideal S2048x1024 .bf16) (x2 : Vec Ideal S2048x1024 .bf16) (x3 : Vec Ideal S8x16x512 .f32) (x4 : Vec Ideal S8x128x512 .f32) (x5 : Vec Ideal S8x1x512 .f32) (x6 : Vec Ideal S512x1024 .f32) (x7 : Vec Ideal S1x1024 .f32) (xs0 : Vec Ideal S512x1024 .f32) (i' : Fin 512) (d : Fin 1024) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 (ix2 i' d) = nrm (fun e => x6 (ix2 i' e) + accB x0 x1 x2 x3 x4 x5 xs0 8 (ix2 i' e)) (fun e => x7 (ix2 (0 : Fin 1) e)) d := by
  unfold out0_C_8
  rw [View.read_writes_junk_eq_canon]
  have r : ∀ y : S512x1024.Idx, kernelRun0_C.sl.v7847 (F := Ideal) c arg2 harg2 arg3 harg3 arg4 harg4 arg5 harg5 arg6 harg6 arg7 harg7 arg11 harg11 arg12 arg13 x0 x1 x2 x3 x4 x5 xs0 y
      = accB x0 x1 x2 x3 x4 x5 xs0 8 y := fun y => by
    unfold kernelRun0_C.sl.v7847
    rw [View.readCov_eq_canon']
    exact (congrArg _ (whole_idx y)).trans (C.acc_all (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg11 := arg11) (harg11 := harg11) (arg12 := arg12) (arg13 := arg13) y)
  have e : ∀ j : S512x1024.Idx, View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 (wholeR.emb j)
      = k0_pay548 (F := Ideal) (View.readAt (Elt Ideal) arg8.view wholeR.toLoadRect (harg8.unread x6)) (kernelRun0_C.sl.v7847 (F := Ideal) c arg2 harg2 arg3 harg3 arg4 harg4 arg5 harg5 arg6 harg6 arg7 harg7 arg11 harg11 arg12 arg13 x0 x1 x2 x3 x4 x5 xs0)
        (View.readAt (Elt Ideal) arg9.view (Rect.unit (s := S1x1024) ![0, 0] S1x1024.size inb_S1x1024_S1x1024_0_0).toLoadRect (harg9.unread x7)) j :=
    fun j => View.canon_cons_emb (Val := Elt Ideal) wholeR _ [] j
  refine (congrArg _ (whole_idx (ix2 i' d)).symm).trans ((e (ix2 i' d)).trans ?_)
  rw [pay548_at, View.readAt_eq_ld, View.readAt_eq_ld, harg8.read_unread, harg9.read_unread]
  congr 1
  · funext e'
    rw [r]
    exact congrArg (x6 · + _) (whole_idx _)
  · funext e'
    refine congrArg x7 (funext fun a => Fin.ext ?_)
    fin_cases a
    · rfl
    · show 0 + 1 * e'.val = e'.val
      omega

end Cert.Proof.Ex

end
-- ==== Proof.Ex.Spec.lean ====
/-
  The experts' result as a function of the call's arguments: every expert's gated activation times its output row, summed
  onto the residual, and the sum normalised.
-/
module

public import proofs.«01_k».proof.Proof.Ex.Tiles

@[expose] public section

noncomputable section

namespace Cert.Proof.Ex

open Idealize.ShloMosaic
open scoped BigOperators

variable (n : Fin 1024 → Fin 16384 → EReal) (u v : Fin 16384 → Fin 1024 → EReal) (a b : Fin 8 → Fin 128 → Fin 16384 → EReal)
  (t : Fin 8 → Fin 16384 → EReal) (h : Fin 16384 → Fin 1024 → EReal) (g : Fin 1024 → EReal)

/-- The gated activation of expert `e` on token `q`. -/
def expW (e q : Fin 16384) : EReal :=
  gate (fun i => a i (⟨e.val / 128, by omega⟩ : Fin 128) q) (fun i => b i (⟨e.val % 128, Nat.mod_lt _ (by decide)⟩ : Fin 128) q) (fun i => t i q)
    * act (fun k => u e k) (fun k => n k q)

/-- The experts' output of token `q`. -/
def expY (q : Fin 16384) (d : Fin 1024) : EReal := ∑ e : Fin 16384, expW n u a b t e q * v e d

/-- It and the residual, normalised. -/
def expO (q : Fin 16384) (d : Fin 1024) : EReal := nrm (fun e => h q e + expY n u v a b t q e) g d

/-- One expert's share, its place and the token's as numbers. -/
def gterm (e q : ℕ) (d : Fin 1024) : EReal :=
  if hh : e < 16384 ∧ q < 16384 then expW n u a b t ⟨e, hh.1⟩ ⟨q, hh.2⟩ * v ⟨e, hh.1⟩ d else 0

/-- The shares of all experts make the output. -/
theorem gterm_all (q : Fin 16384) (d : Fin 1024) : ∑ e ∈ Finset.range 16384, gterm n u v a b t e q.val d = expY n u v a b t q d := by
  rw [Finset.sum_range]
  exact Finset.sum_congr rfl fun e _ => dif_pos ⟨e.isLt, q.isLt⟩

end Cert.Proof.Ex

end
-- ==== Proof.Ex.Blocks.lean ====
/-
  The experts' array at the end of its run: the accumulator after each point is the shares of the experts seen so far, and
  the last point of a run normalises the residual plus all of them.
-/
module

public import proofs.«01_k».proof.Proof.Ex.Point
public import proofs.«01_k».proof.Proof.Ex.Spec
public import proofs.«01_k».proof.Proof.Gen.Kernel4Ideal.Value
public import Idealize.ShloMosaic.Lib.Pipeline.ValueKit

@[expose] public section

set_option maxRecDepth 16384

noncomputable section

namespace Cert.Proof.Ex

open Idealize.ShloMosaic Idealize.ShloMosaic.TcCoe
open Cert.Kernel4Ideal Cert.Kernel4Ideal.Gen
open scoped BigOperators

/-- The accumulator after some tiles is what it was plus their experts' shares. -/
theorem accB_sum (x0 : Vec Ideal S1024x512 .bf16) (x1 x2 : Vec Ideal S2048x1024 .bf16) (x3 : Vec Ideal S8x16x512 .f32)
    (x4 : Vec Ideal S8x128x512 .f32) (x5 : Vec Ideal S8x1x512 .f32) (xs : S512x1024.Idx → EReal) (y : S512x1024.Idx) (n : ℕ) :
    accB x0 x1 x2 x3 x4 x5 xs n y = xs y + ∑ r ∈ Finset.range (256 * n), term x0 x1 x2 x3 x4 x5 r y := by
  induction n with
  | zero => exact (add_zero _).symm
  | succ n ih =>
    rw [Nat.mul_succ, Finset.sum_range_add, ← add_assoc, ← ih, Finset.sum_range (n := 256)]
    rfl

variable (m : (ℓ : Loc nD τ sig) → Buf (Elt Ideal) ℓ) (c : Dev nD)

/-- The blocks' places at point `t`. -/
theorem idx_at : ∀ t : Fin cfg0.N,
    cc0_transform_0 (grid0.coords t) = ![0, t.val / 8]
    ∧ cc0_transform_1 (grid0.coords t) = ![t.val % 8, 0]
    ∧ cc0_transform_2 (grid0.coords t) = ![t.val % 8, 0]
    ∧ cc0_transform_3 (grid0.coords t) = ![0, t.val % 8, t.val / 8]
    ∧ cc0_transform_4 (grid0.coords t) = ![0, 0, t.val / 8]
    ∧ cc0_transform_5 (grid0.coords t) = ![0, 0, t.val / 8]
    ∧ cc0_transform_6 (grid0.coords t) = ![t.val / 8, 0]
    ∧ cc0_transform_7 (grid0.coords t) = ![0, 0] :=
  (by decide +kernel : ∀ t : Fin grid0.N,
    cc0_transform_0 (grid0.coords t) = ![0, t.val / 8]
    ∧ cc0_transform_1 (grid0.coords t) = ![t.val % 8, 0]
    ∧ cc0_transform_2 (grid0.coords t) = ![t.val % 8, 0]
    ∧ cc0_transform_3 (grid0.coords t) = ![0, t.val % 8, t.val / 8]
    ∧ cc0_transform_4 (grid0.coords t) = ![0, 0, t.val / 8]
    ∧ cc0_transform_5 (grid0.coords t) = ![0, 0, t.val / 8]
    ∧ cc0_transform_6 (grid0.coords t) = ![t.val / 8, 0]
    ∧ cc0_transform_7 (grid0.coords t) = ![0, 0])

/-- There are 256 points. -/
theorem N_256 (t : Fin cfg0.N) : t.val < 256 := t.isLt

/-- Token `r` of the block of point `t`, -/
abbrev tok (t : Fin cfg0.N) (r : Fin 512) : Fin 16384 := ⟨512 * (t.val / 8) + r.val, by have := N_256 t; omega⟩

/-- and expert `e` of its block. -/
abbrev ex (t : Fin cfg0.N) (e : Fin 2048) : Fin 16384 := ⟨2048 * (t.val % 8) + e.val, by omega⟩

/-- The normalised residual's block, features first, -/
theorem b0_at (t : Fin cfg0.N) (k : Fin 1024) (q : Fin 512) :
    iblk (F := Ideal) m c 0 t (ix2 k q) = m ((c : Thread nD τ).loc main_arg0) (ix2 k (tok t q)) := by
  have h := (idx_at t).1
  show m ((c : Thread nD τ).loc main_arg0) ((win0_0.rect t).emb (ix2 k q)) = _
  refine congrArg (m ((c : Thread nD τ).loc main_arg0)) (funext fun a => Fin.ext ?_)
  fin_cases a
  · show cc0_transform_0 (grid0.coords t) 0 * 1024 + 1 * k.val = k.val
    rw [h]; show 0 * 1024 + 1 * k.val = _; omega
  · show cc0_transform_0 (grid0.coords t) 1 * 512 + 1 * q.val = 512 * (t.val / 8) + q.val
    rw [h]; show t.val / 8 * 512 + 1 * q.val = _; omega

/-- the experts' input rows', -/
theorem b1_at (t : Fin cfg0.N) (e : Fin 2048) (k : Fin 1024) :
    iblk (F := Ideal) m c 1 t (ix2 e k) = m ((c : Thread nD τ).loc main_arg1) (ix2 (ex t e) k) := by
  have h := (idx_at t).2.1
  show m ((c : Thread nD τ).loc main_arg1) ((win0_1.rect t).emb (ix2 e k)) = _
  refine congrArg (m ((c : Thread nD τ).loc main_arg1)) (funext fun a => Fin.ext ?_)
  fin_cases a
  · show cc0_transform_1 (grid0.coords t) 0 * 2048 + 1 * e.val = 2048 * (t.val % 8) + e.val
    rw [h]; show t.val % 8 * 2048 + 1 * e.val = _; omega
  · show cc0_transform_1 (grid0.coords t) 1 * 1024 + 1 * k.val = k.val
    rw [h]; show 0 * 1024 + 1 * k.val = _; omega

/-- their output rows', -/
theorem b2_at (t : Fin cfg0.N) (e : Fin 2048) (k : Fin 1024) :
    iblk (F := Ideal) m c 2 t (ix2 e k) = m ((c : Thread nD τ).loc main_arg2) (ix2 (ex t e) k) := by
  have h := (idx_at t).2.2.1
  show m ((c : Thread nD τ).loc main_arg2) ((win0_2.rect t).emb (ix2 e k)) = _
  refine congrArg (m ((c : Thread nD τ).loc main_arg2)) (funext fun a => Fin.ext ?_)
  fin_cases a
  · show cc0_transform_2 (grid0.coords t) 0 * 2048 + 1 * e.val = 2048 * (t.val % 8) + e.val
    rw [h]; show t.val % 8 * 2048 + 1 * e.val = _; omega
  · show cc0_transform_2 (grid0.coords t) 1 * 1024 + 1 * k.val = k.val
    rw [h]; show 0 * 1024 + 1 * k.val = _; omega

/-- the first halves' scores', -/
theorem b3_at (t : Fin cfg0.N) (i : Fin 8) (e : Fin 16) (q : Fin 512) :
    iblk (F := Ideal) m c 3 t (ix3 i e q) = m ((c : Thread nD τ).loc main_arg3) (ix3 i (⟨16 * (t.val % 8) + e.val, by omega⟩ : Fin 128) (tok t q)) := by
  have h := (idx_at t).2.2.2.1
  show m ((c : Thread nD τ).loc main_arg3) ((win0_3.rect t).emb (ix3 i e q)) = _
  refine congrArg (m ((c : Thread nD τ).loc main_arg3)) (funext fun a => Fin.ext ?_)
  fin_cases a
  · show cc0_transform_3 (grid0.coords t) 0 * 8 + 1 * i.val = i.val
    rw [h]; show 0 * 8 + 1 * i.val = _; omega
  · show cc0_transform_3 (grid0.coords t) 1 * 16 + 1 * e.val = 16 * (t.val % 8) + e.val
    rw [h]; show t.val % 8 * 16 + 1 * e.val = _; omega
  · show cc0_transform_3 (grid0.coords t) 2 * 512 + 1 * q.val = 512 * (t.val / 8) + q.val
    rw [h]; show t.val / 8 * 512 + 1 * q.val = _; omega

/-- the second halves', -/
theorem b4_at (t : Fin cfg0.N) (i : Fin 8) (e : Fin 128) (q : Fin 512) :
    iblk (F := Ideal) m c 4 t (ix3 i e q) = m ((c : Thread nD τ).loc main_arg4) (ix3 i e (tok t q)) := by
  have h := (idx_at t).2.2.2.2.1
  show m ((c : Thread nD τ).loc main_arg4) ((win0_4.rect t).emb (ix3 i e q)) = _
  refine congrArg (m ((c : Thread nD τ).loc main_arg4)) (funext fun a => Fin.ext ?_)
  fin_cases a
  · show cc0_transform_4 (grid0.coords t) 0 * 8 + 1 * i.val = i.val
    rw [h]; show 0 * 8 + 1 * i.val = _; omega
  · show cc0_transform_4 (grid0.coords t) 1 * 128 + 1 * e.val = e.val
    rw [h]; show 0 * 128 + 1 * e.val = _; omega
  · show cc0_transform_4 (grid0.coords t) 2 * 512 + 1 * q.val = 512 * (t.val / 8) + q.val
    rw [h]; show t.val / 8 * 512 + 1 * q.val = _; omega

/-- the thresholds', -/
theorem b5_at (t : Fin cfg0.N) (i : Fin 8) (e : Fin 1) (q : Fin 512) :
    iblk (F := Ideal) m c 5 t (ix3 i e q) = m ((c : Thread nD τ).loc main_arg5) (ix3 i e (tok t q)) := by
  have h := (idx_at t).2.2.2.2.2.1
  show m ((c : Thread nD τ).loc main_arg5) ((win0_5.rect t).emb (ix3 i e q)) = _
  refine congrArg (m ((c : Thread nD τ).loc main_arg5)) (funext fun a => Fin.ext ?_)
  fin_cases a
  · show cc0_transform_5 (grid0.coords t) 0 * 8 + 1 * i.val = i.val
    rw [h]; show 0 * 8 + 1 * i.val = _; omega
  · show cc0_transform_5 (grid0.coords t) 1 * 1 + 1 * e.val = e.val
    rw [h]; show 0 * 1 + 1 * e.val = _; omega
  · show cc0_transform_5 (grid0.coords t) 2 * 512 + 1 * q.val = 512 * (t.val / 8) + q.val
    rw [h]; show t.val / 8 * 512 + 1 * q.val = _; omega

/-- the residual's -/
theorem b6_at (t : Fin cfg0.N) (q : Fin 512) (d : Fin 1024) :
    iblk (F := Ideal) m c 6 t (ix2 q d) = m ((c : Thread nD τ).loc main_arg6) (ix2 (tok t q) d) := by
  have h := (idx_at t).2.2.2.2.2.2.1
  show m ((c : Thread nD τ).loc main_arg6) ((win0_6.rect t).emb (ix2 q d)) = _
  refine congrArg (m ((c : Thread nD τ).loc main_arg6)) (funext fun a => Fin.ext ?_)
  fin_cases a
  · show cc0_transform_6 (grid0.coords t) 0 * 512 + 1 * q.val = 512 * (t.val / 8) + q.val
    rw [h]; show t.val / 8 * 512 + 1 * q.val = _; omega
  · show cc0_transform_6 (grid0.coords t) 1 * 1024 + 1 * d.val = d.val
    rw [h]; show 0 * 1024 + 1 * d.val = _; omega

/-- and the gains'. -/
theorem b7_at (t : Fin cfg0.N) (k : Fin 1) (d : Fin 1024) :
    iblk (F := Ideal) m c 7 t (ix2 k d) = m ((c : Thread nD τ).loc main_arg7) (ix2 k d) := by
  have h := (idx_at t).2.2.2.2.2.2.2
  show m ((c : Thread nD τ).loc main_arg7) ((win0_7.rect t).emb (ix2 k d)) = _
  refine congrArg (m ((c : Thread nD τ).loc main_arg7)) (funext fun a => Fin.ext ?_)
  fin_cases a
  · show cc0_transform_7 (grid0.coords t) 0 * 1 + 1 * k.val = k.val
    rw [h]; show 0 * 1 + 1 * k.val = _; omega
  · show cc0_transform_7 (grid0.coords t) 1 * 1024 + 1 * d.val = d.val
    rw [h]; show 0 * 1024 + 1 * d.val = _; omega

/-- The call's arguments, by entry. -/
abbrev aN : Fin 1024 → Fin 16384 → EReal := fun k q => m ((c : Thread nD τ).loc main_arg0) (ix2 k q)
abbrev aU : Fin 16384 → Fin 1024 → EReal := fun e k => m ((c : Thread nD τ).loc main_arg1) (ix2 e k)
abbrev aV : Fin 16384 → Fin 1024 → EReal := fun e k => m ((c : Thread nD τ).loc main_arg2) (ix2 e k)
abbrev aA : Fin 8 → Fin 128 → Fin 16384 → EReal := fun i e q => m ((c : Thread nD τ).loc main_arg3) (ix3 i e q)
abbrev aB : Fin 8 → Fin 128 → Fin 16384 → EReal := fun i e q => m ((c : Thread nD τ).loc main_arg4) (ix3 i e q)
abbrev aT : Fin 8 → Fin 16384 → EReal := fun i q => m ((c : Thread nD τ).loc main_arg5) (ix3 i (0 : Fin 1) q)
abbrev aH : Fin 16384 → Fin 1024 → EReal := fun q d => m ((c : Thread nD τ).loc main_arg6) (ix2 q d)
abbrev aG : Fin 1024 → EReal := fun d => m ((c : Thread nD τ).loc main_arg7) (ix2 (0 : Fin 1) d)

/-- One expert's share of the arguments. -/
abbrev sh (e q : ℕ) (d : Fin 1024) : EReal := gterm (aN m c) (aU m c) (aV m c) (aA m c) (aB m c) (aT m c) e q d

/-- A block's gated activation is its expert's on its token. -/
theorem actW_blk (t : Fin cfg0.N) (e : Fin 2048) (q : Fin 512) :
    actW (iblk (F := Ideal) m c 0 t) (iblk (F := Ideal) m c 1 t) (iblk (F := Ideal) m c 3 t) (iblk (F := Ideal) m c 4 t) (iblk (F := Ideal) m c 5 t) (ix2 e q)
      = expW (aN m c) (aU m c) (aA m c) (aB m c) (aT m c) (ex t e) (tok t q) := by
  have he := e.isLt
  have e1 : (⟨16 * (t.val % 8) + e.val / 128, by omega⟩ : Fin 128) = ⟨(ex t e).val / 128, by omega⟩ :=
    Fin.ext (by show 16 * (t.val % 8) + e.val / 128 = (2048 * (t.val % 8) + e.val) / 128; omega)
  have e2 : (⟨e.val % 128, Nat.mod_lt _ (by decide)⟩ : Fin 128) = ⟨(ex t e).val % 128, Nat.mod_lt _ (by decide)⟩ :=
    Fin.ext (by show e.val % 128 = (2048 * (t.val % 8) + e.val) % 128; omega)
  unfold actW gateB actB expW
  congr 1
  · congr 1
    · funext i
      exact (b3_at m c t i ⟨e.val / 128, by omega⟩ q).trans (congrArg (fun z => aA m c i z (tok t q)) e1)
    · funext i
      exact (b4_at m c t i ⟨e.val % 128, Nat.mod_lt _ (by decide)⟩ q).trans (congrArg (fun z => aB m c i z (tok t q)) e2)
    · funext i
      exact b5_at m c t i 0 q
  · congr 1
    · funext k
      exact b1_at m c t e k
    · funext k
      exact b0_at m c t k q

/-- A block's shares are its experts'. -/
theorem term_blk (t : Fin cfg0.N) (r : ℕ) (hr : r < 2048) (q : Fin 512) (d : Fin 1024) :
    term (iblk (F := Ideal) m c 0 t) (iblk (F := Ideal) m c 1 t) (iblk (F := Ideal) m c 2 t) (iblk (F := Ideal) m c 3 t) (iblk (F := Ideal) m c 4 t) (iblk (F := Ideal) m c 5 t) r (ix2 q d)
      = sh m c (2048 * (t.val % 8) + r) (512 * (t.val / 8) + q.val) d := by
  unfold term sh gterm
  rw [dif_pos hr, dif_pos ⟨(ex t ⟨r, hr⟩).isLt, (tok t q).isLt⟩]
  exact congrArg₂ (· * ·) (actW_blk m c t ⟨r, hr⟩ q) (b2_at m c t ⟨r, hr⟩ d)

/-- A point adds its block's experts' shares. -/
theorem acc_blk (t : Fin cfg0.N) (xs : S512x1024.Idx → EReal) (q : Fin 512) (d : Fin 1024) :
    accB (iblk (F := Ideal) m c 0 t) (iblk (F := Ideal) m c 1 t) (iblk (F := Ideal) m c 2 t) (iblk (F := Ideal) m c 3 t) (iblk (F := Ideal) m c 4 t) (iblk (F := Ideal) m c 5 t) xs 8 (ix2 q d)
      = xs (ix2 q d) + ∑ r ∈ Finset.range 2048, sh m c (2048 * (t.val % 8) + r) (512 * (t.val / 8) + q.val) d :=
  (accB_sum _ _ _ _ _ _ xs (ix2 q d) 8).trans (congrArg (xs (ix2 q d) + ·)
    (Finset.sum_congr rfl fun r hr => term_blk m c t r (Finset.mem_range.1 hr) q d))

/-- The accumulator after a first point of a run, -/
theorem acc_first (t : Fin cfg0.N) (h0 : t.val % 8 = 0) (q : Fin 512) (d : Fin 1024) :
    (outsAt0 (F := Ideal) m c t.val t.isLt).2 (ix2 q d)
      = 0 + ∑ r ∈ Finset.range 2048, sh m c (2048 * (t.val % 8) + r) (512 * (t.val / 8) + q.val) d := by
  rw [outsAt0_A m c t h0 (by omega)]
  dsimp only
  rw [sout_A]
  exact acc_blk m c t _ q d

/-- and after any other. -/
theorem acc_next (t : Fin cfg0.N) (h0 : ¬t.val % 8 = 0) (q : Fin 512) (d : Fin 1024) :
    (outsAt0 (F := Ideal) m c t.val t.isLt).2 (ix2 q d)
      = (outsAt0 (F := Ideal) m c (t.val - 1) (Nat.lt_of_le_of_lt (Nat.sub_le _ _) t.isLt)).2 (ix2 q d)
        + ∑ r ∈ Finset.range 2048, sh m c (2048 * (t.val % 8) + r) (512 * (t.val / 8) + q.val) d := by
  by_cases h1 : t.val % 8 = 7
  · rw [outsAt0_C m c t h0 h1]
    dsimp only
    rw [sout_C]
    exact acc_blk m c t _ q d
  · rw [outsAt0_B m c t h0 h1]
    dsimp only
    rw [sout_B]
    exact acc_blk m c t _ q d

/-- The accumulator after a point: the shares of the experts of its run so far. -/
theorem acc_at (q : Fin 512) (d : Fin 1024) : ∀ (n : ℕ) (hn : n < cfg0.N),
    (outsAt0 (F := Ideal) m c n hn).2 (ix2 q d) = ∑ e ∈ Finset.range (2048 * (n % 8 + 1)), sh m c e (512 * (n / 8) + q.val) d := by
  intro n
  induction n with
  | zero =>
    intro hn
    refine (acc_first m c ⟨0, hn⟩ rfl q d).trans ((zero_add _).trans ?_)
    exact Finset.sum_congr rfl fun r _ => congrArg (fun z => sh m c z (512 * (0 / 8) + q.val) d) (by show 2048 * (0 % 8) + r = r; omega)
  | succ n ih =>
    intro hn
    by_cases h0 : (n + 1) % 8 = 0
    · refine (acc_first m c ⟨n + 1, hn⟩ h0 q d).trans ((zero_add _).trans ?_)
      rw [show 2048 * ((n + 1) % 8 + 1) = 2048 from by omega]
      exact Finset.sum_congr rfl fun r _ => congrArg (fun z => sh m c z (512 * ((n + 1) / 8) + q.val) d) (by show 2048 * ((n + 1) % 8) + r = r; omega)
    · refine (acc_next m c ⟨n + 1, hn⟩ h0 q d).trans ?_
      refine (congrArg (· + _) (ih (by omega))).trans ?_
      rw [show 2048 * ((n + 1) % 8 + 1) = 2048 * ((n + 1) % 8) + 2048 from by omega, Finset.sum_range_add,
        show n % 8 + 1 = (n + 1) % 8 from by omega, show n / 8 = (n + 1) / 8 from by omega]

/-- The experts' result, the whole array. -/
def outM : S16384x1024.Idx → EReal := fun i =>
  expO (aN m c) (aU m c) (aV m c) (aA m c) (aB m c) (aT m c) (aH m c) (aG m c) (i 0) (i 1)

/-- The block the last point of a run leaves. -/
theorem out_at (t : Fin cfg0.N) (h1 : t.val % 8 = 7) (q : Fin 512) (d : Fin 1024) :
    (outsAt0 (F := Ideal) m c t.val t.isLt).1 (ix2 q d) = outM m c (ix2 (tok t q) d) := by
  have h0 : ¬t.val % 8 = 0 := by omega
  have e : ∀ d' : Fin 1024, accB (iblk (F := Ideal) m c 0 t) (iblk (F := Ideal) m c 1 t) (iblk (F := Ideal) m c 2 t) (iblk (F := Ideal) m c 3 t) (iblk (F := Ideal) m c 4 t) (iblk (F := Ideal) m c 5 t)
      (outsAt0 (F := Ideal) m c (t.val - 1) (Nat.lt_of_le_of_lt (Nat.sub_le _ _) t.isLt)).2 8 (ix2 q d')
      = expY (aN m c) (aU m c) (aV m c) (aA m c) (aB m c) (aT m c) (tok t q) d' := fun d' =>
    (acc_blk m c t _ q d').trans ((acc_next m c t h0 q d').symm.trans ((acc_at m c q d' t.val t.isLt).trans (by
      rw [h1]
      exact gterm_all _ _ _ _ _ _ (tok t q) d')))
  rw [outsAt0_C m c t h0 h1]
  have r : outM m c (ix2 (tok t q) d) = nrm (fun d' => aH m c (tok t q) d' + expY (aN m c) (aU m c) (aV m c) (aA m c) (aB m c) (aT m c) (tok t q) d') (aG m c) d := rfl
  dsimp only
  rw [out_C, r]
  congr 1
  · funext d'
    exact congrArg₂ (· + ·) (b6_at m c t q d') (e d')
  · funext d'
    exact b7_at m c t 0 d'

/-- The array's entry is read from the last point of its run. -/
theorem out_of (i : S16384x1024.Idx) (n : ℕ) (hn : n < cfg0.N) (h : n = 8 * ((i 0).val / 512) + 7) :
    (outsAt0 (F := Ideal) m c n hn).1 (ix2 (⟨(i 0).val % 512, Nat.mod_lt _ (by decide)⟩ : Fin 512) (⟨(i 1).val % 1024, Nat.mod_lt _ (by decide)⟩ : Fin 1024))
      = outM m c i := by
  have hi1 : (i 1).val < 1024 := (i 1).isLt
  refine (out_at m c ⟨n, hn⟩ (by show n % 8 = 7; omega) _ _).trans (congrArg (outM m c) (funext fun a => Fin.ext ?_))
  fin_cases a
  · show 512 * (n / 8) + (i 0).val % 512 = (i 0).val
    omega
  · show (i 1).val % 1024 = (i 1).val
    omega

/-- The array ends as the experts' result. -/
theorem final : Cert.Kernel4Ideal.Value.G8 (F := Ideal) m c = outM m c := by
  funext i
  have hi0 : (i 0).val < 16384 := (i 0).isLt
  have hi1 : (i 1).val < 1024 := (i 1).isLt
  have hp : Cert.Kernel4Ideal.Value.pt8Of i = 8 * ((i 0).val / 512) + 7 := by
    show 8 * (1 * ((i 0).val / 512 - 0) + 1 * ((i 1).val / 1024 - 0)) + 7 = _
    omega
  have hN : Cert.Kernel4Ideal.Value.pt8Of i < cfg0.N := by
    rw [hp]; show _ < 256; omega
  have hl : Cert.Kernel4Ideal.Value.loc8Of i = ix2 (⟨(i 0).val % 512, Nat.mod_lt _ (by decide)⟩ : Fin 512) (⟨(i 1).val % 1024, Nat.mod_lt _ (by decide)⟩ : Fin 1024) := by
    funext a
    fin_cases a <;> rfl
  have h := out_of m c i _ hN hp
  unfold Cert.Kernel4Ideal.Value.G8
  rw [dif_pos hN, ← Cert.Kernel4Ideal.Value.outsAt0_sweep m c _ hN, hl]
  exact h

end Cert.Proof.Ex

end
-- ==== Proof.Ex.Ref.lean ====
/-
  The experts' reference at an entry: the chosen pairs' gates, the activations, and the normalised residual.
-/
module

public import proofs.«01_k».proof.Proof.Ex.Spec
public import proofs.«01_k».proof.Proof.Gen.Reference4Ideal.Run
public import proofs.«01_k».proof.Proof.Gen.Reference4Ideal.Read

@[expose] public section

set_option maxRecDepth 16384

noncomputable section

namespace Cert.Proof.Ex

open Idealize.ShloMosaic
open Cert.Reference4Ideal Cert.Reference4Ideal.Gen Cert.Reference4Ideal.Read
open scoped BigOperators

/-- Two to a power is the power of two. -/
theorem pow_two (x : EReal) : Ideal.pow (Ideal.ofBits .f32 0x40000000#32) x = Ideal.exp2 x := by
  have h : Ideal.ofBits .f32 0x40000000#32 = ((2 : ℝ) : EReal) := by
    simp [Ideal.ofBits, Ideal.ieee, -EReal.coe_mul]; norm_num
  rw [h]
  induction x with
  | bot =>
    show (if (2 : ℝ) < 0 then (⊥ : EReal) else if (1 : ℝ) < 2 then 0 else if (2 : ℝ) = 1 then 1 else ⊤) = 0
    rw [if_neg (by norm_num), if_pos (by norm_num)]
  | top =>
    show (if (2 : ℝ) < 0 then (⊥ : EReal) else if (1 : ℝ) < 2 then ⊤ else if (2 : ℝ) = 1 then 1 else 0) = ⊤
    rw [if_neg (by norm_num), if_pos (by norm_num)]
  | coe r => rfl

variable (x0 : FVec Ideal S1024x16384 .bf16) (x1 x2 : FVec Ideal S16384x1024 .bf16) (x3 x4 : FVec Ideal S8x128x16384 .f32)
  (x5 : FVec Ideal S8x1x16384 .f32) (x6 : FVec Ideal S16384x1024 .f32) (x7 : FVec Ideal S1x1024 .f32)

/-- The activation of expert `e` on token `q`. -/
theorem ref_act (q e : Fin 16384) :
    val_main_v12 (F := Ideal) x0 x1 (ix2 q e) = act (fun k => x1 (ix2 e k)) (fun k => x0 (ix2 k q)) := by
  have h : val_main_v4 (F := Ideal) x0 x1 (ix2 q e) = ∑ k : Fin 1024, x1 (ix2 e k) * x0 (ix2 k q) := by
    have h' : val_main_v4 (F := Ideal) x0 x1 (ix2 q e) = ∑ k : Fin 1024, x0 (ix2 k q) * x1 (ix2 e k) := by
      pointwise [val_main_v4, val_main_v3, val_main_v2, val_main_v1, val_main_v0]
    exact h'.trans (Finset.sum_congr rfl fun k _ => mul_comm _ _)
  unfold act
  rw [← h]
  pointwise [val_main_v12, val_main_v11, val_main_v10, val_main_v9, val_main_v8, val_main_v7, val_main_v6, val_main_v5,
    val_main_cst, val_main_cst_0, val_main_cst_1]
  rfl

/-- One head's gate of a pair on token `q`. -/
theorem ref_wgt (i : Fin 8) (a b : Fin 128) (q : Fin 16384) (y : S8x128x128x16384.Idx) (h0 : (y 0).val = i.val) (h1 : (y 1).val = a.val)
    (h2 : (y 2).val = b.val) (h3 : (y 3).val = q.val) :
    val_main_v23 (F := Ideal) x3 x4 x5 y = wgt (x3 (ix3 i a q)) (x4 (ix3 i b q)) (x5 (ix3 i (0 : Fin 1) q)) := by
  have hs : val_main_v17 (F := Ideal) x3 x4 y = x3 (ix3 i a q) + x4 (ix3 i b q) := by
    rw [val_main_v17_apply, val_main_v15_apply, val_main_v16_apply, val_main_v13_apply, val_main_v14_apply]
    refine congrArg₂ (fun u v => x3 u + x4 v) (funext fun c => Fin.ext ?_) (funext fun c => Fin.ext ?_)
    · fin_cases c
      · exact h0
      · exact h1
      · exact h3
    · fin_cases c
      · exact h0
      · exact h2
      · exact h3
  have ht : val_main_v19 (F := Ideal) x5 y = x5 (ix3 i (0 : Fin 1) q) := by
    rw [val_main_v19_apply, val_main_v18_apply]
    refine congrArg x5 (funext fun c => Fin.ext ?_)
    fin_cases c
    · exact h0
    · rfl
    · exact h3
  have hp : val_main_v22 (F := Ideal) x3 x4 y = Ideal.exp2 (x3 (ix3 i a q) + x4 (ix3 i b q)) := by
    rw [val_main_v22_apply, hs, val_main_v21_apply, val_main_cst_2_apply]
    exact pow_two _
  have hz : val_main_call0_v1 (F := Ideal) y = 0 := by
    rw [val_main_call0_v1_apply]
    rw [val_main_call0_v0_apply, val_main_cst_3_apply]
    exact Ideal.ofBits_zero_f32
  rw [val_main_v23_apply, val_main_v20_apply, hs, ht, hp, hz]
  unfold wgt
  show Scalar.select (Ideal.cmp .oge (x3 (ix3 i a q) + x4 (ix3 i b q)) (x5 (ix3 i (0 : Fin 1) q))) (Ideal.exp2 (x3 (ix3 i a q) + x4 (ix3 i b q))) (0 : EReal) = _
  by_cases h : x5 (ix3 i (0 : Fin 1) q) ≤ x3 (ix3 i a q) + x4 (ix3 i b q) <;> simp [Ideal.cmp, Scalar.select, h]

/-- The gate of expert `e` on token `q`. -/
theorem ref_gate (q e : Fin 16384) :
    val_main_v26 (F := Ideal) x3 x4 x5 (ix2 q e)
      = gate (fun i => x3 (ix3 i (⟨e.val / 128, by omega⟩ : Fin 128) q)) (fun i => x4 (ix3 i (⟨e.val % 128, Nat.mod_lt _ (by decide)⟩ : Fin 128) q))
          (fun i => x5 (ix3 i (0 : Fin 1) q)) := by
  have hz : val_main_cst_4 (F := Ideal) (Shape.Idx.first h_S_) = 0 := by
    pointwise [val_main_cst_4]
  rw [val_main_v26_apply, val_main_v25_apply, val_main_v24_apply, hz, zero_add]
  have hq := q.isLt
  have he := e.isLt
  refine Finset.sum_congr rfl fun i _ => ref_wgt x3 x4 x5 i ⟨e.val / 128, by omega⟩ ⟨e.val % 128, Nat.mod_lt _ (by decide)⟩ q _ rfl ?_ ?_ ?_
  · show (e.val * 16384 + q.val) / 2097152 = e.val / 128
    omega
  · show (e.val * 16384 + q.val) / 16384 % 128 = e.val % 128
    omega
  · show (e.val * 16384 + q.val) % 16384 = q.val
    omega

/-- The call's result of its arguments. -/
def outOf : S16384x1024.Idx → EReal := fun i =>
  expO (fun k q => x0 (ix2 k q)) (fun e k => x1 (ix2 e k)) (fun e k => x2 (ix2 e k)) (fun i e q => x3 (ix3 i e q)) (fun i e q => x4 (ix3 i e q))
    (fun i q => x5 (ix3 i (0 : Fin 1) q)) (fun q d => x6 (ix2 q d)) (fun d => x7 (ix2 (0 : Fin 1) d)) (i 0) (i 1)

/-- The residual plus the experts' output. -/
theorem ref_res (q : Fin 16384) (d : Fin 1024) :
    val_main_v30 (F := Ideal) x0 x1 x2 x3 x4 x5 x6 (ix2 q d)
      = x6 (ix2 q d) + expY (fun k q => x0 (ix2 k q)) (fun e k => x1 (ix2 e k)) (fun e k => x2 (ix2 e k)) (fun i e q => x3 (ix3 i e q))
          (fun i e q => x4 (ix3 i e q)) (fun i q => x5 (ix3 i (0 : Fin 1) q)) q d := by
  rw [val_main_v30_apply, val_main_v29_apply]
  refine congrArg (x6 (ix2 q d) + ·) (Finset.sum_congr rfl fun e _ => ?_)
  have hl : lidx_main_v29 (ix2 q d) e = ix2 q e := by
    funext c
    fin_cases c <;> rfl
  have hr : ridx_main_v29 (ix2 q d) e = ix2 e d := by
    funext c
    fin_cases c <;> rfl
  rw [hl, hr, val_main_v27_apply, val_main_v28_apply, ref_gate, ref_act]
  rfl

/-- The normalisation of that. -/
theorem ref_norm (q : Fin 16384) (d : Fin 1024) :
    val_main_v42 (F := Ideal) x0 x1 x2 x3 x4 x5 x6 x7 (ix2 q d)
      = nrm (fun e => val_main_v30 (F := Ideal) x0 x1 x2 x3 x4 x5 x6 (ix2 q e)) (fun e => x7 (ix2 (0 : Fin 1) e)) d := by
  pointwise [val_main_v42, val_main_v41, val_main_v40, val_main_v39, val_main_v38, val_main_v37, val_main_v36, val_main_v35,
    val_main_v34, val_main_v33, val_main_v32, val_main_v31, val_main_cst_5, val_main_cst_6, val_main_cst_7]
  rfl

/-- The reference's result is that function of its arguments. -/
theorem ref : val_main_v42 (F := Ideal) x0 x1 x2 x3 x4 x5 x6 x7 = outOf x0 x1 x2 x3 x4 x5 x6 x7 := by
  funext i
  obtain ⟨q, d, rfl⟩ : ∃ (q : Fin 16384) (d : Fin 1024), i = ix2 q d := ⟨i 0, i 1, eq_ix2 i⟩
  have r : outOf x0 x1 x2 x3 x4 x5 x6 x7 (ix2 q d)
      = nrm (fun e => x6 (ix2 q e) + expY (fun k q => x0 (ix2 k q)) (fun e k => x1 (ix2 e k)) (fun e k => x2 (ix2 e k)) (fun i e q => x3 (ix3 i e q)) (fun i e q => x4 (ix3 i e q)) (fun i q => x5 (ix3 i (0 : Fin 1) q)) q e)
          (fun e => x7 (ix2 (0 : Fin 1) e)) d := rfl
  rw [ref_norm, r]
  exact congrArg (fun f => nrm f (fun e => x7 (ix2 (0 : Fin 1) e)) d) (funext fun e => ref_res x0 x1 x2 x3 x4 x5 x6 q e)

end Cert.Proof.Ex

end
-- ==== Proof.Ex.Algebraic.lean ====
/-
  The experts' claims: the frames, and that over the extended reals the result is the reference's.
-/
module

public import proofs.«01_k».proof.Defs
public import proofs.«01_k».proof.Proof.Gen.Kernel4.Frame
public import proofs.«01_k».proof.Proof.Ex.Blocks
public import proofs.«01_k».proof.Proof.Ex.Ref
public import Idealize.ShloMosaic.Lib.Quiescent

@[expose] public section

set_option maxRecDepth 16384

noncomputable section

namespace Cert.Proof.Ex

open Idealize.ShloMosaic Idealize.ShloMosaic.TcCoe Idealize.SL.Sem

/-- The kernel as measured ends with its arguments unchanged and its counters at zero. -/
theorem frame_p : Cert.quiescent_Kernel4 := fun m ρ _ => Cert.Kernel4.Gen.frame (F := Bits) m ρ

/-- So does the kernel over the extended reals, -/
theorem frame_pi : Cert.quiescent_Kernel4Ideal := fun m ρ _ => Cert.Kernel4Ideal.Gen.frame (F := Ideal) m ρ

/-- and the reference. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

section

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD)

/-- The results of the same arguments are the same. -/
theorem out_eq
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    outOf (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) = outM m c := by
  rw [h0, h1, h2, h3, h4, h5, h6, h7]
  rfl

end

/-- The kernel's result is the reference's. -/
theorem algebraic : Cert.algebraic_Kernel4Ideal_Reference4Ideal
    (hKernel4Ideal := Cert.Kernel4Ideal.Gen.facts) (hReference4Ideal := Cert.Reference4Ideal.Gen.facts) := by
  intro m g m' g' _ hagree
  refine ⟨fun c => outM m c, ?_, ?_⟩
  · refine (θ_run Cert.Kernel4Ideal.defs _ _).mono (fun _ h c => ?_) (Cert.Kernel4Ideal.Value.run (F := Ideal) m g)
    obtain ⟨a0, a⟩ := h c
    exact ⟨a0.trans (final m c), a⟩
  · refine (θ_run Cert.Reference4Ideal.defs _ _).mono (fun _ h c => ?_) (Cert.Reference4Ideal.Value.run (F := Ideal) m' g')
    obtain ⟨h0, h1, h2, h3, h4, h5, h6, h7⟩ := hagree c
    obtain ⟨a0, a⟩ := h c
    refine ⟨a0.trans ?_, a⟩
    exact ((Cert.Reference4Ideal.Read.val_main_v42_eq (F := Ideal) _ _).trans (ref _ _ _ _ _ _ _ _)).trans (out_eq m m' c h0 h1 h2 h3 h4 h5 h6 h7)

end Cert.Proof.Ex

end
-- ==== Proof.Ml.Frames.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame

/-! The chunked mixer's call runs to its end: its frames, at the bits and over the extended reals. -/

@[expose] public section

noncomputable section

namespace Cert.Proof.Ml

open Idealize.ShloMosaic Idealize.SL.Sem

/-- At the bits the mixer's call ends, leaves its arguments as they were and every counter at zero. -/
theorem frame_p : Cert.quiescent_Kernel5 := fun m ρ _ => Cert.Kernel5.Gen.frame (F := Bits) m ρ

/-- Over the extended reals the mixer's call ends, leaves its arguments as they were and every counter at zero. -/
theorem frame_pi : Cert.quiescent_Kernel5Ideal := fun m ρ _ => Cert.Kernel5Ideal.Gen.frame (F := Ideal) m ρ

end Cert.Proof.Ml

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Val.Algebraic
public import proofs.«01_k».proof.Proof.In.Algebraic
public import proofs.«01_k».proof.Proof.Ot.Algebraic
public import proofs.«01_k».proof.Proof.Ex.Algebraic
public import proofs.«01_k».proof.Proof.Ml.Frames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts,
  frame_p, frame_pi, frame_ri, In.frame_p, In.frame_pi, In.frame_ri, Ot.frame_p, Ot.frame_pi, Ot.frame_ri,
  Ex.frame_p, Ex.frame_pi, Ex.frame_ri, Ml.frame_p, Ml.frame_pi,
  preserves, algebraic, trivial, In.algebraic, trivial, Ot.algebraic, trivial, Ex.algebraic, trivial⟩

end Cert.Proof

end
